-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S4096x512 : Shape := ⟨2, ![4096, 512]⟩
abbrev S1176x512 : Shape := ⟨2, ![1176, 512]⟩
abbrev S1232x512 : Shape := ⟨2, ![1232, 512]⟩
abbrev S504x512 : Shape := ⟨2, ![504, 512]⟩
abbrev S528x512 : Shape := ⟨2, ![528, 512]⟩
abbrev S3x13 : Shape := ⟨2, ![3, 13]⟩
abbrev S_ : Shape := ⟨0, ![]⟩
abbrev S1x512 : Shape := ⟨2, ![1, 512]⟩
abbrev S512 : Shape := ⟨1, ![512]⟩
abbrev S1x1x512 : Shape := ⟨3, ![1, 1, 512]⟩
abbrev S4x3x512 : Shape := ⟨3, ![4, 3, 512]⟩
abbrev S4x1021x512 : Shape := ⟨3, ![4, 1021, 512]⟩
abbrev S4x2x512 : Shape := ⟨3, ![4, 2, 512]⟩
abbrev S4x1022x512 : Shape := ⟨3, ![4, 1022, 512]⟩
abbrev S4x1x512 : Shape := ⟨3, ![4, 1, 512]⟩
abbrev S4x1023x512 : Shape := ⟨3, ![4, 1023, 512]⟩
abbrev S1x1 : Shape := ⟨2, ![1, 1]⟩
abbrev S336x512 : Shape := ⟨2, ![336, 512]⟩
abbrev S168x512 : Shape := ⟨2, ![168, 512]⟩
abbrev S352x512 : Shape := ⟨2, ![352, 512]⟩
abbrev S176x512 : Shape := ⟨2, ![176, 512]⟩

abbrev nBuf : Space → Nat
  | .hbm => 4
  | .vmem => 11
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S4096x512, .f32⟩
  | .local _ .vmem, ⟨0, _⟩ => ⟨S4x1024x512, .f32⟩
  | .local _ .vmem, ⟨1, _⟩ => ⟨S4x512, .f32⟩
  | .local _ .vmem, ⟨2, _⟩ => ⟨S512x512, .f32⟩
  | .local _ .vmem, ⟨3, _⟩ => ⟨S4096x512, .f32⟩
  | .local _ .vmem, ⟨4, _⟩ => ⟨S4096x512, .f32⟩
  | .local _ .vmem, ⟨5, _⟩ => ⟨S1176x512, .f32⟩
  | .local _ .vmem, ⟨6, _⟩ => ⟨S1176x512, .f32⟩
  | .local _ .vmem, ⟨7, _⟩ => ⟨S1232x512, .f32⟩
  | .local _ .vmem, ⟨8, _⟩ => ⟨S504x512, .f32⟩
  | .local _ .vmem, ⟨9, _⟩ => ⟨S504x512, .f32⟩
  | .local _ .vmem, ⟨10, _⟩ => ⟨S528x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.xori v2 c1_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_11 : BitVec 32 := 1#32
  let v17 : BitVec 32 := Scalar.muli v16 c1_i32_11
  let v18 : BitVec 32 := Scalar.addi c0_i32_12 v17
  v18.toNat
def k0_off1 (d0 : Dev nD) : Fin 2 → Nat :=
  let c4_i32_27 : BitVec 32 := 4#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v40 : BitVec 32 := Scalar.subi c1_i32_26 v8
  let v41 : BitVec 32 := Scalar.muli c4_i32_27 v40
  let c2_i32_29 : BitVec 32 := 2#32
  let c1_i32_28 : BitVec 32 := 1#32
  let v42 : BitVec 32 := Scalar.subi c1_i32_28 v5
  let v43 : BitVec 32 := Scalar.muli c2_i32_29 v42
  let v44 : BitVec 32 := Scalar.addi v41 v43
  let c168_i32 : BitVec 32 := 168#32
  let v72 : BitVec 32 := Scalar.muli v44 c168_i32
  let c0_i32_47 : BitVec 32 := 0#32
  let v73 : BitVec 32 := Scalar.addi v72 c0_i32_47
  let c0_i32_364 : BitVec 32 := 0#32
  ![v73.toNat, 0]
def k0_dev4 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v74 : BitVec 32 := Scalar.xori v2 c1_i32_48
  let c1_i32_360 : BitVec 32 := 1#32
  let v477 : BitVec 32 := Scalar.muli v74 c1_i32_360
  let v478 : BitVec 32 := Scalar.addi c0_i32_361 v477
  v478.toNat
def k0_off2 (d0 : Dev nD) : Fin 2 → Nat :=
  let c4_i32_31 : BitVec 32 := 4#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v45 : BitVec 32 := Scalar.subi c1_i32_30 v8
  let v46 : BitVec 32 := Scalar.muli c4_i32_31 v45
  let c2_i32_32 : BitVec 32 := 2#32
  let v47 : BitVec 32 := Scalar.muli c2_i32_32 v5
  let v48 : BitVec 32 := Scalar.addi v46 v47
  let c1_i32_33 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v49 : BitVec 32 := Scalar.subi c1_i32_33 v39
  let v50 : BitVec 32 := Scalar.addi v48 v49
  let c168_i32_49 : BitVec 32 := 168#32
  let v75 : BitVec 32 := Scalar.muli v50 c168_i32_49
  let c0_i32_50 : BitVec 32 := 0#32
  let v76 : BitVec 32 := Scalar.addi v75 c0_i32_50
  let c0_i32_372 : BitVec 32 := 0#32
  ![v76.toNat, 0]
def k0_dev5 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v77 : BitVec 32 := Scalar.xori v2 c1_i32_51
  let c1_i32_369 : BitVec 32 := 1#32
  let v485 : BitVec 32 := Scalar.muli v77 c1_i32_369
  let v486 : BitVec 32 := Scalar.addi c0_i32_370 v485
  v486.toNat
def k0_off3 (d0 : Dev nD) : Fin 2 → Nat :=
  let c4_i32_35 : BitVec 32 := 4#32
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v51 : BitVec 32 := Scalar.subi c1_i32_34 v8
  let v52 : BitVec 32 := Scalar.muli c4_i32_35 v51
  let c2_i32_36 : BitVec 32 := 2#32
  let v53 : BitVec 32 := Scalar.muli c2_i32_36 v5
  let v54 : BitVec 32 := Scalar.addi v52 v53
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v55 : BitVec 32 := Scalar.addi v54 v39
  let c168_i32_52 : BitVec 32 := 168#32
  let v78 : BitVec 32 := Scalar.muli v55 c168_i32_52
  let c0_i32_53 : BitVec 32 := 0#32
  let v79 : BitVec 32 := Scalar.addi v78 c0_i32_53
  let c0_i32_379 : BitVec 32 := 0#32
  ![v79.toNat, 0]
def k0_dev6 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v80 : BitVec 32 := Scalar.xori v2 c1_i32_54
  let c1_i32_376 : BitVec 32 := 1#32
  let v493 : BitVec 32 := Scalar.muli v80 c1_i32_376
  let v494 : BitVec 32 := Scalar.addi c0_i32_377 v493
  v494.toNat
def k0_off4 (d0 : Dev nD) : Fin 2 → Nat :=
  let c4_i32_136 : BitVec 32 := 4#32
  let c1_i32_135 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v177 : BitVec 32 := Scalar.subi c1_i32_135 v5
  let v178 : BitVec 32 := Scalar.muli c4_i32_136 v177
  let c2_i32_138 : BitVec 32 := 2#32
  let c1_i32_137 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v179 : BitVec 32 := Scalar.subi c1_i32_137 v7
  let v180 : BitVec 32 := Scalar.muli c2_i32_138 v179
  let v181 : BitVec 32 := Scalar.addi v178 v180
  let c168_i32_156 : BitVec 32 := 168#32
  let v209 : BitVec 32 := Scalar.muli v181 c168_i32_156
  let c1344_i32 : BitVec 32 := 1344#32
  let v210 : BitVec 32 := Scalar.addi v209 c1344_i32
  let c0_i32_388 : BitVec 32 := 0#32
  ![v210.toNat, 0]
def k0_dev7 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_157 : BitVec 32 := 3#32
  let v211 : BitVec 32 := Scalar.xori v2 c3_i32_157
  let c1_i32_384 : BitVec 32 := 1#32
  let v501 : BitVec 32 := Scalar.muli v211 c1_i32_384
  let v502 : BitVec 32 := Scalar.addi c0_i32_385 v501
  v502.toNat
def k0_off5 (d0 : Dev nD) : Fin 2 → Nat :=
  let c4_i32_140 : BitVec 32 := 4#32
  let c1_i32_139 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v182 : BitVec 32 := Scalar.subi c1_i32_139 v5
  let v183 : BitVec 32 := Scalar.muli c4_i32_140 v182
  let c2_i32_141 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v184 : BitVec 32 := Scalar.muli c2_i32_141 v7
  let v185 : BitVec 32 := Scalar.addi v183 v184
  let c1_i32_142 : BitVec 32 := 1#32
  let c1_i32_0 : BitVec 32 := 1#32
  let v3 : BitVec 32 := Scalar.andi v2 c1_i32_0
  let c1_i32_134 : BitVec 32 := 1#32
  let v176 : BitVec 32 := Scalar.xori v3 c1_i32_134
  let v186 : BitVec 32 := Scalar.subi c1_i32_142 v176
  let v187 : BitVec 32 := Scalar.addi v185 v186
  let c168_i32_158 : BitVec 32 := 168#32
  let v212 : BitVec 32 := Scalar.muli v187 c168_i32_158
  let c1344_i32_159 : BitVec 32 := 1344#32
  let v213 : BitVec 32 := Scalar.addi v212 c1344_i32_159
  let c0_i32_397 : BitVec 32 := 0#32
  ![v213.toNat, 0]
def k0_dev8 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_160 : BitVec 32 := 3#32
  let v214 : BitVec 32 := Scalar.xori v2 c3_i32_160
  let c1_i32_393 : BitVec 32 := 1#32
  let v509 : BitVec 32 := Scalar.muli v214 c1_i32_393
  let v510 : BitVec 32 := Scalar.addi c0_i32_394 v509
  v510.toNat
def k0_off6 (d0 : Dev nD) : Fin 2 → Nat :=
  let c4_i32_144 : BitVec 32 := 4#32
  let c1_i32_143 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v188 : BitVec 32 := Scalar.subi c1_i32_143 v5
  let v189 : BitVec 32 := Scalar.muli c4_i32_144 v188
  let c2_i32_145 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v190 : BitVec 32 := Scalar.muli c2_i32_145 v7
  let v191 : BitVec 32 := Scalar.addi v189 v190
  let c1_i32_0 : BitVec 32 := 1#32
  let v3 : BitVec 32 := Scalar.andi v2 c1_i32_0
  let c1_i32_134 : BitVec 32 := 1#32
  let v176 : BitVec 32 := Scalar.xori v3 c1_i32_134
  let v192 : BitVec 32 := Scalar.addi v191 v176
  let c168_i32_161 : BitVec 32 := 168#32
  let v215 : BitVec 32 := Scalar.muli v192 c168_i32_161
  let c1344_i32_162 : BitVec 32 := 1344#32
  let v216 : BitVec 32 := Scalar.addi v215 c1344_i32_162
  let c0_i32_406 : BitVec 32 := 0#32
  ![v216.toNat, 0]
def k0_dev9 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v217 : BitVec 32 := Scalar.xori v2 c3_i32_163
  let c1_i32_402 : BitVec 32 := 1#32
  let v517 : BitVec 32 := Scalar.muli v217 c1_i32_402
  let v518 : BitVec 32 := Scalar.addi c0_i32_403 v517
  v518.toNat
def k0_off7 (d0 : Dev nD) : Fin 2 → Nat :=
  let c4_i32_245 : BitVec 32 := 4#32
  let c1_i32_244 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v314 : BitVec 32 := Scalar.subi c1_i32_244 v7
  let v315 : BitVec 32 := Scalar.muli c4_i32_245 v314
  let c2_i32_247 : BitVec 32 := 2#32
  let c1_i32_246 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v316 : BitVec 32 := Scalar.subi c1_i32_246 v8
  let v317 : BitVec 32 := Scalar.muli c2_i32_247 v316
  let v318 : BitVec 32 := Scalar.addi v315 v317
  let c176_i32 : BitVec 32 := 176#32
  let v346 : BitVec 32 := Scalar.muli v318 c176_i32
  let c2688_i32 : BitVec 32 := 2688#32
  let v347 : BitVec 32 := Scalar.addi v346 c2688_i32
  let c0_i32_415 : BitVec 32 := 0#32
  ![v347.toNat, 0]
def k0_dev10 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_265 : BitVec 32 := 4#32
  let v348 : BitVec 32 := Scalar.xori v2 c4_i32_265
  let c1_i32_411 : BitVec 32 := 1#32
  let v525 : BitVec 32 := Scalar.muli v348 c1_i32_411
  let v526 : BitVec 32 := Scalar.addi c0_i32_412 v525
  v526.toNat
def k0_off8 (d0 : Dev nD) : Fin 2 → Nat :=
  let c4_i32_249 : BitVec 32 := 4#32
  let c1_i32_248 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v319 : BitVec 32 := Scalar.subi c1_i32_248 v7
  let v320 : BitVec 32 := Scalar.muli c4_i32_249 v319
  let c2_i32_250 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v321 : BitVec 32 := Scalar.muli c2_i32_250 v8
  let v322 : BitVec 32 := Scalar.addi v320 v321
  let c1_i32_251 : BitVec 32 := 1#32
  let c0_i32_243 : BitVec 32 := 0#32
  let v313 : BitVec 32 := Scalar.xori v5 c0_i32_243
  let v323 : BitVec 32 := Scalar.subi c1_i32_251 v313
  let v324 : BitVec 32 := Scalar.addi v322 v323
  let c176_i32_266 : BitVec 32 := 176#32
  let v349 : BitVec 32 := Scalar.muli v324 c176_i32_266
  let c2688_i32_267 : BitVec 32 := 2688#32
  let v350 : BitVec 32 := Scalar.addi v349 c2688_i32_267
  let c0_i32_423 : BitVec 32 := 0#32
  ![v350.toNat, 0]
def k0_dev11 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_268 : BitVec 32 := 4#32
  let v351 : BitVec 32 := Scalar.xori v2 c4_i32_268
  let c1_i32_420 : BitVec 32 := 1#32
  let v533 : BitVec 32 := Scalar.muli v351 c1_i32_420
  let v534 : BitVec 32 := Scalar.addi c0_i32_421 v533
  v534.toNat
def k0_off9 (d0 : Dev nD) : Fin 2 → Nat :=
  let c4_i32_253 : BitVec 32 := 4#32
  let c1_i32_252 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v325 : BitVec 32 := Scalar.subi c1_i32_252 v7
  let v326 : BitVec 32 := Scalar.muli c4_i32_253 v325
  let c2_i32_254 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v327 : BitVec 32 := Scalar.muli c2_i32_254 v8
  let v328 : BitVec 32 := Scalar.addi v326 v327
  let c0_i32_243 : BitVec 32 := 0#32
  let v313 : BitVec 32 := Scalar.xori v5 c0_i32_243
  let v329 : BitVec 32 := Scalar.addi v328 v313
  let c176_i32_269 : BitVec 32 := 176#32
  let v352 : BitVec 32 := Scalar.muli v329 c176_i32_269
  let c2688_i32_270 : BitVec 32 := 2688#32
  let v353 : BitVec 32 := Scalar.addi v352 c2688_i32_270
  let c0_i32_431 : BitVec 32 := 0#32
  ![v353.toNat, 0]
def k0_dev12 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_271 : BitVec 32 := 4#32
  let v354 : BitVec 32 := Scalar.xori v2 c4_i32_271
  let c1_i32_428 : BitVec 32 := 1#32
  let v541 : BitVec 32 := Scalar.muli v354 c1_i32_428
  let v542 : BitVec 32 := Scalar.addi c0_i32_429 v541
  v542.toNat
def k0_off10 (d0 : Dev nD) : Fin 2 → Nat :=
  let c4_i32_441 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v555 : BitVec 32 := Scalar.muli c4_i32_441 v8
  let c2_i32_443 : BitVec 32 := 2#32
  let c1_i32_442 : BitVec 32 := 1#32
  let v556 : BitVec 32 := Scalar.subi c1_i32_442 v5
  let v557 : BitVec 32 := Scalar.muli c2_i32_443 v556
  let v558 : BitVec 32 := Scalar.addi v555 v557
  let c168_i32_444 : BitVec 32 := 168#32
  let v559 : BitVec 32 := Scalar.muli v558 c168_i32_444
  let c0_i32_445 : BitVec 32 := 0#32
  let v560 : BitVec 32 := Scalar.addi v559 c0_i32_445
  let v561 : Index := Scalar.indexCast v560
  let c0_446 : Index := 0#32
  ![v561.toNat, 0]
def k0_off11 (d0 : Dev nD) : Fin 2 → Nat :=
  let c4_i32_37 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v56 : BitVec 32 := Scalar.muli c4_i32_37 v8
  let c2_i32_39 : BitVec 32 := 2#32
  let c1_i32_38 : BitVec 32 := 1#32
  let v57 : BitVec 32 := Scalar.subi c1_i32_38 v5
  let v58 : BitVec 32 := Scalar.muli c2_i32_39 v57
  let v59 : BitVec 32 := Scalar.addi v56 v58
  let c1_i32_40 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v60 : BitVec 32 := Scalar.subi c1_i32_40 v7
  let v61 : BitVec 32 := Scalar.addi v59 v60
  let c168_i32_55 : BitVec 32 := 168#32
  let v81 : BitVec 32 := Scalar.muli v61 c168_i32_55
  let c0_i32_56 : BitVec 32 := 0#32
  let v82 : BitVec 32 := Scalar.addi v81 c0_i32_56
  let c0_i32_457 : BitVec 32 := 0#32
  ![v82.toNat, 0]
def k0_dev13 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v83 : BitVec 32 := Scalar.xori v2 c3_i32_57
  let c1_i32_454 : BitVec 32 := 1#32
  let v569 : BitVec 32 := Scalar.muli v83 c1_i32_454
  let v570 : BitVec 32 := Scalar.addi c0_i32_455 v569
  v570.toNat
def k0_off12 (d0 : Dev nD) : Fin 2 → Nat :=
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v62 : BitVec 32 := Scalar.muli c4_i32_41 v8
  let c2_i32_43 : BitVec 32 := 2#32
  let c1_i32_42 : BitVec 32 := 1#32
  let v63 : BitVec 32 := Scalar.subi c1_i32_42 v5
  let v64 : BitVec 32 := Scalar.muli c2_i32_43 v63
  let v65 : BitVec 32 := Scalar.addi v62 v64
  let c2_i32 : BitVec 32 := 2#32
  let v6 : BitVec 32 := Scalar.shrsi v2 c2_i32
  let c1_i32_3 : BitVec 32 := 1#32
  let v7 : BitVec 32 := Scalar.andi v6 c1_i32_3
  let v66 : BitVec 32 := Scalar.addi v65 v7
  let c168_i32_58 : BitVec 32 := 168#32
  let v84 : BitVec 32 := Scalar.muli v66 c168_i32_58
  let c0_i32_59 : BitVec 32 := 0#32
  let v85 : BitVec 32 := Scalar.addi v84 c0_i32_59
  let c0_i32_465 : BitVec 32 := 0#32
  ![v85.toNat, 0]
def k0_dev14 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v86 : BitVec 32 := Scalar.xori v2 c3_i32_60
  let c1_i32_462 : BitVec 32 := 1#32
  let v577 : BitVec 32 := Scalar.muli v86 c1_i32_462
  let v578 : BitVec 32 := Scalar.addi c0_i32_463 v577
  v578.toNat
def k0_off13 (d0 : Dev nD) : Fin 2 → Nat :=
  let c4_i32_475 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v591 : BitVec 32 := Scalar.muli c4_i32_475 v5
  let c2_i32_477 : BitVec 32 := 2#32
  let c1_i32_476 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v592 : BitVec 32 := Scalar.subi c1_i32_476 v7
  let v593 : BitVec 32 := Scalar.muli c2_i32_477 v592
  let v594 : BitVec 32 := Scalar.addi v591 v593
  let c168_i32_478 : BitVec 32 := 168#32
  let v595 : BitVec 32 := Scalar.muli v594 c168_i32_478
  let c1344_i32_479 : BitVec 32 := 1344#32
  let v596 : BitVec 32 := Scalar.addi v595 c1344_i32_479
  let v597 : Index := Scalar.indexCast v596
  let c0_480 : Index := 0#32
  ![v597.toNat, 0]
def k0_off14 (d0 : Dev nD) : Fin 2 → Nat :=
  let c4_i32_146 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v193 : BitVec 32 := Scalar.muli c4_i32_146 v5
  let c2_i32_148 : BitVec 32 := 2#32
  let c1_i32_147 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v194 : BitVec 32 := Scalar.subi c1_i32_147 v7
  let v195 : BitVec 32 := Scalar.muli c2_i32_148 v194
  let v196 : BitVec 32 := Scalar.addi v193 v195
  let c1_i32_149 : BitVec 32 := 1#32
  let c1_i32_0 : BitVec 32 := 1#32
  let v3 : BitVec 32 := Scalar.andi v2 c1_i32_0
  let v197 : BitVec 32 := Scalar.subi c1_i32_149 v3
  let v198 : BitVec 32 := Scalar.addi v196 v197
  let c168_i32_164 : BitVec 32 := 168#32
  let v218 : BitVec 32 := Scalar.muli v198 c168_i32_164
  let c1344_i32_165 : BitVec 32 := 1344#32
  let v219 : BitVec 32 := Scalar.addi v218 c1344_i32_165
  let c0_i32_492 : BitVec 32 := 0#32
  ![v219.toNat, 0]
def k0_dev15 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_166 : BitVec 32 := 4#32
  let v220 : BitVec 32 := Scalar.xori v2 c4_i32_166
  let c1_i32_488 : BitVec 32 := 1#32
  let v605 : BitVec 32 := Scalar.muli v220 c1_i32_488
  let v606 : BitVec 32 := Scalar.addi c0_i32_489 v605
  v606.toNat
def k0_off15 (d0 : Dev nD) : Fin 2 → Nat :=
  let c4_i32_150 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v199 : BitVec 32 := Scalar.muli c4_i32_150 v5
  let c2_i32_152 : BitVec 32 := 2#32
  let c1_i32_151 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v200 : BitVec 32 := Scalar.subi c1_i32_151 v7
  let v201 : BitVec 32 := Scalar.muli c2_i32_152 v200
  let v202 : BitVec 32 := Scalar.addi v199 v201
  let c1_i32_0 : BitVec 32 := 1#32
  let v3 : BitVec 32 := Scalar.andi v2 c1_i32_0
  let v203 : BitVec 32 := Scalar.addi v202 v3
  let c168_i32_167 : BitVec 32 := 168#32
  let v221 : BitVec 32 := Scalar.muli v203 c168_i32_167
  let c1344_i32_168 : BitVec 32 := 1344#32
  let v222 : BitVec 32 := Scalar.addi v221 c1344_i32_168
  let c0_i32_501 : BitVec 32 := 0#32
  ![v222.toNat, 0]
def k0_dev16 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_169 : BitVec 32 := 4#32
  let v223 : BitVec 32 := Scalar.xori v2 c4_i32_169
  let c1_i32_497 : BitVec 32 := 1#32
  let v613 : BitVec 32 := Scalar.muli v223 c1_i32_497
  let v614 : BitVec 32 := Scalar.addi c0_i32_498 v613
  v614.toNat
def k0_off16 (d0 : Dev nD) : Fin 2 → Nat :=
  let c4_i32_511 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v627 : BitVec 32 := Scalar.muli c4_i32_511 v7
  let c2_i32_513 : BitVec 32 := 2#32
  let c1_i32_512 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v628 : BitVec 32 := Scalar.subi c1_i32_512 v8
  let v629 : BitVec 32 := Scalar.muli c2_i32_513 v628
  let v630 : BitVec 32 := Scalar.addi v627 v629
  let c176_i32_514 : BitVec 32 := 176#32
  let v631 : BitVec 32 := Scalar.muli v630 c176_i32_514
  let c2688_i32_515 : BitVec 32 := 2688#32
  let v632 : BitVec 32 := Scalar.addi v631 c2688_i32_515
  let v633 : Index := Scalar.indexCast v632
  let c0_516 : Index := 0#32
  ![v633.toNat, 0]
def k0_off17 (d0 : Dev nD) : Fin 2 → Nat :=
  let c4_i32_255 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v330 : BitVec 32 := Scalar.muli c4_i32_255 v7
  let c2_i32_257 : BitVec 32 := 2#32
  let c1_i32_256 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v331 : BitVec 32 := Scalar.subi c1_i32_256 v8
  let v332 : BitVec 32 := Scalar.muli c2_i32_257 v331
  let v333 : BitVec 32 := Scalar.addi v330 v332
  let c1_i32_258 : BitVec 32 := 1#32
  let v334 : BitVec 32 := Scalar.subi c1_i32_258 v5
  let v335 : BitVec 32 := Scalar.addi v333 v334
  let c176_i32_272 : BitVec 32 := 176#32
  let v355 : BitVec 32 := Scalar.muli v335 c176_i32_272
  let c2688_i32_273 : BitVec 32 := 2688#32
  let v356 : BitVec 32 := Scalar.addi v355 c2688_i32_273
  let c0_i32_527 : BitVec 32 := 0#32
  ![v356.toNat, 0]
def k0_dev17 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_274 : BitVec 32 := 1#32
  let v357 : BitVec 32 := Scalar.xori v2 c1_i32_274
  let c1_i32_524 : BitVec 32 := 1#32
  let v641 : BitVec 32 := Scalar.muli v357 c1_i32_524
  let v642 : BitVec 32 := Scalar.addi c0_i32_525 v641
  v642.toNat
def k0_off18 (d0 : Dev nD) : Fin 2 → Nat :=
  let c4_i32_259 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v336 : BitVec 32 := Scalar.muli c4_i32_259 v7
  let c2_i32_261 : BitVec 32 := 2#32
  let c1_i32_260 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v337 : BitVec 32 := Scalar.subi c1_i32_260 v8
  let v338 : BitVec 32 := Scalar.muli c2_i32_261 v337
  let v339 : BitVec 32 := Scalar.addi v336 v338
  let v340 : BitVec 32 := Scalar.addi v339 v5
  let c176_i32_275 : BitVec 32 := 176#32
  let v358 : BitVec 32 := Scalar.muli v340 c176_i32_275
  let c2688_i32_276 : BitVec 32 := 2688#32
  let v359 : BitVec 32 := Scalar.addi v358 c2688_i32_276
  let c0_i32_535 : BitVec 32 := 0#32
  ![v359.toNat, 0]
def k0_dev18 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_277 : BitVec 32 := 1#32
  let v360 : BitVec 32 := Scalar.xori v2 c1_i32_277
  let c1_i32_532 : BitVec 32 := 1#32
  let v649 : BitVec 32 := Scalar.muli v360 c1_i32_532
  let v650 : BitVec 32 := Scalar.addi c0_i32_533 v649
  v650.toNat
def k0_off19 (d0 : Dev nD) : Fin 2 → Nat :=
  let c4_i32_545 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v663 : BitVec 32 := Scalar.muli c4_i32_545 v8
  let c2_i32_546 : BitVec 32 := 2#32
  let v664 : BitVec 32 := Scalar.muli c2_i32_546 v5
  let v665 : BitVec 32 := Scalar.addi v663 v664
  let c1_i32_547 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v666 : BitVec 32 := Scalar.subi c1_i32_547 v7
  let v667 : BitVec 32 := Scalar.addi v665 v666
  let c168_i32_548 : BitVec 32 := 168#32
  let v668 : BitVec 32 := Scalar.muli v667 c168_i32_548
  let c0_i32_549 : BitVec 32 := 0#32
  let v669 : BitVec 32 := Scalar.addi v668 c0_i32_549
  let v670 : Index := Scalar.indexCast v669
  let c0_550 : Index := 0#32
  ![v670.toNat, 0]
def k0_off20 (d0 : Dev nD) : Fin 2 → Nat :=
  let c4_i32_562 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v684 : BitVec 32 := Scalar.muli c4_i32_562 v5
  let c2_i32_563 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v685 : BitVec 32 := Scalar.muli c2_i32_563 v7
  let v686 : BitVec 32 := Scalar.addi v684 v685
  let c1_i32_564 : BitVec 32 := 1#32
  let c1_i32_0 : BitVec 32 := 1#32
  let v3 : BitVec 32 := Scalar.andi v2 c1_i32_0
  let v687 : BitVec 32 := Scalar.subi c1_i32_564 v3
  let v688 : BitVec 32 := Scalar.addi v686 v687
  let c168_i32_565 : BitVec 32 := 168#32
  let v689 : BitVec 32 := Scalar.muli v688 c168_i32_565
  let c1344_i32_566 : BitVec 32 := 1344#32
  let v690 : BitVec 32 := Scalar.addi v689 c1344_i32_566
  let v691 : Index := Scalar.indexCast v690
  let c0_567 : Index := 0#32
  ![v691.toNat, 0]
def k0_off21 (d0 : Dev nD) : Fin 2 → Nat :=
  let c4_i32_580 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v705 : BitVec 32 := Scalar.muli c4_i32_580 v7
  let c2_i32_581 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v706 : BitVec 32 := Scalar.muli c2_i32_581 v8
  let v707 : BitVec 32 := Scalar.addi v705 v706
  let c1_i32_582 : BitVec 32 := 1#32
  let v708 : BitVec 32 := Scalar.subi c1_i32_582 v5
  let v709 : BitVec 32 := Scalar.addi v707 v708
  let c176_i32_583 : BitVec 32 := 176#32
  let v710 : BitVec 32 := Scalar.muli v709 c176_i32_583
  let c2688_i32_584 : BitVec 32 := 2688#32
  let v711 : BitVec 32 := Scalar.addi v710 c2688_i32_584
  let v712 : Index := Scalar.indexCast v711
  let c0_585 : Index := 0#32
  ![v712.toNat, 0]
def k0_off22 (d0 : Dev nD) : Fin 2 → Nat :=
  let c4_i32_44 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v67 : BitVec 32 := Scalar.muli c4_i32_44 v8
  let c2_i32_45 : BitVec 32 := 2#32
  let v68 : BitVec 32 := Scalar.muli c2_i32_45 v5
  let v69 : BitVec 32 := Scalar.addi v67 v68
  let c1_i32_46 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v70 : BitVec 32 := Scalar.subi c1_i32_46 v7
  let v71 : BitVec 32 := Scalar.addi v69 v70
  let c168_i32_61 : BitVec 32 := 168#32
  let v87 : BitVec 32 := Scalar.muli v71 c168_i32_61
  let c0_i32_62 : BitVec 32 := 0#32
  let v88 : BitVec 32 := Scalar.addi v87 c0_i32_62
  let c0_i32_612 : BitVec 32 := 0#32
  ![v88.toNat, 0]
def k0_dev19 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v89 : BitVec 32 := Scalar.xori v2 c4_i32_63
  let c1_i32_609 : BitVec 32 := 1#32
  let v741 : BitVec 32 := Scalar.muli v89 c1_i32_609
  let v742 : BitVec 32 := Scalar.addi c0_i32_610 v741
  v742.toNat
def k0_off23 (d0 : Dev nD) : Fin 2 → Nat :=
  let c4_i32_153 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v204 : BitVec 32 := Scalar.muli c4_i32_153 v5
  let c2_i32_154 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v205 : BitVec 32 := Scalar.muli c2_i32_154 v7
  let v206 : BitVec 32 := Scalar.addi v204 v205
  let c1_i32_155 : BitVec 32 := 1#32
  let c1_i32_0 : BitVec 32 := 1#32
  let v3 : BitVec 32 := Scalar.andi v2 c1_i32_0
  let v207 : BitVec 32 := Scalar.subi c1_i32_155 v3
  let v208 : BitVec 32 := Scalar.addi v206 v207
  let c168_i32_170 : BitVec 32 := 168#32
  let v224 : BitVec 32 := Scalar.muli v208 c168_i32_170
  let c1344_i32_171 : BitVec 32 := 1344#32
  let v225 : BitVec 32 := Scalar.addi v224 c1344_i32_171
  let c0_i32_639 : BitVec 32 := 0#32
  ![v225.toNat, 0]
def k0_dev20 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v226 : BitVec 32 := Scalar.xori v2 c1_i32_172
  let c1_i32_635 : BitVec 32 := 1#32
  let v770 : BitVec 32 := Scalar.muli v226 c1_i32_635
  let v771 : BitVec 32 := Scalar.addi c0_i32_636 v770
  v771.toNat
def k0_off24 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v341 : BitVec 32 := Scalar.muli c4_i32_262 v7
  let c2_i32_263 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v342 : BitVec 32 := Scalar.muli c2_i32_263 v8
  let v343 : BitVec 32 := Scalar.addi v341 v342
  let c1_i32_264 : BitVec 32 := 1#32
  let v344 : BitVec 32 := Scalar.subi c1_i32_264 v5
  let v345 : BitVec 32 := Scalar.addi v343 v344
  let c176_i32_278 : BitVec 32 := 176#32
  let v361 : BitVec 32 := Scalar.muli v345 c176_i32_278
  let c2688_i32_279 : BitVec 32 := 2688#32
  let v362 : BitVec 32 := Scalar.addi v361 c2688_i32_279
  let c0_i32_664 : BitVec 32 := 0#32
  ![v362.toNat, 0]
def k0_dev21 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_280 : BitVec 32 := 3#32
  let v363 : BitVec 32 := Scalar.xori v2 c3_i32_280
  let c1_i32_661 : BitVec 32 := 1#32
  let v799 : BitVec 32 := Scalar.muli v363 c1_i32_661
  let v800 : BitVec 32 := Scalar.addi c0_i32_662 v799
  v800.toNat
def k0_off25 (d0 : Dev nD) : Fin 2 → Nat :=
  let c4_i32_13 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v19 : BitVec 32 := Scalar.muli c4_i32_13 v8
  let c2_i32_14 : BitVec 32 := 2#32
  let v20 : BitVec 32 := Scalar.muli c2_i32_14 v5
  let v21 : BitVec 32 := Scalar.addi v19 v20
  let c2_i32 : BitVec 32 := 2#32
  let v6 : BitVec 32 := Scalar.shrsi v2 c2_i32
  let c1_i32_3 : BitVec 32 := 1#32
  let v7 : BitVec 32 := Scalar.andi v6 c1_i32_3
  let v22 : BitVec 32 := Scalar.addi v21 v7
  let c168_i32_674 : BitVec 32 := 168#32
  let v813 : BitVec 32 := Scalar.muli v22 c168_i32_674
  let c0_i32_675 : BitVec 32 := 0#32
  let v814 : BitVec 32 := Scalar.addi v813 c0_i32_675
  let v815 : Index := Scalar.indexCast v814
  let c0_676 : Index := 0#32
  ![v815.toNat, 0]
def k0_off26 (d0 : Dev nD) : Fin 2 → Nat :=
  let c4_i32_122 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v156 : BitVec 32 := Scalar.muli c4_i32_122 v5
  let c2_i32_123 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v157 : BitVec 32 := Scalar.muli c2_i32_123 v7
  let v158 : BitVec 32 := Scalar.addi v156 v157
  let c1_i32_0 : BitVec 32 := 1#32
  let v3 : BitVec 32 := Scalar.andi v2 c1_i32_0
  let v159 : BitVec 32 := Scalar.addi v158 v3
  let c168_i32_688 : BitVec 32 := 168#32
  let v829 : BitVec 32 := Scalar.muli v159 c168_i32_688
  let c1344_i32_689 : BitVec 32 := 1344#32
  let v830 : BitVec 32 := Scalar.addi v829 c1344_i32_689
  let v831 : Index := Scalar.indexCast v830
  let c0_690 : Index := 0#32
  ![v831.toNat, 0]
def k0_off27 (d0 : Dev nD) : Fin 2 → Nat :=
  let c4_i32_231 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v293 : BitVec 32 := Scalar.muli c4_i32_231 v7
  let c2_i32_232 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v294 : BitVec 32 := Scalar.muli c2_i32_232 v8
  let v295 : BitVec 32 := Scalar.addi v293 v294
  let v296 : BitVec 32 := Scalar.addi v295 v5
  let c176_i32_703 : BitVec 32 := 176#32
  let v845 : BitVec 32 := Scalar.muli v296 c176_i32_703
  let c2688_i32_704 : BitVec 32 := 2688#32
  let v846 : BitVec 32 := Scalar.addi v845 c2688_i32_704
  let v847 : Index := Scalar.indexCast v846
  let c0_705 : Index := 0#32
  ![v847.toNat, 0]
def k0_off28 (d0 : Dev nD) : Fin 2 → Nat :=
  let c4_i32_13 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v19 : BitVec 32 := Scalar.muli c4_i32_13 v8
  let c2_i32_14 : BitVec 32 := 2#32
  let v20 : BitVec 32 := Scalar.muli c2_i32_14 v5
  let v21 : BitVec 32 := Scalar.addi v19 v20
  let c2_i32 : BitVec 32 := 2#32
  let v6 : BitVec 32 := Scalar.shrsi v2 c2_i32
  let c1_i32_3 : BitVec 32 := 1#32
  let v7 : BitVec 32 := Scalar.andi v6 c1_i32_3
  let v22 : BitVec 32 := Scalar.addi v21 v7
  let c168_i32_64 : BitVec 32 := 168#32
  let v90 : BitVec 32 := Scalar.muli v22 c168_i32_64
  let c0_i32_65 : BitVec 32 := 0#32
  let v91 : BitVec 32 := Scalar.addi v90 c0_i32_65
  let c0_i32_770 : BitVec 32 := 0#32
  ![v91.toNat, 0]
def k0_dev22 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v92 : BitVec 32 := Scalar.xori v2 c4_i32_66
  let c1_i32_768 : BitVec 32 := 1#32
  let v919 : BitVec 32 := Scalar.muli v92 c1_i32_768
  let v920 : BitVec 32 := Scalar.addi c0_i32_769 v919
  v920.toNat
def k0_dev23 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v95 : BitVec 32 := Scalar.xori v2 c3_i32_69
  let c1_i32_775 : BitVec 32 := 1#32
  let v927 : BitVec 32 := Scalar.muli v95 c1_i32_775
  let v928 : BitVec 32 := Scalar.addi c0_i32_776 v927
  v928.toNat
def k0_dev24 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_75 : BitVec 32 := 1#32
  let v101 : BitVec 32 := Scalar.xori v2 c1_i32_75
  let c1_i32_783 : BitVec 32 := 1#32
  let v935 : BitVec 32 := Scalar.muli v101 c1_i32_783
  let v936 : BitVec 32 := Scalar.addi c0_i32_784 v935
  v936.toNat
def k0_off29 (d0 : Dev nD) : Fin 2 → Nat :=
  let c4_i32_122 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v156 : BitVec 32 := Scalar.muli c4_i32_122 v5
  let c2_i32_123 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v157 : BitVec 32 := Scalar.muli c2_i32_123 v7
  let v158 : BitVec 32 := Scalar.addi v156 v157
  let c1_i32_0 : BitVec 32 := 1#32
  let v3 : BitVec 32 := Scalar.andi v2 c1_i32_0
  let v159 : BitVec 32 := Scalar.addi v158 v3
  let c168_i32_173 : BitVec 32 := 168#32
  let v227 : BitVec 32 := Scalar.muli v159 c168_i32_173
  let c1344_i32_174 : BitVec 32 := 1344#32
  let v228 : BitVec 32 := Scalar.addi v227 c1344_i32_174
  let c0_i32_808 : BitVec 32 := 0#32
  ![v228.toNat, 0]
def k0_dev25 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v229 : BitVec 32 := Scalar.xori v2 c1_i32_175
  let c1_i32_806 : BitVec 32 := 1#32
  let v959 : BitVec 32 := Scalar.muli v229 c1_i32_806
  let v960 : BitVec 32 := Scalar.addi c0_i32_807 v959
  v960.toNat
def k0_dev26 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_178 : BitVec 32 := 4#32
  let v232 : BitVec 32 := Scalar.xori v2 c4_i32_178
  let c1_i32_814 : BitVec 32 := 1#32
  let v967 : BitVec 32 := Scalar.muli v232 c1_i32_814
  let v968 : BitVec 32 := Scalar.addi c0_i32_815 v967
  v968.toNat
def k0_dev27 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_184 : BitVec 32 := 3#32
  let v238 : BitVec 32 := Scalar.xori v2 c3_i32_184
  let c1_i32_822 : BitVec 32 := 1#32
  let v975 : BitVec 32 := Scalar.muli v238 c1_i32_822
  let v976 : BitVec 32 := Scalar.addi c0_i32_823 v975
  v976.toNat
def k0_off30 (d0 : Dev nD) : Fin 2 → Nat :=
  let c4_i32_231 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v293 : BitVec 32 := Scalar.muli c4_i32_231 v7
  let c2_i32_232 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v294 : BitVec 32 := Scalar.muli c2_i32_232 v8
  let v295 : BitVec 32 := Scalar.addi v293 v294
  let v296 : BitVec 32 := Scalar.addi v295 v5
  let c176_i32_281 : BitVec 32 := 176#32
  let v364 : BitVec 32 := Scalar.muli v296 c176_i32_281
  let c2688_i32_282 : BitVec 32 := 2688#32
  let v365 : BitVec 32 := Scalar.addi v364 c2688_i32_282
  let c0_i32_846 : BitVec 32 := 0#32
  ![v365.toNat, 0]
def k0_dev28 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_283 : BitVec 32 := 3#32
  let v366 : BitVec 32 := Scalar.xori v2 c3_i32_283
  let c1_i32_844 : BitVec 32 := 1#32
  let v999 : BitVec 32 := Scalar.muli v366 c1_i32_844
  let v1000 : BitVec 32 := Scalar.addi c0_i32_845 v999
  v1000.toNat
def k0_dev29 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_286 : BitVec 32 := 1#32
  let v369 : BitVec 32 := Scalar.xori v2 c1_i32_286
  let c1_i32_852 : BitVec 32 := 1#32
  let v1007 : BitVec 32 := Scalar.muli v369 c1_i32_852
  let v1008 : BitVec 32 := Scalar.addi c0_i32_853 v1007
  v1008.toNat
def k0_dev30 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_292 : BitVec 32 := 4#32
  let v375 : BitVec 32 := Scalar.xori v2 c4_i32_292
  let c1_i32_860 : BitVec 32 := 1#32
  let v1015 : BitVec 32 := Scalar.muli v375 c1_i32_860
  let v1016 : BitVec 32 := Scalar.addi c0_i32_861 v1015
  v1016.toNat
def k0_dev31 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_72 : BitVec 32 := 3#32
  let v98 : BitVec 32 := Scalar.xori v2 c3_i32_72
  let c1_i32_892 : BitVec 32 := 1#32
  let v1054 : BitVec 32 := Scalar.muli v98 c1_i32_892
  let v1055 : BitVec 32 := Scalar.addi c0_i32_893 v1054
  v1055.toNat
def k0_dev32 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v104 : BitVec 32 := Scalar.xori v2 c1_i32_78
  let c1_i32_900 : BitVec 32 := 1#32
  let v1062 : BitVec 32 := Scalar.muli v104 c1_i32_900
  let v1063 : BitVec 32 := Scalar.addi c0_i32_901 v1062
  v1063.toNat
def k0_dev33 (d0 : Dev nD) : Nat :=
  let c0_i32_923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_181 : BitVec 32 := 4#32
  let v235 : BitVec 32 := Scalar.xori v2 c4_i32_181
  let c1_i32_922 : BitVec 32 := 1#32
  let v1083 : BitVec 32 := Scalar.muli v235 c1_i32_922
  let v1084 : BitVec 32 := Scalar.addi c0_i32_923 v1083
  v1084.toNat
def k0_dev34 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_187 : BitVec 32 := 3#32
  let v241 : BitVec 32 := Scalar.xori v2 c3_i32_187
  let c1_i32_931 : BitVec 32 := 1#32
  let v1091 : BitVec 32 := Scalar.muli v241 c1_i32_931
  let v1092 : BitVec 32 := Scalar.addi c0_i32_932 v1091
  v1092.toNat
def k0_dev35 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_289 : BitVec 32 := 1#32
  let v372 : BitVec 32 := Scalar.xori v2 c1_i32_289
  let c1_i32_953 : BitVec 32 := 1#32
  let v1112 : BitVec 32 := Scalar.muli v372 c1_i32_953
  let v1113 : BitVec 32 := Scalar.addi c0_i32_954 v1112
  v1113.toNat
def k0_dev36 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v378 : BitVec 32 := Scalar.xori v2 c4_i32_295
  let c1_i32_962 : BitVec 32 := 1#32
  let v1120 : BitVec 32 := Scalar.muli v378 c1_i32_962
  let v1121 : BitVec 32 := Scalar.addi c0_i32_963 v1120
  v1121.toNat
def k0_off31 (d0 : Dev nD) : Fin 2 → Nat :=
  let c4_i32_18 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v28 : BitVec 32 := Scalar.muli c4_i32_18 v8
  let c2_i32_20 : BitVec 32 := 2#32
  let c1_i32_19 : BitVec 32 := 1#32
  let v29 : BitVec 32 := Scalar.subi c1_i32_19 v5
  let v30 : BitVec 32 := Scalar.muli c2_i32_20 v29
  let v31 : BitVec 32 := Scalar.addi v28 v30
  let c2_i32 : BitVec 32 := 2#32
  let v6 : BitVec 32 := Scalar.shrsi v2 c2_i32
  let c1_i32_3 : BitVec 32 := 1#32
  let v7 : BitVec 32 := Scalar.andi v6 c1_i32_3
  let v32 : BitVec 32 := Scalar.addi v31 v7
  let c168_i32_987 : BitVec 32 := 168#32
  let v1152 : BitVec 32 := Scalar.muli v32 c168_i32_987
  let c0_i32_988 : BitVec 32 := 0#32
  let v1153 : BitVec 32 := Scalar.addi v1152 c0_i32_988
  let v1154 : Index := Scalar.indexCast v1153
  let c0_989 : Index := 0#32
  ![v1154.toNat, 0]
def k0_dev37 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v107 : BitVec 32 := Scalar.xori v2 c1_i32_81
  let c1_i32_994 : BitVec 32 := 1#32
  let v1159 : BitVec 32 := Scalar.muli v107 c1_i32_994
  let v1160 : BitVec 32 := Scalar.addi c0_i32_995 v1159
  v1160.toNat
def k0_off32 (d0 : Dev nD) : Fin 2 → Nat :=
  let c4_i32_127 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v165 : BitVec 32 := Scalar.muli c4_i32_127 v5
  let c2_i32_129 : BitVec 32 := 2#32
  let c1_i32_128 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v166 : BitVec 32 := Scalar.subi c1_i32_128 v7
  let v167 : BitVec 32 := Scalar.muli c2_i32_129 v166
  let v168 : BitVec 32 := Scalar.addi v165 v167
  let c1_i32_0 : BitVec 32 := 1#32
  let v3 : BitVec 32 := Scalar.andi v2 c1_i32_0
  let v169 : BitVec 32 := Scalar.addi v168 v3
  let c168_i32_1007 : BitVec 32 := 168#32
  let v1173 : BitVec 32 := Scalar.muli v169 c168_i32_1007
  let c1344_i32_1008 : BitVec 32 := 1344#32
  let v1174 : BitVec 32 := Scalar.addi v1173 c1344_i32_1008
  let v1175 : Index := Scalar.indexCast v1174
  let c0_1009 : Index := 0#32
  ![v1175.toNat, 0]
def k0_dev38 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_190 : BitVec 32 := 3#32
  let v244 : BitVec 32 := Scalar.xori v2 c3_i32_190
  let c1_i32_1016 : BitVec 32 := 1#32
  let v1180 : BitVec 32 := Scalar.muli v244 c1_i32_1016
  let v1181 : BitVec 32 := Scalar.addi c0_i32_1017 v1180
  v1181.toNat
def k0_off33 (d0 : Dev nD) : Fin 2 → Nat :=
  let c4_i32_236 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v302 : BitVec 32 := Scalar.muli c4_i32_236 v7
  let c2_i32_238 : BitVec 32 := 2#32
  let c1_i32_237 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v303 : BitVec 32 := Scalar.subi c1_i32_237 v8
  let v304 : BitVec 32 := Scalar.muli c2_i32_238 v303
  let v305 : BitVec 32 := Scalar.addi v302 v304
  let v306 : BitVec 32 := Scalar.addi v305 v5
  let c176_i32_1029 : BitVec 32 := 176#32
  let v1194 : BitVec 32 := Scalar.muli v306 c176_i32_1029
  let c2688_i32_1030 : BitVec 32 := 2688#32
  let v1195 : BitVec 32 := Scalar.addi v1194 c2688_i32_1030
  let v1196 : Index := Scalar.indexCast v1195
  let c0_1031 : Index := 0#32
  ![v1196.toNat, 0]
def k0_dev39 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_298 : BitVec 32 := 4#32
  let v381 : BitVec 32 := Scalar.xori v2 c4_i32_298
  let c1_i32_1037 : BitVec 32 := 1#32
  let v1201 : BitVec 32 := Scalar.muli v381 c1_i32_1037
  let v1202 : BitVec 32 := Scalar.addi c0_i32_1038 v1201
  v1202.toNat
def k0_off34 (d0 : Dev nD) : Fin 2 → Nat :=
  let c4_i32_21 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v33 : BitVec 32 := Scalar.muli c4_i32_21 v8
  let c2_i32_23 : BitVec 32 := 2#32
  let c1_i32_22 : BitVec 32 := 1#32
  let v34 : BitVec 32 := Scalar.subi c1_i32_22 v5
  let v35 : BitVec 32 := Scalar.muli c2_i32_23 v34
  let v36 : BitVec 32 := Scalar.addi v33 v35
  let c1_i32_24 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v37 : BitVec 32 := Scalar.subi c1_i32_24 v7
  let v38 : BitVec 32 := Scalar.addi v36 v37
  let c168_i32_1050 : BitVec 32 := 168#32
  let v1215 : BitVec 32 := Scalar.muli v38 c168_i32_1050
  let c0_i32_1051 : BitVec 32 := 0#32
  let v1216 : BitVec 32 := Scalar.addi v1215 c0_i32_1051
  let v1217 : Index := Scalar.indexCast v1216
  let c0_1052 : Index := 0#32
  ![v1217.toNat, 0]
def k0_dev40 (d0 : Dev nD) : Nat :=
  let c0_i32_1059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v110 : BitVec 32 := Scalar.xori v2 c1_i32_84
  let c1_i32_1058 : BitVec 32 := 1#32
  let v1222 : BitVec 32 := Scalar.muli v110 c1_i32_1058
  let v1223 : BitVec 32 := Scalar.addi c0_i32_1059 v1222
  v1223.toNat
def k0_off35 (d0 : Dev nD) : Fin 2 → Nat :=
  let c4_i32_130 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v170 : BitVec 32 := Scalar.muli c4_i32_130 v5
  let c2_i32_132 : BitVec 32 := 2#32
  let c1_i32_131 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v171 : BitVec 32 := Scalar.subi c1_i32_131 v7
  let v172 : BitVec 32 := Scalar.muli c2_i32_132 v171
  let v173 : BitVec 32 := Scalar.addi v170 v172
  let c1_i32_133 : BitVec 32 := 1#32
  let c1_i32_0 : BitVec 32 := 1#32
  let v3 : BitVec 32 := Scalar.andi v2 c1_i32_0
  let v174 : BitVec 32 := Scalar.subi c1_i32_133 v3
  let v175 : BitVec 32 := Scalar.addi v173 v174
  let c168_i32_1071 : BitVec 32 := 168#32
  let v1236 : BitVec 32 := Scalar.muli v175 c168_i32_1071
  let c1344_i32_1072 : BitVec 32 := 1344#32
  let v1237 : BitVec 32 := Scalar.addi v1236 c1344_i32_1072
  let v1238 : Index := Scalar.indexCast v1237
  let c0_1073 : Index := 0#32
  ![v1238.toNat, 0]
def k0_dev41 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v247 : BitVec 32 := Scalar.xori v2 c3_i32_193
  let c1_i32_1080 : BitVec 32 := 1#32
  let v1243 : BitVec 32 := Scalar.muli v247 c1_i32_1080
  let v1244 : BitVec 32 := Scalar.addi c0_i32_1081 v1243
  v1244.toNat
def k0_off36 (d0 : Dev nD) : Fin 2 → Nat :=
  let c4_i32_239 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v307 : BitVec 32 := Scalar.muli c4_i32_239 v7
  let c2_i32_241 : BitVec 32 := 2#32
  let c1_i32_240 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v308 : BitVec 32 := Scalar.subi c1_i32_240 v8
  let v309 : BitVec 32 := Scalar.muli c2_i32_241 v308
  let v310 : BitVec 32 := Scalar.addi v307 v309
  let c1_i32_242 : BitVec 32 := 1#32
  let v311 : BitVec 32 := Scalar.subi c1_i32_242 v5
  let v312 : BitVec 32 := Scalar.addi v310 v311
  let c176_i32_1093 : BitVec 32 := 176#32
  let v1257 : BitVec 32 := Scalar.muli v312 c176_i32_1093
  let c2688_i32_1094 : BitVec 32 := 2688#32
  let v1258 : BitVec 32 := Scalar.addi v1257 c2688_i32_1094
  let v1259 : Index := Scalar.indexCast v1258
  let c0_1095 : Index := 0#32
  ![v1259.toNat, 0]
def k0_dev42 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_301 : BitVec 32 := 4#32
  let v384 : BitVec 32 := Scalar.xori v2 c4_i32_301
  let c1_i32_1102 : BitVec 32 := 1#32
  let v1264 : BitVec 32 := Scalar.muli v384 c1_i32_1102
  let v1265 : BitVec 32 := Scalar.addi c0_i32_1103 v1264
  v1265.toNat
def k0_off37 (d0 : Dev nD) : Fin 2 → Nat :=
  let c4_i32_86 : BitVec 32 := 4#32
  let c1_i32_85 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v111 : BitVec 32 := Scalar.subi c1_i32_85 v8
  let v112 : BitVec 32 := Scalar.muli c4_i32_86 v111
  let c2_i32_87 : BitVec 32 := 2#32
  let v113 : BitVec 32 := Scalar.muli c2_i32_87 v5
  let v114 : BitVec 32 := Scalar.addi v112 v113
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v115 : BitVec 32 := Scalar.addi v114 v39
  let c168_i32_1139 : BitVec 32 := 168#32
  let v1314 : BitVec 32 := Scalar.muli v115 c168_i32_1139
  let c0_i32_1140 : BitVec 32 := 0#32
  let v1315 : BitVec 32 := Scalar.addi v1314 c0_i32_1140
  let v1316 : Index := Scalar.indexCast v1315
  let c0_1141 : Index := 0#32
  ![v1316.toNat, 0]
def k0_off38 (d0 : Dev nD) : Fin 2 → Nat :=
  let c4_i32_195 : BitVec 32 := 4#32
  let c1_i32_194 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v248 : BitVec 32 := Scalar.subi c1_i32_194 v5
  let v249 : BitVec 32 := Scalar.muli c4_i32_195 v248
  let c2_i32_196 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v250 : BitVec 32 := Scalar.muli c2_i32_196 v7
  let v251 : BitVec 32 := Scalar.addi v249 v250
  let c1_i32_0 : BitVec 32 := 1#32
  let v3 : BitVec 32 := Scalar.andi v2 c1_i32_0
  let c1_i32_134 : BitVec 32 := 1#32
  let v176 : BitVec 32 := Scalar.xori v3 c1_i32_134
  let v252 : BitVec 32 := Scalar.addi v251 v176
  let c168_i32_1151 : BitVec 32 := 168#32
  let v1326 : BitVec 32 := Scalar.muli v252 c168_i32_1151
  let c1344_i32_1152 : BitVec 32 := 1344#32
  let v1327 : BitVec 32 := Scalar.addi v1326 c1344_i32_1152
  let v1328 : Index := Scalar.indexCast v1327
  let c0_1153 : Index := 0#32
  ![v1328.toNat, 0]
def k0_off39 (d0 : Dev nD) : Fin 2 → Nat :=
  let c4_i32_303 : BitVec 32 := 4#32
  let c1_i32_302 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v385 : BitVec 32 := Scalar.subi c1_i32_302 v7
  let v386 : BitVec 32 := Scalar.muli c4_i32_303 v385
  let c2_i32_304 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v387 : BitVec 32 := Scalar.muli c2_i32_304 v8
  let v388 : BitVec 32 := Scalar.addi v386 v387
  let c0_i32_243 : BitVec 32 := 0#32
  let v313 : BitVec 32 := Scalar.xori v5 c0_i32_243
  let v389 : BitVec 32 := Scalar.addi v388 v313
  let c176_i32_1163 : BitVec 32 := 176#32
  let v1338 : BitVec 32 := Scalar.muli v389 c176_i32_1163
  let c2688_i32_1164 : BitVec 32 := 2688#32
  let v1339 : BitVec 32 := Scalar.addi v1338 c2688_i32_1164
  let v1340 : Index := Scalar.indexCast v1339
  let c0_1165 : Index := 0#32
  ![v1340.toNat, 0]
def k0_off40 (d0 : Dev nD) : Fin 2 → Nat :=
  let c4_i32_89 : BitVec 32 := 4#32
  let c1_i32_88 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v116 : BitVec 32 := Scalar.subi c1_i32_88 v8
  let v117 : BitVec 32 := Scalar.muli c4_i32_89 v116
  let c2_i32_90 : BitVec 32 := 2#32
  let v118 : BitVec 32 := Scalar.muli c2_i32_90 v5
  let v119 : BitVec 32 := Scalar.addi v117 v118
  let c1_i32_91 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v120 : BitVec 32 := Scalar.subi c1_i32_91 v39
  let v121 : BitVec 32 := Scalar.addi v119 v120
  let c168_i32_1175 : BitVec 32 := 168#32
  let v1350 : BitVec 32 := Scalar.muli v121 c168_i32_1175
  let c0_i32_1176 : BitVec 32 := 0#32
  let v1351 : BitVec 32 := Scalar.addi v1350 c0_i32_1176
  let v1352 : Index := Scalar.indexCast v1351
  let c0_1177 : Index := 0#32
  ![v1352.toNat, 0]
def k0_off41 (d0 : Dev nD) : Fin 2 → Nat :=
  let c4_i32_198 : BitVec 32 := 4#32
  let c1_i32_197 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v253 : BitVec 32 := Scalar.subi c1_i32_197 v5
  let v254 : BitVec 32 := Scalar.muli c4_i32_198 v253
  let c2_i32_199 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v255 : BitVec 32 := Scalar.muli c2_i32_199 v7
  let v256 : BitVec 32 := Scalar.addi v254 v255
  let c1_i32_200 : BitVec 32 := 1#32
  let c1_i32_0 : BitVec 32 := 1#32
  let v3 : BitVec 32 := Scalar.andi v2 c1_i32_0
  let c1_i32_134 : BitVec 32 := 1#32
  let v176 : BitVec 32 := Scalar.xori v3 c1_i32_134
  let v257 : BitVec 32 := Scalar.subi c1_i32_200 v176
  let v258 : BitVec 32 := Scalar.addi v256 v257
  let c168_i32_1187 : BitVec 32 := 168#32
  let v1362 : BitVec 32 := Scalar.muli v258 c168_i32_1187
  let c1344_i32_1188 : BitVec 32 := 1344#32
  let v1363 : BitVec 32 := Scalar.addi v1362 c1344_i32_1188
  let v1364 : Index := Scalar.indexCast v1363
  let c0_1189 : Index := 0#32
  ![v1364.toNat, 0]
def k0_off42 (d0 : Dev nD) : Fin 2 → Nat :=
  let c4_i32_306 : BitVec 32 := 4#32
  let c1_i32_305 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v390 : BitVec 32 := Scalar.subi c1_i32_305 v7
  let v391 : BitVec 32 := Scalar.muli c4_i32_306 v390
  let c2_i32_307 : BitVec 32 := 2#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v392 : BitVec 32 := Scalar.muli c2_i32_307 v8
  let v393 : BitVec 32 := Scalar.addi v391 v392
  let c1_i32_308 : BitVec 32 := 1#32
  let c0_i32_243 : BitVec 32 := 0#32
  let v313 : BitVec 32 := Scalar.xori v5 c0_i32_243
  let v394 : BitVec 32 := Scalar.subi c1_i32_308 v313
  let v395 : BitVec 32 := Scalar.addi v393 v394
  let c176_i32_1199 : BitVec 32 := 176#32
  let v1374 : BitVec 32 := Scalar.muli v395 c176_i32_1199
  let c2688_i32_1200 : BitVec 32 := 2688#32
  let v1375 : BitVec 32 := Scalar.addi v1374 c2688_i32_1200
  let v1376 : Index := Scalar.indexCast v1375
  let c0_1201 : Index := 0#32
  ![v1376.toNat, 0]
def k0_off43 (d0 : Dev nD) : Fin 2 → Nat :=
  let c4_i32_93 : BitVec 32 := 4#32
  let c1_i32_92 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v122 : BitVec 32 := Scalar.subi c1_i32_92 v8
  let v123 : BitVec 32 := Scalar.muli c4_i32_93 v122
  let c2_i32_95 : BitVec 32 := 2#32
  let c1_i32_94 : BitVec 32 := 1#32
  let v124 : BitVec 32 := Scalar.subi c1_i32_94 v5
  let v125 : BitVec 32 := Scalar.muli c2_i32_95 v124
  let v126 : BitVec 32 := Scalar.addi v123 v125
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v127 : BitVec 32 := Scalar.addi v126 v39
  let c168_i32_116 : BitVec 32 := 168#32
  let v150 : BitVec 32 := Scalar.muli v127 c168_i32_116
  let c0_i32_117 : BitVec 32 := 0#32
  let v151 : BitVec 32 := Scalar.addi v150 c0_i32_117
  let c0_i32_1209 : BitVec 32 := 0#32
  ![v151.toNat, 0]
def k0_off44 (d0 : Dev nD) : Fin 2 → Nat :=
  let c4_i32_93 : BitVec 32 := 4#32
  let c1_i32_92 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v122 : BitVec 32 := Scalar.subi c1_i32_92 v8
  let v123 : BitVec 32 := Scalar.muli c4_i32_93 v122
  let c2_i32_95 : BitVec 32 := 2#32
  let c1_i32_94 : BitVec 32 := 1#32
  let v124 : BitVec 32 := Scalar.subi c1_i32_94 v5
  let v125 : BitVec 32 := Scalar.muli c2_i32_95 v124
  let v126 : BitVec 32 := Scalar.addi v123 v125
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v127 : BitVec 32 := Scalar.addi v126 v39
  let c168_i32_1211 : BitVec 32 := 168#32
  let v1386 : BitVec 32 := Scalar.muli v127 c168_i32_1211
  let c0_i32_1212 : BitVec 32 := 0#32
  let v1387 : BitVec 32 := Scalar.addi v1386 c0_i32_1212
  let v1388 : Index := Scalar.indexCast v1387
  let c0_1213 : Index := 0#32
  ![v1388.toNat, 0]
def k0_off45 (d0 : Dev nD) : Fin 2 → Nat :=
  let c4_i32_202 : BitVec 32 := 4#32
  let c1_i32_201 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v259 : BitVec 32 := Scalar.subi c1_i32_201 v5
  let v260 : BitVec 32 := Scalar.muli c4_i32_202 v259
  let c2_i32_204 : BitVec 32 := 2#32
  let c1_i32_203 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v261 : BitVec 32 := Scalar.subi c1_i32_203 v7
  let v262 : BitVec 32 := Scalar.muli c2_i32_204 v261
  let v263 : BitVec 32 := Scalar.addi v260 v262
  let c1_i32_0 : BitVec 32 := 1#32
  let v3 : BitVec 32 := Scalar.andi v2 c1_i32_0
  let c1_i32_134 : BitVec 32 := 1#32
  let v176 : BitVec 32 := Scalar.xori v3 c1_i32_134
  let v264 : BitVec 32 := Scalar.addi v263 v176
  let c168_i32_225 : BitVec 32 := 168#32
  let v287 : BitVec 32 := Scalar.muli v264 c168_i32_225
  let c1344_i32_226 : BitVec 32 := 1344#32
  let v288 : BitVec 32 := Scalar.addi v287 c1344_i32_226
  let c0_i32_1221 : BitVec 32 := 0#32
  ![v288.toNat, 0]
def k0_off46 (d0 : Dev nD) : Fin 2 → Nat :=
  let c4_i32_202 : BitVec 32 := 4#32
  let c1_i32_201 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v259 : BitVec 32 := Scalar.subi c1_i32_201 v5
  let v260 : BitVec 32 := Scalar.muli c4_i32_202 v259
  let c2_i32_204 : BitVec 32 := 2#32
  let c1_i32_203 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v261 : BitVec 32 := Scalar.subi c1_i32_203 v7
  let v262 : BitVec 32 := Scalar.muli c2_i32_204 v261
  let v263 : BitVec 32 := Scalar.addi v260 v262
  let c1_i32_0 : BitVec 32 := 1#32
  let v3 : BitVec 32 := Scalar.andi v2 c1_i32_0
  let c1_i32_134 : BitVec 32 := 1#32
  let v176 : BitVec 32 := Scalar.xori v3 c1_i32_134
  let v264 : BitVec 32 := Scalar.addi v263 v176
  let c168_i32_1223 : BitVec 32 := 168#32
  let v1398 : BitVec 32 := Scalar.muli v264 c168_i32_1223
  let c1344_i32_1224 : BitVec 32 := 1344#32
  let v1399 : BitVec 32 := Scalar.addi v1398 c1344_i32_1224
  let v1400 : Index := Scalar.indexCast v1399
  let c0_1225 : Index := 0#32
  ![v1400.toNat, 0]
def k0_off47 (d0 : Dev nD) : Fin 2 → Nat :=
  let c4_i32_310 : BitVec 32 := 4#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v396 : BitVec 32 := Scalar.subi c1_i32_309 v7
  let v397 : BitVec 32 := Scalar.muli c4_i32_310 v396
  let c2_i32_312 : BitVec 32 := 2#32
  let c1_i32_311 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v398 : BitVec 32 := Scalar.subi c1_i32_311 v8
  let v399 : BitVec 32 := Scalar.muli c2_i32_312 v398
  let v400 : BitVec 32 := Scalar.addi v397 v399
  let c0_i32_243 : BitVec 32 := 0#32
  let v313 : BitVec 32 := Scalar.xori v5 c0_i32_243
  let v401 : BitVec 32 := Scalar.addi v400 v313
  let c176_i32_333 : BitVec 32 := 176#32
  let v424 : BitVec 32 := Scalar.muli v401 c176_i32_333
  let c2688_i32_334 : BitVec 32 := 2688#32
  let v425 : BitVec 32 := Scalar.addi v424 c2688_i32_334
  let c0_i32_1233 : BitVec 32 := 0#32
  ![v425.toNat, 0]
def k0_off48 (d0 : Dev nD) : Fin 2 → Nat :=
  let c4_i32_310 : BitVec 32 := 4#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v396 : BitVec 32 := Scalar.subi c1_i32_309 v7
  let v397 : BitVec 32 := Scalar.muli c4_i32_310 v396
  let c2_i32_312 : BitVec 32 := 2#32
  let c1_i32_311 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v398 : BitVec 32 := Scalar.subi c1_i32_311 v8
  let v399 : BitVec 32 := Scalar.muli c2_i32_312 v398
  let v400 : BitVec 32 := Scalar.addi v397 v399
  let c0_i32_243 : BitVec 32 := 0#32
  let v313 : BitVec 32 := Scalar.xori v5 c0_i32_243
  let v401 : BitVec 32 := Scalar.addi v400 v313
  let c176_i32_1235 : BitVec 32 := 176#32
  let v1410 : BitVec 32 := Scalar.muli v401 c176_i32_1235
  let c2688_i32_1236 : BitVec 32 := 2688#32
  let v1411 : BitVec 32 := Scalar.addi v1410 c2688_i32_1236
  let v1412 : Index := Scalar.indexCast v1411
  let c0_1237 : Index := 0#32
  ![v1412.toNat, 0]
def k0_off49 (d0 : Dev nD) : Fin 2 → Nat :=
  let c4_i32_97 : BitVec 32 := 4#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v128 : BitVec 32 := Scalar.subi c1_i32_96 v8
  let v129 : BitVec 32 := Scalar.muli c4_i32_97 v128
  let c2_i32_99 : BitVec 32 := 2#32
  let c1_i32_98 : BitVec 32 := 1#32
  let v130 : BitVec 32 := Scalar.subi c1_i32_98 v5
  let v131 : BitVec 32 := Scalar.muli c2_i32_99 v130
  let v132 : BitVec 32 := Scalar.addi v129 v131
  let c1_i32_100 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v133 : BitVec 32 := Scalar.subi c1_i32_100 v39
  let v134 : BitVec 32 := Scalar.addi v132 v133
  let c168_i32_119 : BitVec 32 := 168#32
  let v153 : BitVec 32 := Scalar.muli v134 c168_i32_119
  let c0_i32_120 : BitVec 32 := 0#32
  let v154 : BitVec 32 := Scalar.addi v153 c0_i32_120
  let c0_i32_1245 : BitVec 32 := 0#32
  ![v154.toNat, 0]
def k0_off50 (d0 : Dev nD) : Fin 2 → Nat :=
  let c4_i32_97 : BitVec 32 := 4#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v128 : BitVec 32 := Scalar.subi c1_i32_96 v8
  let v129 : BitVec 32 := Scalar.muli c4_i32_97 v128
  let c2_i32_99 : BitVec 32 := 2#32
  let c1_i32_98 : BitVec 32 := 1#32
  let v130 : BitVec 32 := Scalar.subi c1_i32_98 v5
  let v131 : BitVec 32 := Scalar.muli c2_i32_99 v130
  let v132 : BitVec 32 := Scalar.addi v129 v131
  let c1_i32_100 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let c0_i32_25 : BitVec 32 := 0#32
  let v39 : BitVec 32 := Scalar.xori v7 c0_i32_25
  let v133 : BitVec 32 := Scalar.subi c1_i32_100 v39
  let v134 : BitVec 32 := Scalar.addi v132 v133
  let c168_i32_1247 : BitVec 32 := 168#32
  let v1422 : BitVec 32 := Scalar.muli v134 c168_i32_1247
  let c0_i32_1248 : BitVec 32 := 0#32
  let v1423 : BitVec 32 := Scalar.addi v1422 c0_i32_1248
  let v1424 : Index := Scalar.indexCast v1423
  let c0_1249 : Index := 0#32
  ![v1424.toNat, 0]
def k0_off51 (d0 : Dev nD) : Fin 2 → Nat :=
  let c4_i32_206 : BitVec 32 := 4#32
  let c1_i32_205 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v265 : BitVec 32 := Scalar.subi c1_i32_205 v5
  let v266 : BitVec 32 := Scalar.muli c4_i32_206 v265
  let c2_i32_208 : BitVec 32 := 2#32
  let c1_i32_207 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v267 : BitVec 32 := Scalar.subi c1_i32_207 v7
  let v268 : BitVec 32 := Scalar.muli c2_i32_208 v267
  let v269 : BitVec 32 := Scalar.addi v266 v268
  let c1_i32_209 : BitVec 32 := 1#32
  let c1_i32_0 : BitVec 32 := 1#32
  let v3 : BitVec 32 := Scalar.andi v2 c1_i32_0
  let c1_i32_134 : BitVec 32 := 1#32
  let v176 : BitVec 32 := Scalar.xori v3 c1_i32_134
  let v270 : BitVec 32 := Scalar.subi c1_i32_209 v176
  let v271 : BitVec 32 := Scalar.addi v269 v270
  let c168_i32_228 : BitVec 32 := 168#32
  let v290 : BitVec 32 := Scalar.muli v271 c168_i32_228
  let c1344_i32_229 : BitVec 32 := 1344#32
  let v291 : BitVec 32 := Scalar.addi v290 c1344_i32_229
  let c0_i32_1257 : BitVec 32 := 0#32
  ![v291.toNat, 0]
def k0_off52 (d0 : Dev nD) : Fin 2 → Nat :=
  let c4_i32_206 : BitVec 32 := 4#32
  let c1_i32_205 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v265 : BitVec 32 := Scalar.subi c1_i32_205 v5
  let v266 : BitVec 32 := Scalar.muli c4_i32_206 v265
  let c2_i32_208 : BitVec 32 := 2#32
  let c1_i32_207 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v267 : BitVec 32 := Scalar.subi c1_i32_207 v7
  let v268 : BitVec 32 := Scalar.muli c2_i32_208 v267
  let v269 : BitVec 32 := Scalar.addi v266 v268
  let c1_i32_209 : BitVec 32 := 1#32
  let c1_i32_0 : BitVec 32 := 1#32
  let v3 : BitVec 32 := Scalar.andi v2 c1_i32_0
  let c1_i32_134 : BitVec 32 := 1#32
  let v176 : BitVec 32 := Scalar.xori v3 c1_i32_134
  let v270 : BitVec 32 := Scalar.subi c1_i32_209 v176
  let v271 : BitVec 32 := Scalar.addi v269 v270
  let c168_i32_1259 : BitVec 32 := 168#32
  let v1434 : BitVec 32 := Scalar.muli v271 c168_i32_1259
  let c1344_i32_1260 : BitVec 32 := 1344#32
  let v1435 : BitVec 32 := Scalar.addi v1434 c1344_i32_1260
  let v1436 : Index := Scalar.indexCast v1435
  let c0_1261 : Index := 0#32
  ![v1436.toNat, 0]
def k0_off53 (d0 : Dev nD) : Fin 2 → Nat :=
  let c4_i32_314 : BitVec 32 := 4#32
  let c1_i32_313 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v402 : BitVec 32 := Scalar.subi c1_i32_313 v7
  let v403 : BitVec 32 := Scalar.muli c4_i32_314 v402
  let c2_i32_316 : BitVec 32 := 2#32
  let c1_i32_315 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v404 : BitVec 32 := Scalar.subi c1_i32_315 v8
  let v405 : BitVec 32 := Scalar.muli c2_i32_316 v404
  let v406 : BitVec 32 := Scalar.addi v403 v405
  let c1_i32_317 : BitVec 32 := 1#32
  let c0_i32_243 : BitVec 32 := 0#32
  let v313 : BitVec 32 := Scalar.xori v5 c0_i32_243
  let v407 : BitVec 32 := Scalar.subi c1_i32_317 v313
  let v408 : BitVec 32 := Scalar.addi v406 v407
  let c176_i32_336 : BitVec 32 := 176#32
  let v427 : BitVec 32 := Scalar.muli v408 c176_i32_336
  let c2688_i32_337 : BitVec 32 := 2688#32
  let v428 : BitVec 32 := Scalar.addi v427 c2688_i32_337
  let c0_i32_1269 : BitVec 32 := 0#32
  ![v428.toNat, 0]
def k0_off54 (d0 : Dev nD) : Fin 2 → Nat :=
  let c4_i32_314 : BitVec 32 := 4#32
  let c1_i32_313 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v402 : BitVec 32 := Scalar.subi c1_i32_313 v7
  let v403 : BitVec 32 := Scalar.muli c4_i32_314 v402
  let c2_i32_316 : BitVec 32 := 2#32
  let c1_i32_315 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v404 : BitVec 32 := Scalar.subi c1_i32_315 v8
  let v405 : BitVec 32 := Scalar.muli c2_i32_316 v404
  let v406 : BitVec 32 := Scalar.addi v403 v405
  let c1_i32_317 : BitVec 32 := 1#32
  let c0_i32_243 : BitVec 32 := 0#32
  let v313 : BitVec 32 := Scalar.xori v5 c0_i32_243
  let v407 : BitVec 32 := Scalar.subi c1_i32_317 v313
  let v408 : BitVec 32 := Scalar.addi v406 v407
  let c176_i32_1271 : BitVec 32 := 176#32
  let v1446 : BitVec 32 := Scalar.muli v408 c176_i32_1271
  let c2688_i32_1272 : BitVec 32 := 2688#32
  let v1447 : BitVec 32 := Scalar.addi v1446 c2688_i32_1272
  let v1448 : Index := Scalar.indexCast v1447
  let c0_1273 : Index := 0#32
  ![v1448.toNat, 0]
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x4096 : Shape := ⟨3, ![4, 1024, 4096]⟩
abbrev S4x4096 : Shape := ⟨2, ![4, 4096]⟩
abbrev S4096x512 : Shape := ⟨2, ![4096, 512]⟩
abbrev S_ : Shape := ⟨0, ![]⟩
abbrev S4x3x4096 : Shape := ⟨3, ![4, 3, 4096]⟩
abbrev S4x1027x4096 : Shape := ⟨3, ![4, 1027, 4096]⟩
abbrev S1x4096 : Shape := ⟨2, ![1, 4096]⟩
abbrev S4096 : Shape := ⟨1, ![4096]⟩
abbrev S1x1x4096 : Shape := ⟨3, ![1, 1, 4096]⟩
abbrev S4x1024x512 : Shape := ⟨3, ![4, 1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4x4096, .f32⟩
  | .hbm, ⟨2, _⟩ => ⟨S4096x512, .f32⟩
  | .hbm, ⟨3, _⟩ => ⟨S_, .f32⟩
  | .hbm, ⟨4, _⟩ => ⟨S4x3x4096, .f32⟩
  | .hbm, ⟨5, _⟩ => ⟨S4x1027x4096, .f32⟩
  | .hbm, ⟨6, _⟩ => ⟨S_, .f32⟩
  | .hbm, ⟨7, _⟩ => ⟨S4x1024x4096, .f32⟩
  | .hbm, ⟨8, _⟩ => ⟨S4x1024x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S4x1024x4096, .f32⟩
  | .hbm, ⟨13, _⟩ => ⟨S4x1024x4096, .f32⟩
  | .hbm, ⟨14, _⟩ => ⟨S4x1024x4096, .f32⟩
  | .hbm, ⟨15, _⟩ => ⟨S4x1024x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x1024x4096, .f32⟩
  | .hbm, ⟨20, _⟩ => ⟨S4x1024x4096, .f32⟩
  | .hbm, ⟨21, _⟩ => ⟨S4x1024x4096, .f32⟩
  | .hbm, ⟨22, _⟩ => ⟨S4x1024x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S4x1024x4096, .f32⟩
  | .hbm, ⟨27, _⟩ => ⟨S4x1024x4096, .f32⟩
  | .hbm, ⟨28, _⟩ => ⟨S4x1024x4096, .f32⟩
  | .hbm, ⟨29, _⟩ => ⟨S4x1024x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S4x1024x4096, .f32⟩
  | .hbm, ⟨34, _⟩ => ⟨S4x1024x4096, .f32⟩
  | .hbm, ⟨35, _⟩ => ⟨S4x1024x4096, .f32⟩
  | .hbm, ⟨36, _⟩ => ⟨S4x1024x4096, .f32⟩
  | .hbm, ⟨37, _⟩ => ⟨S4x1024x4096, .f32⟩
  | .hbm, ⟨38, _⟩ => ⟨S_, .f32⟩
  | .hbm, ⟨39, _⟩ => ⟨S4x1024x4096, .f32⟩
  | .hbm, ⟨40, _⟩ => ⟨S4x1024x4096, .f32⟩
  | .hbm, ⟨41, _⟩ => ⟨S4x1024x4096, .f32⟩
  | .hbm, ⟨42, _⟩ => ⟨S4x1024x512, .f32⟩
  | .hbm, ⟨43, _⟩ => ⟨S4096x512, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Geo.lean ====
/-
# `Geo`: which rows belong to whom

The kernel sums eight partial products by recursive halving over a cube of eight devices and then
distributes the sums. The 4096 rows of the result are cut in three partitions, each partition in eight regions,
one for every device. This file holds the arithmetic: partners as exclusive ors of device numbers, the first row of
the region a device owns, and the equations that say which rows the kernel's computed offsets name.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

namespace Cert.KernelIdeal.Halving

open Cert.KernelIdeal Cert.KernelIdeal.Gen
open Idealize.ShloMosaic

set_option backward.proofsInPublic true in
/-- The device whose number is the exclusive or of two numbers. -/
def pr (c x : Dev nD) : Dev nD := ⟨(c.val ^^^ x.val) % 8, Nat.mod_lt _ (by decide)⟩

/-- The first row of a partition. -/
def start : Fin 3 → ℕ
  | 0 => 0
  | 1 => 1344
  | 2 => 2688

/-- The number of rows of one device's region in a partition. -/
def u : Fin 3 → ℕ
  | 0 => 168
  | 1 => 168
  | 2 => 176

/-- The mask that names the partner in a stage of a partition. -/
def msk : Fin 3 → Fin 3 → Dev nD
  | 0, 0 => 1
  | 0, 1 => 3
  | 0, 2 => 4
  | 1, 0 => 3
  | 1, 1 => 4
  | 1, 2 => 1
  | 2, 0 => 4
  | 2, 1 => 1
  | 2, 2 => 3

/-- The three address bits of a device in a partition. -/
def bit (p i : Fin 3) (e : Dev nD) : ℕ :=
  let b0 := e.val % 2
  let b1 := e.val / 2 % 2
  let b2 := e.val / 4
  match p, i with
  | 0, 0 => (b0 + b1) % 2
  | 0, 1 => b1
  | 0, 2 => b2
  | 1, 0 => b1
  | 1, 1 => b2
  | 1, 2 => b0
  | 2, 0 => b2
  | 2, 1 => (b0 + b1) % 2
  | 2, 2 => b1

/-- The place of a device's region within its partition. -/
def slot (p : Fin 3) (e : Dev nD) : ℕ := 4 * bit p 0 e + 2 * bit p 1 e + bit p 2 e

/-- The first row of the region of device `e` in partition `p`. -/
def base (p : Fin 3) (e : Dev nD) : ℕ := start p + u p * slot p e

/-- Of two devices that differ in the last address bit, the one whose region comes first. -/
def lo (p : Fin 3) (e : Dev nD) : Dev nD := if bit p 2 e = 0 then e else pr e (msk p 2)

end Cert.KernelIdeal.Halving
-- ==== Proof.Region.lean ====
/-
# `Region`: a run of rows of a buffer

The kernel moves, adds and copies runs of whole rows of 512 numbers. `region` owns such a run on a device and says
what it holds; `anyR` owns it and says nothing. A run splits into shorter runs, and the runs join again.
The operations of the kernel on a run (a load, a store) follow.
-/
module

public import proofs.«01_k».proof.Proof.Geo

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the library's copy for the staging of the operands, and this protocol's, whose duties are
numbered 0, 1, 2 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A shape of `n` rows of 512 numbers. -/
abbrev mat (n : ℕ) : Shape := ⟨2, ![n, 512]⟩

/-- A table of numbers by row and column. -/
abbrev Tab (F : FTy → Type) : Type := ℕ → ℕ → F .f32

/-- The first `n` rows of a table. -/
def blk (n : ℕ) (W : Tab F) : (mat n).Idx → Elt F .f32 := fun i => W (i 0).val (i 1).val

/-- A table read from row `r` on. -/
def sh (r : ℕ) (W : Tab F) : Tab F := fun i j => W (r + i) j

/-- The indices of rows `r` to `r + n`. -/
def rows (N r n : ℕ) : Finset (mat N).Idx := Finset.univ.filter fun i => r ≤ (i 0).val ∧ (i 0).val < r + n

omit [FloatOps F] in
theorem mem_rows {N r n : ℕ} {i : (mat N).Idx} : i ∈ rows N r n ↔ r ≤ (i 0).val ∧ (i 0).val < r + n := by
  simp [rows]

variable {N : ℕ} (M : Memref sig .tc .vmem (mat N) .f32)

/-- The elements of rows `r` to `r + n` in the memref's buffer. -/
def rset (r n : ℕ) : Finset M.view.ty.Idx := (rows N r n).map M.view.emb

/-- Device `d` owns rows `r` to `r + n` at share `q`, holding the first `n` rows of `W`. -/
def region (d : Dev nD) (r n : ℕ) (q : PosShare TreeShare) (W : Tab F) : sProp 𝕄 :=
  iprop(∃ f : Buf (Elt F) (M.view.loc (d : Thread nD τ)), ⌜∀ i : (mat N).Idx, i ∈ rows N r n → M.view.read (Elt F) f i = W ((i 0).val - r) (i 1).val⌝
    ∗ (M.view.loc (d : Thread nD τ) ↦[rset M r n]{q} f))

/-- Device `d` owns rows `r` to `r + n` outright, whatever they hold. -/
def anyR (d : Dev nD) (r n : ℕ) : sProp 𝕄 :=
  iprop(∃ f : Buf (Elt F) (M.view.loc (d : Thread nD τ)), (M.view.loc (d : Thread nD τ) ↦[rset M r n]{fullShare} f))

omit [FloatOps F] in
instance region_storable (d : Dev nD) (r n : ℕ) (q) (W : Tab F) : BI.Storable (upEmb : UEmb _ 𝕄) (region M d r n q W) := by
  unfold region; infer_instance
omit [FloatOps F] in
instance anyR_storable (d : Dev nD) (r n : ℕ) : BI.Storable (upEmb : UEmb _ 𝕄) (anyR (F := F) M d r n) := by
  unfold anyR; infer_instance

omit [FloatOps F] in
/-- What a run holds may be forgotten. -/
theorem region_any (d : Dev nD) (r n : ℕ) (W : Tab F) : region M d r n fullShare W ⊢ anyR (F := F) M d r n := by
  unfold region anyR
  iintro ⟨%f, %hf, H⟩
  iexists f
  iexact H

omit [FloatOps F] in
/-- Only the first `n` rows of the table matter. -/
theorem region_congr (d : Dev nD) (r n : ℕ) (q) {W W' : Tab F} (h : ∀ i < n, ∀ j < 512, W i j = W' i j) :
    region M d r n q W = region M d r n q W' := by
  unfold region
  have : ∀ f : Buf (Elt F) (M.view.loc (d : Thread nD τ)),
      (∀ i : (mat N).Idx, i ∈ rows N r n → M.view.read (Elt F) f i = W ((i 0).val - r) (i 1).val) =
      (∀ i : (mat N).Idx, i ∈ rows N r n → M.view.read (Elt F) f i = W' ((i 0).val - r) (i 1).val) := by
    intro f
    refine propext (forall_congr' fun i => imp_congr_right fun hi => ?_)
    have hi' := mem_rows.mp hi
    rw [h _ (by omega) _ (i 1).isLt]
  simp only [this]

omit [FloatOps F] in
/-- A share of a run splits in two and joins again. -/
theorem region_share (d : Dev nD) (r n : ℕ) (q : PosShare TreeShare) (W : Tab F) :
    region M d r n q W = iprop(region M d r n q.left W ∗ region M d r n q.right W) := by
  have h1 : region M d r n q W ⊢ iprop(region M d r n q.left W ∗ region M d r n q.right W) := by
    unfold region
    iintro ⟨%f, %hf, H⟩
    ihave H2 := (pointsTo_share (PosShare.mem_left_op_right q)).1 $$ H
    icases H2 with ⟨Hl, Hr⟩
    isplitl [Hl]
    · iexists f
      isplitr
      · ipureintro; exact hf
      · iexact Hl
    · iexists f
      isplitr
      · ipureintro; exact hf
      · iexact Hr
  have h2 : iprop(region M d r n q.left W ∗ region M d r n q.right W) ⊢ region M d r n q W := by
    unfold region
    iintro ⟨⟨%f, %hf, Hl⟩, ⟨%g, %hg, Hr⟩⟩
    iexists f
    isplitr
    · ipureintro; exact hf
    · iapply (pointsTo_share (PosShare.mem_left_op_right q)).2
      isplitl [Hl]
      · iexact Hl
      · have e : (M.view.loc (d : Thread nD τ) ↦[rset M r n]{q.right} g : sProp 𝕄)
            = (M.view.loc (d : Thread nD τ) ↦[rset M r n]{q.right} f) := by
          refine pointsTo_congr fun i hi => ?_
          obtain ⟨x, hx, rfl⟩ := Finset.mem_map.mp hi
          have h1 := (hg x hx).trans (hf x hx).symm
          rw [View.read_apply, View.read_apply] at h1
          exact (cast_inj _).mp h1
        rw [← e]
        iexact Hr
  exact BI.equiv_iff.mp ⟨h1, h2⟩

section Family
variable {T : Type} [Fintype T] [DecidableEq T] (d : Dev nD) (r n : ℕ) (q : PosShare TreeShare) (b k : T → ℕ)
  (hsub : ∀ t, r ≤ b t ∧ b t + k t ≤ r + n)
  (hcov : ∀ i, r ≤ i → i < r + n → ∃ t, b t ≤ i ∧ i < b t + k t)
  (hdis : ∀ t t' i, b t ≤ i → i < b t + k t → b t' ≤ i → i < b t' + k t' → t = t')
include hsub hcov in
omit [FloatOps F] [DecidableEq T] in
theorem rset_biUnion [DecidableEq M.view.ty.Idx] : rset M r n = Finset.univ.biUnion fun t => rset M (b t) (k t) := by
  ext x
  simp only [rset, Finset.mem_map, Finset.mem_biUnion, Finset.mem_univ, true_and, mem_rows]
  constructor
  · rintro ⟨i, ⟨h1, h2⟩, rfl⟩
    obtain ⟨t, h⟩ := hcov _ h1 h2
    exact ⟨t, i, h, rfl⟩
  · rintro ⟨t, i, h, rfl⟩
    have := hsub t
    exact ⟨i, ⟨by omega, by omega⟩, rfl⟩

include hdis in
omit [FloatOps F] [Fintype T] [DecidableEq T] in
theorem rset_disjoint : ∀ t t', t ≠ t' → Disjoint (rset M (b t) (k t)) (rset M (b t') (k t')) := by
  intro t t' hne
  rw [Finset.disjoint_left]
  intro x hx hx'
  simp only [rset, Finset.mem_map, mem_rows] at hx hx'
  obtain ⟨i, hi, rfl⟩ := hx
  obtain ⟨i', hi', e⟩ := hx'
  obtain rfl := M.view.emb.injective e
  exact hne (hdis t t' _ hi.1 hi.2 hi'.1 hi'.2)

include hsub hcov hdis in
/-- A run is the family of the runs that tile it. -/
theorem region_family (W : Tab F) :
    region M d r n q W = bigSep Finset.univ fun t => region M d (b t) (k t) q (sh (b t - r) W) := by
  classical
  have hd : ∀ t ∈ (Finset.univ : Finset T), ∀ t' ∈ (Finset.univ : Finset T), t ≠ t' → Disjoint (rset M (b t) (k t)) (rset M (b t') (k t')) :=
    fun t _ t' _ h => rset_disjoint M b k hdis t t' h
  have h1 : region M d r n q W ⊢ bigSep Finset.univ fun t => region M d (b t) (k t) q (sh (b t - r) W) := by
    unfold region
    iintro ⟨%f, %hf, H⟩
    have e : (M.view.loc (d : Thread nD τ) ↦[rset M r n]{q} f : sProp 𝕄)
        ⊢ bigSep Finset.univ fun t => iprop(∃ f : Buf (Elt F) (M.view.loc (d : Thread nD τ)),
          ⌜∀ i : (mat N).Idx, i ∈ rows N (b t) (k t) → M.view.read (Elt F) f i = sh (b t - r) W ((i 0).val - b t) (i 1).val⌝
          ∗ (M.view.loc (d : Thread nD τ) ↦[rset M (b t) (k t)]{q} f)) := by
      rw [rset_biUnion M r n b k hsub hcov]
      refine (Entails.of_eq (pointsTo_biUnion _ _ hd)).trans (bigSep_mono fun t _ => ?_)
      show (M.view.loc (d : Thread nD τ) ↦[rset M (b t) (k t)]{q} f : sProp 𝕄) ⊢ _
      iintro H
      iexists f
      isplitr
      · ipureintro
        intro i hi
        have hi' := mem_rows.mp hi
        have := hsub t
        rw [hf i (mem_rows.mpr ⟨by omega, by omega⟩)]
        unfold sh
        congr 1
        omega
      · iexact H
    iapply e
    iexact H
  have h2 : (bigSep Finset.univ fun t => region M d (b t) (k t) q (sh (b t - r) W)) ⊢ region M d r n q W := by
    unfold region
    have f₀ : Buf (Elt F) (M.view.loc (d : Thread nD τ)) := fun _ => Classical.arbitrary _
    haveI : Nonempty (Buf (Elt F) (M.view.loc (d : Thread nD τ))) := ⟨f₀⟩
    refine (bigSep_exists_pi Finset.univ (fun t (f : Buf (Elt F) (M.view.loc (d : Thread nD τ))) => iprop(⌜∀ i : (mat N).Idx, i ∈ rows N (b t) (k t) → M.view.read (Elt F) f i = sh (b t - r) W ((i 0).val - b t) (i 1).val⌝
          ∗ (M.view.loc (d : Thread nD τ) ↦[rset M (b t) (k t)]{q} f)))).trans ?_
    iintro ⟨%fs, H⟩
    ihave H := (bigSep_pure_sep Finset.univ _ _) $$ H
    icases H with ⟨%hfs, H⟩
    ihave H := (pointsTo_biUnion_join Finset.univ (fun t => rset M (b t) (k t)) fs f₀ hd) $$ H
    icases H with ⟨%g, %hg, H⟩
    iexists g
    isplitr
    · ipureintro
      intro i hi
      have hi' := mem_rows.mp hi
      obtain ⟨t, ht⟩ := hcov _ hi'.1 hi'.2
      have hi2 : i ∈ rows N (b t) (k t) := mem_rows.mpr ht
      have e1 := hg t (Finset.mem_univ t) (M.view.emb i) (Finset.mem_map_of_mem _ hi2)
      have e2 := hfs t (Finset.mem_univ t) i hi2
      have := hsub t
      rw [View.read_apply, e1]
      rw [View.read_apply] at e2
      rw [e2]
      unfold sh
      congr 1
      omega
    · rw [rset_biUnion M r n b k hsub hcov]
      iexact H
  exact BI.equiv_iff.mp ⟨h1, h2⟩

include hsub hcov hdis in
/-- The same for runs of which nothing is said. -/
theorem anyR_family :
    anyR (F := F) M d r n = bigSep Finset.univ fun t => anyR M d (b t) (k t) := by
  classical
  have hd : ∀ t ∈ (Finset.univ : Finset T), ∀ t' ∈ (Finset.univ : Finset T), t ≠ t' → Disjoint (rset M (b t) (k t)) (rset M (b t') (k t')) :=
    fun t _ t' _ h => rset_disjoint M b k hdis t t' h
  have h1 : anyR (F := F) M d r n ⊢ bigSep Finset.univ fun t => anyR M d (b t) (k t) := by
    unfold anyR
    iintro ⟨%f, H⟩
    have e : (M.view.loc (d : Thread nD τ) ↦[rset M r n]{fullShare} f : sProp 𝕄)
        ⊢ bigSep Finset.univ fun t => iprop(∃ f : Buf (Elt F) (M.view.loc (d : Thread nD τ)), (M.view.loc (d : Thread nD τ) ↦[rset M (b t) (k t)]{fullShare} f)) := by
      rw [rset_biUnion M r n b k hsub hcov]
      refine (Entails.of_eq (pointsTo_biUnion _ _ hd)).trans (bigSep_mono fun t _ => ?_)
      show (M.view.loc (d : Thread nD τ) ↦[rset M (b t) (k t)]{fullShare} f : sProp 𝕄) ⊢ _
      iintro H
      iexists f
      iexact H
    iapply e
    iexact H
  have h2 : (bigSep Finset.univ fun t => anyR (F := F) M d (b t) (k t)) ⊢ anyR M d r n := by
    unfold anyR
    have f₀ : Buf (Elt F) (M.view.loc (d : Thread nD τ)) := fun _ => Classical.arbitrary _
    haveI : Nonempty (Buf (Elt F) (M.view.loc (d : Thread nD τ))) := ⟨f₀⟩
    refine (bigSep_exists_pi Finset.univ (fun t (f : Buf (Elt F) (M.view.loc (d : Thread nD τ))) => iprop((M.view.loc (d : Thread nD τ) ↦[rset M (b t) (k t)]{fullShare} f)))).trans ?_
    iintro ⟨%fs, H⟩
    ihave H := (pointsTo_biUnion_join Finset.univ (fun t => rset M (b t) (k t)) fs f₀ hd) $$ H
    icases H with ⟨%g, %hg, H⟩
    iexists g
    rw [rset_biUnion M r n b k hsub hcov]
    iexact H
  exact BI.equiv_iff.mp ⟨h1, h2⟩

end Family

/-! ## Two runs -/

/-- Two adjoining runs are one. -/
theorem region_two (d : Dev nD) (r a b : ℕ) (q : PosShare TreeShare) (W : Tab F) :
    region M d r (a + b) q W = iprop(region M d r a q W ∗ region M d (r + a) b q (sh a W)) := by
  rw [region_family M d r (a + b) q (fun t : Bool => bif t then r else r + a) (fun t => bif t then a else b)
    (by rintro (_ | _) <;> simp <;> omega)
    (fun i h1 h2 => if h : i < r + a then ⟨true, by simpa using ⟨h1, h⟩⟩ else ⟨false, by simp; omega⟩)
    (by rintro (_ | _) (_ | _) i <;> simp <;> omega)]
  rw [bigSep_univ_eq_bigSepL [true, false] (by decide) (by decide)]
  simp only [bigSepL_cons_cons, bigSepL_singleton, cond_true, cond_false, Nat.sub_self, Nat.add_sub_cancel_left]
  have : sh 0 W = W := by funext i j; simp [sh]
  rw [this]
  rfl

theorem anyR_two (d : Dev nD) (r a b : ℕ) :
    anyR (F := F) M d r (a + b) = iprop(anyR M d r a ∗ anyR M d (r + a) b) := by
  rw [anyR_family M d r (a + b) (fun t : Bool => bif t then r else r + a) (fun t => bif t then a else b)
    (by rintro (_ | _) <;> simp <;> omega)
    (fun i h1 h2 => if h : i < r + a then ⟨true, by simpa using ⟨h1, h⟩⟩ else ⟨false, by simp; omega⟩)
    (by rintro (_ | _) (_ | _) i <;> simp <;> omega)]
  rw [bigSep_univ_eq_bigSepL [true, false] (by decide) (by decide)]
  rfl

/-! ## Runs as the program names them: slices of the memref at an offset -/

section Slice
variable (d : Dev nD) {r n : ℕ} {off : Fin 2 → ℕ} (hoff : off = ![r, 0]) (hin : ∀ a, off a + (mat n).size a ≤ (mat N).size a)

/-- The memref of the run at an offset. -/
abbrev cut : Memref sig .tc .vmem (mat n) .f32 := M.slice (Rect.unit (s := mat N) off (mat n).size hin) (fun _ => rfl)

include hoff in
omit [FloatOps F] in
theorem cut_set : (cut M hin).view.set = rset M r n := by
  subst hoff
  show (M.view.slice _).set = _
  rw [View.set_slice]
  unfold rset
  congr 1
  ext i
  rw [Rect.mem_set_unit, mem_rows]
  constructor
  · intro h
    have := h 0
    simpa using this
  · intro h a
    match a with
    | 0 => simpa using h
    | 1 => have := (i 1).isLt; simp at this ⊢; omega

include hoff in
omit [FloatOps F] in
/-- What the slice reads is the table's first rows. -/
theorem cut_read (f : Buf (Elt F) (M.view.loc (d : Thread nD τ))) (W : Tab F) :
    (∀ i : (mat N).Idx, i ∈ rows N r n → M.view.read (Elt F) f i = W ((i 0).val - r) (i 1).val)
      ↔ (cut M hin).view.read (Elt F) f = blk n W := by
  subst hoff
  constructor
  · intro h
    funext x
    have h1 := h ((Rect.unit (s := mat N) ![r, 0] (mat n).size hin).emb x) (mem_rows.mpr (by
      have := (x 0).isLt
      simp [Rect.emb_apply] at this ⊢
      omega))
    refine Eq.trans ?_ (h1.trans ?_)
    · rfl
    · unfold blk
      simp [Rect.emb_apply]
  · intro h i hi
    have hi' := mem_rows.mp hi
    have h1 := (i 1).isLt
    let x : (mat n).Idx := fun a => match a with
      | 0 => ⟨(i 0).val - r, by show _ < n; omega⟩
      | 1 => ⟨(i 1).val, h1⟩
    have hx : (Rect.unit (s := mat N) ![r, 0] (mat n).size hin).emb x = i := by
      funext a
      refine Fin.ext ?_
      rw [Rect.emb_apply]
      match a with
      | 0 => show r + 1 * ((i 0).val - r) = (i 0).val; omega
      | 1 => show 0 + 1 * (i 1).val = (i 1).val; omega
    have := congrFun h x
    rw [← hx]
    refine Eq.trans this ?_
    unfold blk
    simp [Rect.emb_apply]

include hoff in
omit [FloatOps F] in
/-- A run is what the program's slice owns. -/
theorem region_cut (q) (W : Tab F) :
    region M d r n q W = owns (d : Thread nD τ) (cut M hin) q (blk n W) := by
  unfold region owns
  simp only [cut_read M d hoff hin, cut_set M hoff hin]

include hoff in
omit [FloatOps F] in
theorem anyR_cut :
    anyR (F := F) M d r n = iprop(∃ f : Buf (Elt F) (M.view.loc (d : Thread nD τ)), ((cut M hin).view.loc (d : Thread nD τ) ↦[(cut M hin).view.set]{fullShare} f)) := by
  unfold anyR
  simp only [cut_set M hoff hin]

end Slice

end Cert.KernelIdeal.Halving
-- ==== Proof.Proto.lean ====
/-
# `Proto`: the messages, the semaphores they raise, and what each raise hands over

A device sends thirteen messages in each of the three partitions: six while the sums are halved down to one region
per device, seven while the finished regions are spread. A message is named by its partition and its number; its
number fixes the stage (which partner), the region sent, and where it lands. Regions and devices are named relative
to the device that looks, by the set of stages whose masks are applied (bit 0 for the first stage, and so on).
-/
module

public import proofs.«01_k».proof.Proof.Region

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and regions by sets of stages -/

/-- The mask of a set of stages. -/
def xm (p : Fin 3) (s : Fin 8) : Dev nD :=
  pr (pr (if s.val % 2 = 1 then msk p 0 else 0) (if s.val / 2 % 2 = 1 then msk p 1 else 0)) (if s.val / 4 = 1 then msk p 2 else 0)

/-- The device that the set of stages `s` leads to from `c`. -/
def dev (p : Fin 3) (s : Fin 8) (c : Dev nD) : Dev nD := pr c (xm p s)

/-- The set of stages that two sets lead to together. -/
def sx (s t : Fin 8) : Fin 8 := ⟨(s.val ^^^ t.val) % 8, Nat.mod_lt _ (by decide)⟩

theorem dev_dev (p : Fin 3) (s t : Fin 8) (c : Dev nD) : dev p s (dev p t c) = dev p (sx s t) c := by
  revert p s t c; decide +kernel
theorem dev_zero (p : Fin 3) (c : Dev nD) : dev p 0 c = c := by revert p c; decide +kernel
theorem dev_self (p : Fin 3) (s : Fin 8) (c : Dev nD) : dev p s (dev p s c) = c := by revert p s c; decide +kernel

/-- The stage's own set. -/
def one : Fin 3 → Fin 8
  | 0 => 1
  | 1 => 2
  | 2 => 4

/-! ## The messages -/

/-- The stage whose partner a message goes to. -/
def st : Fin 13 → Fin 3
  | 0 | 1 | 8 | 9 | 10 | 11 | 12 => 0
  | 2 | 3 | 6 | 7 => 1
  | 4 | 5 => 2

/-- Whether the message carries a partial sum (and not a finished region). -/
def isRS : Fin 13 → Bool
  | 0 | 1 | 2 | 3 | 4 | 12 => true
  | _ => false

/-- The region a message carries, seen from its sender (for message 0 the pair that holds it). -/
def sc : Fin 13 → Fin 8
  | 0 => 3
  | 1 => 5
  | 2 => 6
  | 3 => 2
  | 4 => 4
  | 5 => 0
  | 6 => 0
  | 7 => 4
  | 8 => 0
  | 9 => 4
  | 10 => 2
  | 11 => 6
  | 12 => 1

/-- The partner, as a set of stages. -/
def pm (mid : Fin 13) : Fin 8 := one (st mid)

/-- The region a message carries, seen from its receiver. -/
def tc (mid : Fin 13) : Fin 8 := sx (sc mid) (pm mid)

/-- How many regions the message spans. -/
def nr : Fin 13 → ℕ
  | 0 => 2
  | _ => 1

/-- How many rows the message carries. -/
def len (p : Fin 3) (mid : Fin 13) : ℕ := nr mid * u p

theorem len_pos (p : Fin 3) (mid : Fin 13) : 0 < len p mid := by revert p mid; decide

/-- Where in the landing buffer of partial sums a message lands, in regions. -/
def sec : Fin 13 → ℕ
  | 0 => 0
  | 1 => 2
  | 12 => 3
  | 2 => 4
  | 3 => 5
  | 4 => 6
  | _ => 0

/-- The level of the message's receive semaphore: a device that waits for a message has only messages of higher
    levels left to send. -/
def lvl : Fin 13 → ℕ
  | 0 | 1 | 12 => 2
  | 2 | 3 => 3
  | 4 => 4
  | 5 | 6 | 8 => 5
  | 7 | 9 => 6
  | 10 | 11 => 7

/-- The first row of what device `e` names: its own region, or for message 0 the pair that holds it. -/
def row (p : Fin 3) (mid : Fin 13) (e : Dev nD) : ℕ := base p (if nr mid = 2 then lo p e else e)

/-! ## Buffers -/

abbrev pM : Memref sig .tc .vmem (mat 4096) .f32 := Memref.whole cc0_scratch0
abbrev oM : Memref sig .tc .vmem (mat 4096) .f32 := Memref.whole cc0_stg3_0

/-- The landing buffer of the partial sums of a partition. -/
@[reducible] def rsM : (p : Fin 3) → Memref sig .tc .vmem (mat (7 * u p)) .f32
  | 0 => (Memref.whole cc0_scratch1 : Memref sig .tc .vmem (mat 1176) .f32)
  | 1 => (Memref.whole cc0_scratch2 : Memref sig .tc .vmem (mat 1176) .f32)
  | 2 => (Memref.whole cc0_scratch3 : Memref sig .tc .vmem (mat 1232) .f32)

/-- The buffer of copies that a partition's finished regions are forwarded from. -/
@[reducible] def fwM : (p : Fin 3) → Memref sig .tc .vmem (mat (3 * u p)) .f32
  | 0 => (Memref.whole cc0_scratch4 : Memref sig .tc .vmem (mat 504) .f32)
  | 1 => (Memref.whole cc0_scratch5 : Memref sig .tc .vmem (mat 504) .f32)
  | 2 => (Memref.whole cc0_scratch6 : Memref sig .tc .vmem (mat 528) .f32)

/-- The credit of a transfer of `n` rows. -/
def amt (n : ℕ) : ℕ := Ref.dmaCredit cc0_scratch0 (mat n) .f32

theorem amt_cut {N : ℕ} (M : Memref sig .tc .vmem (mat N) .f32) {n : ℕ} {off : Fin 2 → ℕ} (h) : (cut M (n := n) (off := off) h).view.dmaCredit = amt n := rfl

theorem amt_pos {n : ℕ} (h : 0 < n) : 0 < amt n :=
  sig.dmaCredit_pos _ _ cc0_scratch0.idx (mat n) .f32 (by
    show 0 < ∏ a, ![n, 512] a
    rw [Fin.prod_univ_two]
    exact Nat.mul_pos h (by show 0 < 512; decide))

/-! ## Semaphores -/

/-- The runtime's barrier semaphore. -/
abbrev barS : Sem sig := (SemArray.scalar (sig.barrier 0 rfl) : Sems sig S_).sem

/-- A device's semaphores of the protocol: the barrier (`none`); of every message its send (`false`) and receive
    (`true`) semaphore. -/
abbrev Cid : Type := Option (Bool × Fin 3 × Fin 13)

def sndS (p : Fin 3) (mid : Fin 13) : DmaSem sig := (⟨4 + 13 * p.val + mid.val, by omega⟩ : Fin 82)
def rcvS (p : Fin 3) (mid : Fin 13) : DmaSem sig := (⟨43 + 13 * p.val + mid.val, by omega⟩ : Fin 82)

def csem : Cid → SemLoc sig
  | none => .reg barS
  | some (false, p, mid) => .dma (sndS p mid)
  | some (true, p, mid) => .dma (rcvS p mid)

/-- Which semaphore of the protocol one is. -/
def dec : SemLoc sig → Option Cid
  | .reg s => if s = barS then some none else none
  | .dma q =>
    let n := (q : Fin 82).val
    if h : 4 ≤ n ∧ n < 43 then some (some (false, ⟨(n - 4) / 13, by omega⟩, ⟨(n - 4) % 13, by omega⟩))
    else if h : 43 ≤ n ∧ n < 82 then some (some (true, ⟨(n - 43) / 13, by omega⟩, ⟨(n - 43) % 13, by omega⟩))
    else none

theorem dec_csem (k : Cid) : dec (csem k) = some k := by revert k; decide +kernel
theorem csem_injective : Function.Injective csem := fun a b h => by
  have := congrArg dec h; rw [dec_csem, dec_csem] at this; exact Option.some.inj this

abbrev cellOf' (c : Dev nD) (k : Cid) : GSem nD τ sig := ((c : Thread nD τ), csem k)
abbrev barC (c : Dev nD) : GSem nD τ sig := cellOf' c none
abbrev sndC (c : Dev nD) (p : Fin 3) (mid : Fin 13) : GSem nD τ sig := cellOf' c (some (false, p, mid))
abbrev rcvC (c : Dev nD) (p : Fin 3) (mid : Fin 13) : GSem nD τ sig := cellOf' c (some (true, p, mid))

/-! ## Values -/

variable (P : Dev nD → Tab F)

/-- What device `c` holds after `l` stages of partition `p`, where `P` gives the partial products. -/
def val (p : Fin 3) : ℕ → Dev nD → Tab F
  | 0, c => P c
  | l + 1, c => fun i j => FloatOps.addf (val p l c i j) (val p l (dev p (one (Fin.ofNat 3 l)) c) i j)

/-! ## Shares of a finished region that is being read by several transfers -/

/-- What is left of the full share after `j` transfers were started. -/
def rem : ℕ → PosShare TreeShare
  | 0 => fullShare
  | j + 1 => (rem j).right

/-- The share of transfer `j`. -/
def part (j : ℕ) : PosShare TreeShare := (rem j).left

/-- The place of a message among those that read the same run. -/
def ord : Fin 13 → ℕ
  | 6 => 1
  | 8 => 2
  | 9 => 1
  | _ => 0

/-- For a forwarded message, the copy it is sent from. -/
def fk : Fin 13 → Fin 3
  | 10 => 1
  | 11 => 2
  | _ => 0

/-- Whether a finished region is sent from the place where it was summed. -/
def direct : Fin 13 → Bool
  | 5 | 6 | 8 => true
  | _ => false

/-- The rows of `val`'s table that message `mid` carries between regions of device `e`. -/
abbrev valAt (p : Fin 3) (l : ℕ) (r : ℕ) (d : Dev nD) : Tab F := sh r (val P p l d)

/-- The run a finished region is sent from. -/
def srcAG (c : Dev nD) (p : Fin 3) (mid : Fin 13) (q : PosShare TreeShare) : sProp 𝕄 :=
  if direct mid then region pM c (base p (dev p 0 c)) (u p) q (valAt P p 3 (base p (dev p 0 c)) (dev p 0 c))
  else region (fwM p) c ((fk mid).val * u p) (u p) q (valAt P p 3 (base p (dev p (sc mid) c)) (dev p (sc mid) c))

/-! ## What raises hand over -/

/-- A message that arrived: a partial sum in its landing section and the run it was sent from, which a finished
    region will be written to; or a finished region in place. -/
def rcvPay (c : Dev nD) (p : Fin 3) (mid : Fin 13) : sProp 𝕄 :=
  if isRS mid then
    iprop(region (rsM p) c (sec mid * u p) (len p mid) fullShare (valAt P p (st mid).val (row p mid (dev p (tc mid) c)) (dev p (pm mid) c))
      ∗ anyR pM (dev p (pm mid) c) (row p mid (dev p (tc mid) c)) (len p mid))
  else region pM c (base p (dev p (tc mid) c)) (u p) fullShare (valAt P p 3 (base p (dev p (tc mid) c)) (dev p (tc mid) c))

/-- A message that left: a partial sum's run went with it, a finished region's share comes back. -/
def sndPay (c : Dev nD) (p : Fin 3) (mid : Fin 13) : sProp 𝕄 :=
  if isRS mid then iprop(emp) else srcAG P c p mid (part (ord mid))

/-- The three masks, in the order of the barrier's signals. -/
def bm : Fin 3 → Dev nD
  | 0 => 1
  | 1 => 3
  | 2 => 4

/-- The stage of partition `p` with the mask of signal `d`. -/
def stg : Fin 3 → Fin 3 → Fin 3
  | 0, d => d
  | 1, 0 => 2
  | 1, 1 => 0
  | 1, 2 => 1
  | 2, 0 => 1
  | 2, 1 => 2
  | 2, 2 => 0

/-- The messages of partial sums of a stage. -/
def rsMids : Fin 3 → List (Fin 13)
  | 0 => [0, 1, 12]
  | 1 => [2, 3]
  | 2 => [4]

/-- The landing sections on device `c` of the messages of stage `i` of partition `p`. -/
def rsSecs (c : Dev nD) (p i : Fin 3) : sProp 𝕄 :=
  bigSepL (rsMids i) fun mid => anyR (F := F) (rsM p) c (sec mid * u p) (len p mid)

/-- What the partner of mask `bm d` hands over when it enters: the landing sections for the messages it will get from `c`. -/
def barPay (c : Dev nD) (d : Fin 3) : sProp 𝕄 :=
  bigSepL [0, 1, 2] fun p => rsSecs (F := F) (pr c (bm d)) p (stg p d)

def pay (c : Dev nD) : Cid → Fin 3 → sProp 𝕄
  | none, d => barPay (F := F) c d
  | some (false, p, mid), _ => sndPay P c p mid
  | some (true, p, mid), _ => rcvPay P c p mid

omit [FloatOps F] in
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; show BI.Storable upEmb (iprop(emp) : sProp 𝕄); infer_instance
  | cons i l ih =>
    rw [bigSepL_cons]
    have := h i
    show BI.Storable upEmb (iprop(Φ i ∗ bigSepL l Φ) : sProp 𝕄)
    infer_instance
omit [FloatOps F] in
instance rsSecs_storable (c : Dev nD) (p i) : BI.Storable (upEmb : UEmb _ 𝕄) (rsSecs (F := F) c p i) :=
  bigSepL_storable _ _ fun _ => inferInstance
omit [FloatOps F] in
instance barPay_storable (c : Dev nD) (d) : BI.Storable (upEmb : UEmb _ 𝕄) (barPay (F := F) c d) :=
  bigSepL_storable _ _ fun _ => inferInstance
instance pay_storable (c : Dev nD) (k : Cid) (d : Fin 3) : BI.Storable (upEmb : UEmb _ 𝕄) (pay P c k d) := by
  unfold pay sndPay rcvPay srcAG
  (repeat' split) <;> infer_instance

/-- The protocol: one round; a barrier semaphore is raised by the three partners, one unit each; a message's
    semaphores by its transfer. -/
def Rd : Rounds.Schedule (GSem nD τ sig) (Fin 3) 𝕄 where
  duties g r := if r = 0 ∧ g.1.2 = .tc then (match dec g.2 with | some none => Finset.univ | some (some _) => {0} | none => ∅) else ∅
  unitless _ := False
  amount g _ _ := match dec g.2 with | some (some (_, p, mid)) => amt (len p mid) | _ => 1
  payload g _ d := match dec g.2 with | some k => pay P g.1.1 k d | none => iprop(emp)
  amount_pos g _ _ _ := by
    split
    · rename_i p mid _; exact amt_pos (len_pos p mid)
    · exact Nat.one_pos

instance Rd_payload_storable (g : GSem nD τ sig) (r : ℕ) (d : Fin 3) :
    BI.Storable (upEmb : UEmb _ 𝕄) ((Rd P).payload g r d) := by
  show BI.Storable upEmb (match dec g.2 with | some k => pay P g.1.1 k d | none => iprop(emp))
  split <;> infer_instance

section Sched
variable (c : Dev nD) (p : Fin 3) (mid : Fin 13)

theorem duties_bar : (Rd P).duties (barC c) 0 = Finset.univ := by
  dsimp only [Rd]; rw [if_pos ⟨rfl, rfl⟩, dec_csem]
theorem duties_msg (b : Bool) : (Rd P).duties (cellOf' c (some (b, p, mid))) 0 = {0} := by
  dsimp only [Rd]; rw [if_pos ⟨rfl, rfl⟩, dec_csem]
theorem duties_later (g : GSem nD τ sig) : ∀ r, 1 ≤ r → (Rd P).duties g r = ∅ :=
  fun r hr => by dsimp only [Rd]; rw [if_neg fun h => by omega]
theorem amount_bar (d : Fin 3) : (Rd P).amount (barC c) 0 d = 1 := by dsimp only [Rd]; rw [dec_csem]
theorem amount_msg (b : Bool) (d : Fin 3) : (Rd P).amount (cellOf' c (some (b, p, mid))) 0 d = amt (len p mid) := by
  dsimp only [Rd]; rw [dec_csem]
theorem expect_bar : (Rd P).expect (barC c) 0 = 3 := by
  unfold Schedule.expect Schedule.amountOf
  rw [duties_bar, Finset.sum_congr rfl fun d _ => amount_bar P c d, Finset.sum_const, Finset.card_univ, Fintype.card_fin, smul_eq_mul]
theorem expect_msg (b : Bool) : (Rd P).expect (cellOf' c (some (b, p, mid))) 0 = amt (len p mid) := by
  unfold Schedule.expect Schedule.amountOf; rw [duties_msg, Finset.sum_singleton, amount_msg]
theorem payload_eq (k : Cid) (d : Fin 3) : (Rd P).payload (cellOf' c k) 0 d = pay P c k d := by
  dsimp only [Rd]; rw [dec_csem]
theorem rest_msg (b : Bool) : bigSep ((Rd P).duties (cellOf' c (some (b, p, mid))) 0 \ ∅) (fun d => (Rd P).payload (cellOf' c (some (b, p, mid))) 0 d)
    = pay P c (some (b, p, mid)) 0 := by
  rw [Finset.sdiff_empty, duties_msg, bigSep_singleton, payload_eq]
theorem rest_bar : bigSep ((Rd P).duties (barC c) 0 \ ∅) (fun d => (Rd P).payload (barC c) 0 d)
    = bigSepL [0, 1, 2] fun d => barPay (F := F) c d := by
  rw [Finset.sdiff_empty, duties_bar, bigSep_univ_eq_bigSepL [0, 1, 2] (by decide) (by decide)]
  simp only [payload_eq]
  rfl

end Sched

end Cert.KernelIdeal.Halving
-- ==== Proof.State.lean ====
/-
# `State`: what a device holds at each point of its program

Between the barrier and its end a device's program is a list of steps: start a message, wait for one, add a partial
sum, copy a run. What the device holds is a list of `At`s; a step takes some of them and leaves others. That every
step finds what it takes, that no wait is below what is still to be sent, and what is left at the end, is computed
from the list, once for all devices since regions and partners are named relative to the device.
-/
module

public import proofs.«01_k».proof.Proof.Proto

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A share, by name. -/
inductive Sh
  | rem (j : ℕ)
  | part (j : ℕ)
  deriving DecidableEq

def Sh.q : Sh → PosShare TreeShare
  | .rem j => Halving.rem j
  | .part j => Halving.part j

/-- A thing held. -/
inductive At
  /-- the region `s` of the sum buffer, holding the sum of stage `l` of device `v` -/
  | pO (p : Fin 3) (s : Fin 8) (q : Sh) (l : ℕ) (v : Fin 8)
  /-- the pair that holds region `s`, in the sum buffer, holding this device's sum of stage `l` -/
  | pP (p : Fin 3) (s : Fin 8) (l : ℕ)
  /-- the region `s` of the sum buffer of device `d` -/
  | pAny (p : Fin 3) (s d : Fin 8)
  /-- the pair that holds region `s` of the sum buffer of device `d` -/
  | pAnyP (p : Fin 3) (s d : Fin 8)
  /-- the landing section of a message, on its receiver -/
  | rsAny (p : Fin 3) (mid : Fin 13)
  /-- a message's landing section, arrived -/
  | rsFull (p : Fin 3) (mid : Fin 13)
  /-- a forwarding section -/
  | fwAny (p : Fin 3) (k : Fin 3)
  /-- a forwarding section, filled -/
  | fwFull (p : Fin 3) (k : Fin 3) (q : Sh)
  /-- a region of the result -/
  | outAny (p : Fin 3) (s : Fin 8)
  /-- a region of the result, written -/
  | outFull (p : Fin 3) (s : Fin 8)
  /-- the right to send a message -/
  | tok (p : Fin 3) (mid : Fin 13)
  /-- the send semaphore of a message, not waited for -/
  | aS (p : Fin 3) (mid : Fin 13)
  /-- the receive semaphore of a message, not waited for -/
  | aR (p : Fin 3) (mid : Fin 13)
  /-- the right to wait for a send -/
  | cS (p : Fin 3) (mid : Fin 13)
  /-- the send semaphore, waited for -/
  | dS (p : Fin 3) (mid : Fin 13)
  /-- the receive semaphore, waited for -/
  | dR (p : Fin 3) (mid : Fin 13)
  deriving DecidableEq

/-- The finished region a forwarding section copies. -/
def fwS : Fin 3 → Fin 8
  | 0 => 4
  | 1 => 2
  | 2 => 6

variable (P : Dev nD → Tab F)

/-- What an `At` says on device `c`. -/
def interp (c : Dev nD) : At → sProp 𝕄
  | .pO p s q l v => region pM c (base p (dev p s c)) (u p) q.q (valAt P p l (base p (dev p s c)) (dev p v c))
  | .pP p s l => region pM c (base p (lo p (dev p s c))) (2 * u p) fullShare (valAt P p l (base p (lo p (dev p s c))) c)
  | .pAny p s d => anyR pM (dev p d c) (base p (dev p s c)) (u p)
  | .pAnyP p s d => anyR pM (dev p d c) (base p (lo p (dev p s c))) (2 * u p)
  | .rsAny p mid => anyR (rsM p) (dev p (pm mid) c) (sec mid * u p) (len p mid)
  | .rsFull p mid => region (rsM p) c (sec mid * u p) (len p mid) fullShare (valAt P p (st mid).val (row p mid (dev p (tc mid) c)) (dev p (pm mid) c))
  | .fwAny p k => anyR (fwM p) c (k.val * u p) (u p)
  | .fwFull p k q => region (fwM p) c (k.val * u p) (u p) q.q (valAt P p 3 (base p (dev p (fwS k) c)) (dev p (fwS k) c))
  | .outAny p s => anyR oM c (base p (dev p s c)) (u p)
  | .outFull p s => region oM c (base p (dev p s c)) (u p) fullShare (valAt P p 3 (base p (dev p s c)) (dev p s c))
  | .tok p mid => iprop(dutyTok ER (sndC c p mid) 0 0 ∗ dutyTok ER (rcvC (dev p (pm mid) c) p mid) 0 0)
  | .aS p mid => atPos ER (sndC c p mid) 0 ∅ 0
  | .aR p mid => iprop(atPos ER (rcvC c p mid) 0 ∅ 0 ∗ cred (tallyAt (rcvC c p mid) () (amt (len p mid))))
  | .cS p mid => cred (tallyAt (sndC c p mid) () (amt (len p mid)))
  | .dS p mid => atPos ER (sndC c p mid) 1 ∅ 0
  | .dR p mid => atPos ER (rcvC c p mid) 1 ∅ 0

/-! ## Steps -/

/-- A step of the program, or (`unpair`, `unpairAny`, `merge`) a change of view without an operation. -/
inductive Ins
  | send (p : Fin 3) (mid : Fin 13)
  | waitR (p : Fin 3) (mid : Fin 13)
  | acc (p : Fin 3) (mid : Fin 13)
  | fwd (p : Fin 3) (k : Fin 3)
  | copy (p : Fin 3) (s : Fin 8)
  | waitS (p : Fin 3) (mid : Fin 13)
  | unpair (p : Fin 3)
  | unpairAny (p : Fin 3)
  | mergeP (p : Fin 3) (j : ℕ)
  | mergeF (p : Fin 3) (k : Fin 3) (j : ℕ)
  deriving DecidableEq

/-- The run a partial sum is sent from. -/
def srcRS (p : Fin 3) (mid : Fin 13) : At :=
  if nr mid = 2 then .pP p (sc mid) 0 else .pO p (sc mid) (.rem 0) (st mid).val 0

/-- The run a finished region is sent from. -/
def srcA (p : Fin 3) (mid : Fin 13) (q : Sh) : At :=
  if direct mid then .pO p 0 q 3 0 else .fwFull p (fk mid) q

/-- The run a partial sum is added to, at stage `l`. -/
def tgt (p : Fin 3) (mid : Fin 13) (l : ℕ) : At :=
  if nr mid = 2 then .pP p (tc mid) l else .pO p (tc mid) (.rem 0) l 0

/-- The share of a finished region that is left when it is copied to the result. -/
def left (s : Fin 8) : ℕ := if s = 0 then 3 else 0

/-- What a step takes. -/
def pre : Ins → List At
  | .send p mid => if isRS mid then [srcRS p mid, .rsAny p mid, .tok p mid]
      else [srcA p mid (.rem (ord mid)), .pAny p (sc mid) (pm mid), .tok p mid]
  | .waitR p mid => [.aR p mid]
  | .acc p mid => [tgt p mid (st mid).val, .rsFull p mid]
  | .fwd p k => [.pO p (fwS k) (.rem 0) 3 (fwS k), .fwAny p k]
  | .copy p s => [.pO p s (.rem (left s)) 3 s, .outAny p s]
  | .waitS p mid => [.aS p mid, .cS p mid]
  | .unpair p => [.pP p 2 1]
  | .unpairAny p => [.pAnyP p 2 1]
  | .mergeP p j => [.pO p 0 (.part j) 3 0, .pO p 0 (.rem (j + 1)) 3 0]
  | .mergeF p k j => [.fwFull p k (.part j), .fwFull p k (.rem (j + 1))]

/-- What a step leaves. -/
def post : Ins → List At
  | .send p mid => if isRS mid then [.cS p mid] else [srcA p mid (.rem (ord mid + 1)), .cS p mid]
  | .waitR p mid => if isRS mid then [.dR p mid, .rsFull p mid, if nr mid = 2 then .pAnyP p (tc mid) (pm mid) else .pAny p (tc mid) (pm mid)]
      else [.dR p mid, .pO p (tc mid) (.rem 0) 3 (tc mid)]
  | .acc p mid => [tgt p mid ((st mid).val + 1), .rsFull p mid]
  | .fwd p k => [.pO p (fwS k) (.rem 0) 3 (fwS k), .fwFull p k (.rem 0)]
  | .copy p s => [.pO p s (.rem (left s)) 3 s, .outFull p s]
  | .waitS p mid => if isRS mid then [.dS p mid] else [.dS p mid, srcA p mid (.part (ord mid))]
  | .unpair p => [.pO p 2 (.rem 0) 1 0, .pO p 6 (.rem 0) 1 0]
  | .unpairAny p => [.pAny p 2 1, .pAny p 6 1]
  | .mergeP p j => [.pO p 0 (.rem j) 3 0]
  | .mergeF p k j => [.fwFull p k (.rem j)]

/-- The message a step starts. -/
def sends : Ins → Option (Fin 3 × Fin 13)
  | .send p mid => some (p, mid)
  | _ => none

/-- The level of the semaphore a step waits for. -/
def waits : Ins → Option ℕ
  | .waitR _ mid => some (lvl mid)
  | .waitS _ _ => some 0
  | _ => none

def ps : List (Fin 3) := [0, 1, 2]

/-- The program, after the barrier. -/
def instrs : List Ins :=
  ps.flatMap (fun p => [.send p 0, .send p 1, .send p 12])
  ++ ps.flatMap (fun p => [.waitR p 0, .unpairAny p, .acc p 0, .unpair p, .send p 2, .send p 3])
  ++ ps.flatMap (fun p => [.waitR p 1, .acc p 1])
  ++ ps.flatMap (fun p => [.waitR p 2, .acc p 2, .send p 4])
  ++ ps.flatMap (fun p => [.waitR p 12, .acc p 12])
  ++ ps.flatMap (fun p => [.waitR p 3, .acc p 3])
  ++ ps.flatMap (fun p => [.waitR p 4, .acc p 4, .send p 5, .send p 6, .send p 8])
  ++ ps.flatMap (fun p => [.copy p 0])
  ++ ps.flatMap (fun p => [.waitR p 5, .fwd p 0, .send p 7, .send p 9])
  ++ ps.flatMap (fun p => [.copy p 4])
  ++ ps.flatMap (fun p => [.waitR p 6, .fwd p 1, .send p 10])
  ++ ps.flatMap (fun p => [.waitR p 7, .fwd p 2, .send p 11])
  ++ ps.flatMap (fun p => [.copy p 2, .copy p 6])
  ++ ps.flatMap (fun p => [.waitR p 8, .copy p 1])
  ++ ps.flatMap (fun p => [.waitR p 9, .copy p 5])
  ++ ps.flatMap (fun p => [.waitR p 10, .copy p 3])
  ++ ps.flatMap (fun p => [.waitR p 11, .copy p 7])
  ++ ps.flatMap (fun p => (List.finRange 13).map (fun mid => .waitS p mid))
  ++ ps.flatMap (fun p => [.mergeP p 2, .mergeP p 1, .mergeP p 0, .mergeF p 0 1, .mergeF p 0 0, .mergeF p 1 0, .mergeF p 2 0])

/-- What is held when the barrier is passed. -/
def S₀ : List At :=
  ps.flatMap (fun p => [At.pP p 3 0, .pP p 2 0, .pO p 5 (.rem 0) 0 0, .pO p 1 (.rem 0) 0 0, .pO p 4 (.rem 0) 0 0, .pO p 0 (.rem 0) 0 0])
  ++ ps.flatMap (fun p => [0, 1, 2, 3, 4, 12].map fun mid => .rsAny p mid)
  ++ ps.flatMap (fun p => (List.finRange 3).map fun k => .fwAny p k)
  ++ ps.flatMap (fun p => (List.finRange 8).map fun s => .outAny p s)
  ++ ps.flatMap (fun p => (List.finRange 13).map fun mid => .tok p mid)
  ++ ps.flatMap (fun p => (List.finRange 13).map fun mid => .aS p mid)
  ++ ps.flatMap (fun p => (List.finRange 13).map fun mid => .aR p mid)

/-- What is held at the end. -/
def S₁ : List At :=
  ps.flatMap (fun p => (List.finRange 8).map fun s => At.pO p s (.rem 0) 3 s)
  ++ ps.flatMap (fun p => [0, 1, 2, 3, 4, 12].map fun mid => .rsFull p mid)
  ++ ps.flatMap (fun p => (List.finRange 3).map fun k => .fwFull p k (.rem 0))
  ++ ps.flatMap (fun p => (List.finRange 8).map fun s => .outFull p s)
  ++ ps.flatMap (fun p => (List.finRange 13).map fun mid => .dS p mid)
  ++ ps.flatMap (fun p => (List.finRange 13).map fun mid => .dR p mid)

/-! ## The run of the list -/

/-- Take one thing out of a list. -/
def take1 (a : At) : List At → Option (List At)
  | [] => none
  | b :: l => if a = b then some l else (take1 a l).map (b :: ·)

/-- Take several. -/
def takeAll : List At → List At → Option (List At)
  | [], S => some S
  | a :: l, S => (take1 a S).bind (takeAll l)

/-- One step. -/
def step (i : Ins) (S : List At) : Option (List At) := (takeAll (pre i) S).map (post i ++ ·)

/-- Several steps. -/
def run : List Ins → List At → Option (List At)
  | [], S => some S
  | i :: l, S => (step i S).bind (run l)

/-- Whether no wait of a list of steps is at or above the level of a message started after it. -/
def waitsOk : List Ins → Bool
  | [] => true
  | i :: l => (match waits i with | some n => (l.filterMap sends).all (fun m => n < lvl m.2) | none => true) && waitsOk l

/-- The list runs, from what is held after the barrier to what is held at the end. -/
theorem run_ok : ((run instrs S₀).bind (takeAll S₁)) = some [] := by decide +kernel
theorem waits_ok : waitsOk instrs = true := by decide +kernel
theorem instrs_length : instrs.length = 195 := by decide +kernel

end Cert.KernelIdeal.Halving
-- ==== Proof.Hold.lean ====
/-
# `Hold`: the assertion between two steps

`Sk P K c k`: what device `c` holds before step `k` of its program, and what it still owes. `Sk_open` takes out what a
step needs. `mayWait` says that no wait waits, in a circle, for something its own device has yet to send.
-/
module

public import proofs.«01_k».proof.Proof.State
public import Idealize.ShloMosaic.Lib.Pipeline.BigSepL

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-! ## Levels -/

def L (g : GSem nD τ sig) : Finset Unit := if g.1.2 = .tc then {()} else ∅

/-- Barrier cells at 1, receive cells at the message's level, everything else (staging, send) at 0. -/
def lv (g : GSem nD τ sig) (_ : Unit) : ℕ :=
  match dec g.2 with
  | some none => 1
  | some (some (true, _, mid)) => lvl mid
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (p mid) : lv (rcvC c p mid) () = lvl mid := by dsimp only [lv]; rw [dec_csem]
theorem lv_snd (c : Dev nD) (p mid) : lv (sndC c p mid) () = 0 := by dsimp only [lv]; rw [dec_csem]
theorem lv_bar (c : Dev nD) : lv (barC c) () = 1 := by dsimp only [lv]; rw [dec_csem]

/-- What a message's start pays: its receiver's semaphore. -/
def due (c : Dev nD) (m : Fin 3 × Fin 13) : CellTallies nD τ sig Unit :=
  tallyAt (rcvC (dev m.1 (pm m.2) c) m.1 m.2) () (amt (len m.1 m.2))

/-- What a list of messages, not yet started, makes the device owe. -/
def Osum (c : Dev nD) : List (Fin 3 × Fin 13) → CellTallies nD τ sig Unit
  | [] => 0
  | m :: l => Osum c l + due c m

theorem Osum_pos {c : Dev nD} {l : List (Fin 3 × Fin 13)} {g : GSem nD τ sig} {x : Unit} (h : 0 < Osum c l g x) :
    ∃ m ∈ l, g = rcvC (dev m.1 (pm m.2) c) m.1 m.2 := by
  induction l with
  | nil => exact absurd h (Nat.lt_irrefl 0)
  | cons m l ih =>
    unfold Osum at h
    rw [Pi.add_apply, Finsupp.add_apply] at h
    by_cases h0 : 0 < Osum c l g x
    · obtain ⟨m', hm', he⟩ := ih h0
      exact ⟨m', List.mem_cons_of_mem _ hm', he⟩
    · refine ⟨m, List.mem_cons_self, ?_⟩
      unfold due at h
      rw [tallyAt_apply] at h
      by_contra hn
      rw [if_neg (fun h' => hn h'.1)] at h
      omega

omit [FloatOps F] in
/-- A device may wait for a semaphore below the level of everything it has yet to send. -/
theorem mayWait_of (c : Dev nD) (k : Cid) (n : ℕ) (hn : lv (cellOf' c k) () = n) (l : List (Fin 3 × Fin 13)) (h : ∀ m ∈ l, n < lvl m.2) :
    (levAts L lv : sProp 𝕄) ⊢ MayWait (c : Thread nD τ) (csem k) () (Osum c l) :=
  MayOwe.of_cut (L := L) (lev := lv) n (fun p hp => by rw [Finset.mem_singleton.mp hp, L_tc]; exact Finset.mem_singleton_self _)
    (fun g u hg => by obtain ⟨m, hm, rfl⟩ := Osum_pos hg; exact Finset.mem_singleton_self _)
    (fun p hp => by rw [Finset.mem_singleton.mp hp]; exact hn.le)
    (fun g u hg => by obtain ⟨m, hm, rfl⟩ := Osum_pos hg; rw [lv_rcv]; exact h m hm)

/-! ## Lists -/

omit [FloatOps F] in
theorem sep_swap (A B C : sProp 𝕄) : iprop(A ∗ B ∗ C) = iprop(B ∗ A ∗ C) := by
  have h : ∀ A B : sProp 𝕄, iprop(A ∗ B ∗ C) ⊢ iprop(B ∗ A ∗ C) := fun A B => by
    iintro ⟨HA, HB, HC⟩
    isplitl [HB]; · iexact HB
    isplitl [HA]; · iexact HA
    iexact HC
  exact BI.equiv_iff.mp ⟨h A B, h B A⟩

omit [FloatOps F] in
theorem sep_assoc' (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB]; · iexact HB
    iexact HC
  have h2 : iprop(A ∗ B ∗ C) ⊢ iprop((A ∗ B) ∗ C) := by
    iintro ⟨HA, HB, HC⟩
    isplitl [HA HB]
    · isplitl [HA]; · iexact HA
      iexact HB
    iexact HC
  exact BI.equiv_iff.mp ⟨h1, h2⟩

omit [FloatOps F] in
theorem emp_sep' (A : sProp 𝕄) : iprop(emp ∗ A) = A := by
  have h1 : iprop(emp ∗ A) ⊢ A := by iintro ⟨-, HA⟩; iexact HA
  have h2 : A ⊢ iprop(emp ∗ A) := by
    iintro HA
    isplitr; · iempintro
    iexact HA
  exact BI.equiv_iff.mp ⟨h1, h2⟩

omit [FloatOps F] in
theorem bigSepL_take1 (Φ : At → sProp 𝕄) {a : At} {S R : List At} (h : take1 a S = some R) :
    bigSepL S Φ = iprop(Φ a ∗ bigSepL R Φ) := by
  induction S generalizing R with
  | nil => cases h
  | cons b l ih =>
    unfold take1 at h
    split at h
    · rename_i hab
      cases h; subst hab
      exact bigSepL_cons' _ _ _
    · cases hl : take1 a l with
      | none => rw [hl] at h; cases h
      | some R' =>
        rw [hl] at h; cases h
        rw [bigSepL_cons', bigSepL_cons', ih hl, sep_swap]

omit [FloatOps F] in
theorem bigSepL_takeAll (Φ : At → sProp 𝕄) {A S R : List At} (h : takeAll A S = some R) :
    bigSepL S Φ = iprop(bigSepL A Φ ∗ bigSepL R Φ) := by
  induction A generalizing S with
  | nil =>
    cases h
    rw [bigSepL_nil]; exact (emp_sep' _).symm
  | cons a l ih =>
    unfold takeAll at h
    cases hs : take1 a S with
    | none => rw [hs] at h; cases h
    | some S' =>
      rw [hs] at h
      rw [bigSepL_take1 Φ hs, ih h, bigSepL_cons', sep_assoc']

/-! ## Before a step -/

/-- What is held before step `k`. -/
def stateAt (k : ℕ) : List At := (run (instrs.take k) S₀).getD []

theorem run_append (l l' : List Ins) (S : List At) : run (l ++ l') S = (run l S).bind (run l') := by
  induction l generalizing S with
  | nil => rfl
  | cons i l ih =>
    simp only [List.cons_append, run]
    cases step i S with
    | none => rfl
    | some S' => exact ih S'

theorem run_take (k : ℕ) : run (instrs.take k) S₀ = some (stateAt k) := by
  have h := run_ok
  rw [← List.take_append_drop k instrs, run_append] at h
  unfold stateAt
  cases h1 : run (instrs.take k) S₀ with
  | none => rw [h1] at h; cases h
  | some S => rfl

theorem stateAt_step {k : ℕ} {i : Ins} (hi : instrs[k]? = some i) : ∃ R, takeAll (pre i) (stateAt k) = some R ∧ stateAt (k + 1) = post i ++ R := by
  have h := run_take (k + 1)
  rw [List.take_add_one, hi, run_append, run_take k] at h
  simp only [Option.bind_some, Option.toList, run] at h
  cases hs : step i (stateAt k) with
  | none => rw [hs] at h; cases h
  | some S' =>
    rw [hs] at h
    unfold step at hs
    cases ht : takeAll (pre i) (stateAt k) with
    | none => rw [ht] at hs; cases hs
    | some R => rw [ht] at hs; cases hs; exact ⟨R, rfl, (Option.some.inj h).symm⟩

/-- The messages not yet started before step `k`. -/
def todo (k : ℕ) : List (Fin 3 × Fin 13) := (instrs.drop k).filterMap sends

theorem todo_step {k : ℕ} {i : Ins} (hi : instrs[k]? = some i) : todo k = (sends i).toList ++ todo (k + 1) := by
  unfold todo
  obtain ⟨hk, rfl⟩ := List.getElem?_eq_some_iff.mp hi
  rw [List.drop_eq_getElem_cons hk, List.filterMap_cons]
  cases sends instrs[k] <;> rfl

theorem waitsOk_get (l : List Ins) (h : waitsOk l = true) {k : ℕ} {i : Ins} (hi : l[k]? = some i) {n : ℕ} (hn : waits i = some n) :
    ∀ m ∈ (l.drop (k + 1)).filterMap sends, n < lvl m.2 := by
  induction l generalizing k with
  | nil => cases hi
  | cons a l ih =>
    unfold waitsOk at h
    rw [Bool.and_eq_true] at h
    cases k with
    | zero =>
      cases hi
      rw [hn] at h
      intro m hm
      have := List.all_eq_true.mp h.1 m hm
      simpa using this
    | succ k => exact ih h.2 hi

theorem waits_todo {k : ℕ} {i : Ins} (hi : instrs[k]? = some i) {n : ℕ} (hn : waits i = some n) : ∀ m ∈ todo (k + 1), n < lvl m.2 :=
  waitsOk_get instrs waits_ok hi hn

variable (P : Dev nD → Tab F) (K : Dev nD × Cid → ℕ)

/-- What every device knows: the levels, and the protocol's invariant on every semaphore of it. -/
def Inv : sProp 𝕄 :=
  iprop(levAts L lv ∗ bigSep Finset.univ fun x : Dev nD × Cid => iprop(cellInv ER (Rd P) (K x) (cellOf' x.1 x.2) ∗ reached ER (cellOf' x.1 x.2) 0))

instance Inv_persistent : BI.Persistent (Inv P K) := by unfold Inv; infer_instance

theorem Inv_cell (c : Dev nD) (k : Cid) : Inv P K ⊢ iprop(cellInv ER (Rd P) (K (c, k)) (cellOf' c k) ∗ reached ER (cellOf' c k) 0) := by
  have h : (bigSep Finset.univ fun x : Dev nD × Cid => iprop(cellInv ER (Rd P) (K x) (cellOf' x.1 x.2) ∗ reached ER (cellOf' x.1 x.2) 0))
      ⊢ iprop(cellInv ER (Rd P) (K (c, k)) (cellOf' c k) ∗ reached ER (cellOf' c k) 0) := by
    rw [bigSep_erase (Finset.mem_univ ((c, k) : Dev nD × Cid))]
    show iprop(_ ∗ _) ⊢ _
    iintro ⟨H, -⟩
    iexact H
  unfold Inv
  iintro ⟨-, H⟩
  iapply h
  iexact H

theorem Inv_lev : Inv P K ⊢ levAts L lv := by
  unfold Inv
  iintro ⟨H, -⟩
  iexact H

/-- What a device owes when the messages of a list are not yet started. -/
def owed (c : Dev nD) (l : List (Fin 3 × Fin 13)) : sProp 𝕄 := iprop(∃ W, owes (c : Thread nD τ) (Osum c l) W)

/-- What device `c` holds before step `k`. -/
def Sk (c : Dev nD) (k : ℕ) : sProp 𝕄 :=
  iprop(Inv P K ∗ owed (F := F) c (todo k) ∗ bigSepL (stateAt k) (interp P c))

/-- A step takes `pre` and leaves `post`. -/
theorem Sk_open (c : Dev nD) {k : ℕ} {i : Ins} (hi : instrs[k]? = some i) : ∃ R : sProp 𝕄,
    Sk P K c k = iprop(Inv P K ∗ owed (F := F) c (todo k) ∗ bigSepL (pre i) (interp P c) ∗ R)
    ∧ Sk P K c (k + 1) = iprop(Inv P K ∗ owed (F := F) c (todo (k + 1)) ∗ bigSepL (post i) (interp P c) ∗ R) := by
  obtain ⟨R, h1, h2⟩ := stateAt_step hi
  refine ⟨bigSepL R (interp P c), ?_, ?_⟩
  · unfold Sk; rw [bigSepL_takeAll _ h1]
  · unfold Sk; rw [h2, bigSepL_append]

end Cert.KernelIdeal.Halving
-- ==== Proof.Ops.lean ====
/-
# `Ops`: the operations, over runs of rows

Each operation of the program between the barrier and the end, as a rule over runs (`region`, `anyR`) and the
protocol's semaphores.
-/
module

public import proofs.«01_k».proof.Proof.Hold
public import Idealize.ShloMosaic.Lib.Pipeline.Value

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ)

/-! ## Loads and stores -/

section Mem
variable {N : ℕ} {M : Memref sig .tc .vmem (mat N) .f32} {c : Dev nD} {r n : ℕ} {off : Fin 2 → ℕ}
  {hin : ∀ a, off a + (mat n).size a ≤ (mat N).size a}

theorem load_region {q : PosShare TreeShare} {W : Tab F} (hoff : off = ![r, 0]) {hl : M.view.LoadsAt (Rect.unit (s := mat N) off (mat n).size hin).toLoadRect}
    {α : Type} {Q : α → sProp 𝕄} {k : ((mat n).Idx → Elt F .f32) → Prog (TpuEff nD τ sig (Elt F) Λ₀ .tc) α} :
    region M c r n q W ⊢ iprop((region M c r n q W -∗ WP c (k (blk n W)) Q)
      -∗ WP c (.op (.load M (Rect.unit (s := mat N) off (mat n).size hin).toLoadRect hl) k) Q) := by
  rw [region_cut M c hoff hin]
  unfold owns
  iintro ⟨%f, %hf, H⟩ Hk
  iapply (wp_load_rect 𝒱₀ (c : Thread nD τ) none Set.univ (m := M) (r := Rect.unit (s := mat N) off (mat n).size hin)
    (S := (cut M hin).view.set) (q := q) (f := f) (Finset.Subset.refl _)) $$ H
  iintro H
  have hv : (M.access (Rect.unit (s := mat N) off (mat n).size hin)).read (Elt F) f = blk n W := hf
  rw [hv]
  iapply Hk
  iexists f
  isplitr; · ipureintro; exact hf
  iexact H

theorem load_any (hoff : off = ![r, 0]) {hl : M.view.LoadsAt (Rect.unit (s := mat N) off (mat n).size hin).toLoadRect}
    {α : Type} {Q : α → sProp 𝕄} {k : ((mat n).Idx → Elt F .f32) → Prog (TpuEff nD τ sig (Elt F) Λ₀ .tc) α} :
    anyR M c r n ⊢ iprop((∀ v, anyR M c r n -∗ WP c (k v) Q)
      -∗ WP c (.op (.load M (Rect.unit (s := mat N) off (mat n).size hin).toLoadRect hl) k) Q) := by
  rw [anyR_cut M c hoff hin]
  iintro ⟨%f, H⟩ Hk
  iapply (wp_load_rect 𝒱₀ (c : Thread nD τ) none Set.univ (m := M) (r := Rect.unit (s := mat N) off (mat n).size hin)
    (S := (cut M hin).view.set) (q := fullShare) (f := f) (Finset.Subset.refl _)) $$ H
  iintro H
  ispecialize Hk $$ %((M.access (Rect.unit (s := mat N) off (mat n).size hin)).read (Elt F) f)
  iapply Hk
  iexists f
  iexact H

theorem store_region {W : Tab F} (hoff : off = ![r, 0]) {w : (mat n).Idx → Elt F .f32} (hw : w = blk n W) {hx : (M.access (Rect.unit (s := mat N) off (mat n).size hin)).Stores Finset.univ}
    {hm : (Finset.univ : Finset (mat n).Idx) = Finset.univ ∨ ∀ a, (Rect.unit (s := mat N) off (mat n).size hin).stride a = 1}
    {α : Type} {Q : α → sProp 𝕄} {k : PUnit → Prog (TpuEff nD τ sig (Elt F) Λ₀ .tc) α} :
    anyR M c r n ⊢ iprop((region M c r n fullShare W -∗ WP c (k ⟨⟩) Q)
      -∗ WP c (.op (.store M (Rect.unit (s := mat N) off (mat n).size hin) w Finset.univ hx hm) k) Q) := by
  rw [anyR_cut M c hoff hin, region_cut M c hoff hin]
  unfold owns
  iintro ⟨%f, H⟩ Hk
  iapply (wp_store 𝒱₀ (c : Thread nD τ) none Set.univ (m := M) (r := Rect.unit (s := mat N) off (mat n).size hin)
    (S := (cut M hin).view.set) (f := f) (Mk := Finset.univ) (Finset.Subset.refl _)) $$ H
  iintro H
  iapply Hk
  iexists _
  isplitr
  swap
  · iexact H
  · ipureintro
    rw [← hw]
    exact View.read_write_univ _ _

end Mem

/-! ## Messages -/

theorem sx_pm (mid : Fin 13) : sx (pm mid) (pm mid) = 0 := by revert mid; decide
theorem sx_tc (mid : Fin 13) : sx (tc mid) (pm mid) = sc mid := by revert mid; decide
theorem dev_back (p : Fin 3) (mid : Fin 13) (c : Dev nD) : dev p (pm mid) (dev p (pm mid) c) = c := dev_self _ _ _
theorem dev_tc (p : Fin 3) (mid : Fin 13) (c : Dev nD) : dev p (tc mid) (dev p (pm mid) c) = dev p (sc mid) c := by rw [dev_dev, sx_tc]

theorem pay_snd_partial (c : Dev nD) (p : Fin 3) (mid : Fin 13) (h : isRS mid = true) : pay P c (some (false, p, mid)) 0 = iprop(emp) := by
  show sndPay P c p mid = _
  unfold sndPay; rw [if_pos h]
theorem pay_snd_final (c : Dev nD) (p : Fin 3) (mid : Fin 13) (h : isRS mid = false) :
    pay P c (some (false, p, mid)) 0 = srcAG P c p mid (part (ord mid)) := by
  show sndPay P c p mid = _
  unfold sndPay; rw [if_neg (by rw [h]; exact Bool.false_ne_true)]
theorem pay_rcv_partial (c : Dev nD) (p : Fin 3) (mid : Fin 13) (h : isRS mid = true) : pay P (dev p (pm mid) c) (some (true, p, mid)) 0 =
    iprop(region (rsM p) (dev p (pm mid) c) (sec mid * u p) (len p mid) fullShare (valAt P p (st mid).val (row p mid (dev p (sc mid) c)) c)
      ∗ anyR pM c (row p mid (dev p (sc mid) c)) (len p mid)) := by
  show rcvPay P _ p mid = _
  unfold rcvPay; rw [if_pos h, dev_back, dev_tc]
theorem pay_rcv_final (c : Dev nD) (p : Fin 3) (mid : Fin 13) (h : isRS mid = false) : pay P (dev p (pm mid) c) (some (true, p, mid)) 0 =
    region pM (dev p (pm mid) c) (base p (dev p (sc mid) c)) (u p) fullShare (valAt P p 3 (base p (dev p (sc mid) c)) (dev p (sc mid) c)) := by
  show rcvPay P _ p mid = _
  unfold rcvPay; rw [if_neg (by rw [h]; exact Bool.false_ne_true), dev_tc]

theorem mem_duty (c : Dev nD) (p : Fin 3) (mid : Fin 13) (b : Bool) : (0 : Fin 3) ∈ (Rd P).duties (cellOf' c (some (b, p, mid))) 0 := by
  rw [duties_msg]; exact Finset.mem_singleton_self _

/-- The cells of a message: the sender's and the receiver's. -/
theorem Inv_msg (c : Dev nD) (p : Fin 3) (mid : Fin 13) : Inv P K ⊢ iprop(
    (cellInv ER (Rd P) (K (c, some (false, p, mid))) (sndC c p mid) ∗ reached ER (sndC c p mid) 0)
    ∗ (cellInv ER (Rd P) (K (dev p (pm mid) c, some (true, p, mid))) (rcvC (dev p (pm mid) c) p mid) ∗ reached ER (rcvC (dev p (pm mid) c) p mid) 0)) := by
  iintro #HI
  isplitr
  · iapply (Inv_cell P K c (some (false, p, mid))); iexact HI
  · iapply (Inv_cell P K (dev p (pm mid) c) (some (true, p, mid))); iexact HI

section Send
variable {c n : Dev nD} {p : Fin 3} {mid : Fin 13} {off off' : Fin 2 → ℕ}

/-- A partial sum is sent: its run goes with it. -/
theorem send_partial (hn : n = dev p (pm mid) c) (hrs : isRS mid = true)
    (hoff : off = ![row p mid (dev p (sc mid) c), 0]) (hoff' : off' = ![sec mid * u p, 0])
    {hin : ∀ a, off a + (mat (len p mid)).size a ≤ (mat 4096).size a} {hin' : ∀ a, off' a + (mat (len p mid)).size a ≤ (mat (7 * u p)).size a}
    {sS sR : DmaSem sig} (hS : sS = sndS p mid) (hR : sR = rcvS p mid)
    {hsc : (cut (rsM p) (n := len p mid) hin').view.ref.isScScratch = false}
    {hsrc : (cut pM (n := len p mid) hin).view.WordExact} {hdst : (cut (rsM p) (n := len p mid) hin').view.WordExact}
    {hsem : DmaTarget.Typed .vmem (.dma sR) (.remote (Dev.tc n : Thread nD τ) (cut (rsM p) (n := len p mid) hin') (.dma sS) hsc)}
    {α : Type} {Q : α → sProp 𝕄} {k : PUnit → Prog (TpuEff nD τ sig (Elt F) Λ₀ .tc) α}
    (O : CellTallies nD τ sig Unit) (W : Waits sig Unit) :
    iprop(Inv P K ∗ region pM c (row p mid (dev p (sc mid) c)) (len p mid) fullShare (valAt P p (st mid).val (row p mid (dev p (sc mid) c)) c)
        ∗ anyR (rsM p) (dev p (pm mid) c) (sec mid * u p) (len p mid)
        ∗ (dutyTok ER (sndC c p mid) 0 0 ∗ dutyTok ER (rcvC (dev p (pm mid) c) p mid) 0 0)
        ∗ owes (c : Thread nD τ) (O + due c (p, mid)) W)
      ⊢ iprop(((cred (tallyAt (sndC c p mid) () (amt (len p mid))) ∗ owes (c : Thread nD τ) O W) -∗ WP c (k ⟨⟩) Q)
        -∗ WP c (.op (.enqueueDma (cut pM (n := len p mid) hin) (.remote (Dev.tc n) (cut (rsM p) (n := len p mid) hin') (.dma sS) hsc) (.dma sR) hsrc hdst hsem) k) Q) := by
  subst hn hS hR
  rw [region_cut pM c hoff hin, anyR_cut (rsM p) (dev p (pm mid) c) hoff' hin']
  unfold owns
  iintro ⟨#HI, ⟨%fs, %hfs, Hsrc⟩, ⟨%fd, Hdst⟩, ⟨Ht1, Ht2⟩, HO⟩
  ihave #Hm := (Inv_msg P K c p mid) $$ HI
  icases Hm with ⟨⟨#HI1, #Hr1⟩, ⟨#HI2, #Hr2⟩⟩
  iapply (Rounds.wp_send_landing_pointsTo 𝒱₀ ER (Rd P) (c : Thread nD τ) none
    (κ₁ := K (c, some (false, p, mid))) (κ₂ := K (dev p (pm mid) c, some (true, p, mid)))
    (r₁ := 0) (r₂ := 0) (d₁ := 0) (d₂ := 0) (q := fullShare) (fs := fs) (fd := fd)
    (c' := (dev p (pm mid) c : Thread nD τ)) (src := cut pM (n := len p mid) hin) (dst := cut (rsM p) (n := len p mid) hin') (sS := .dma (sndS p mid)) (sem := .dma (rcvS p mid))
    (mem_duty P c p mid false) (mem_duty P (dev p (pm mid) c) p mid true)
    () () (amt (len p mid)) (amt_cut (rsM p) hin') (amount_msg P c p mid false 0) (amount_msg P (dev p (pm mid) c) p mid true 0)
    O rfl (W := W)
    (by refine BIBase.Entails.trans ?_ (Entails.of_eq (payload_eq P c (some (false, p, mid)) 0).symm); rw [pay_snd_partial P c p mid hrs])
    (by
      refine BIBase.Entails.trans ?_ (Entails.of_eq (payload_eq P (dev p (pm mid) c) (some (true, p, mid)) 0).symm); rw [pay_rcv_partial P c p mid hrs, region_cut (rsM p) (dev p (pm mid) c) hoff' hin',
        anyR_cut pM c hoff hin]
      unfold owns
      iintro ⟨Hd, Hs⟩
      isplitl [Hd]
      · iexists _
        isplitr
        swap
        · iexact Hd
        · ipureintro; rw [View.read_write_univ]; exact hfs
      · iexists fs; iexact Hs))
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- A finished region is sent: a share of the run it is sent from comes back. -/
theorem send_final {N : ℕ} {M : Memref sig .tc .vmem (mat N) .f32} {r : ℕ} (hn : n = dev p (pm mid) c) (hrs : isRS mid = false)
    (hoff : off = ![r, 0]) (hoff' : off' = ![base p (dev p (sc mid) c), 0])
    {hin : ∀ a, off a + (mat (u p)).size a ≤ (mat N).size a} {hin' : ∀ a, off' a + (mat (u p)).size a ≤ (mat 4096).size a}
    (hlen : len p mid = u p)
    (hfrom : srcAG P c p mid (part (ord mid)) = region M c r (u p) (part (ord mid)) (valAt P p 3 (base p (dev p (sc mid) c)) (dev p (sc mid) c)))
    {sS sR : DmaSem sig} (hS : sS = sndS p mid) (hR : sR = rcvS p mid)
    {hsc : (cut pM (n := u p) hin').view.ref.isScScratch = false}
    {hsrc : (cut M (n := u p) hin).view.WordExact} {hdst : (cut pM (n := u p) hin').view.WordExact}
    {hsem : DmaTarget.Typed .vmem (.dma sR) (.remote (Dev.tc n : Thread nD τ) (cut pM (n := u p) hin') (.dma sS) hsc)}
    {α : Type} {Q : α → sProp 𝕄} {k : PUnit → Prog (TpuEff nD τ sig (Elt F) Λ₀ .tc) α}
    (O : CellTallies nD τ sig Unit) (W : Waits sig Unit) :
    iprop(Inv P K ∗ srcAG P c p mid (part (ord mid))
        ∗ anyR pM (dev p (pm mid) c) (base p (dev p (sc mid) c)) (u p)
        ∗ (dutyTok ER (sndC c p mid) 0 0 ∗ dutyTok ER (rcvC (dev p (pm mid) c) p mid) 0 0)
        ∗ owes (c : Thread nD τ) (O + due c (p, mid)) W)
      ⊢ iprop(((cred (tallyAt (sndC c p mid) () (amt (len p mid))) ∗ owes (c : Thread nD τ) O W) -∗ WP c (k ⟨⟩) Q)
        -∗ WP c (.op (.enqueueDma (cut M (n := u p) hin) (.remote (Dev.tc n) (cut pM (n := u p) hin') (.dma sS) hsc) (.dma sR) hsrc hdst hsem) k) Q) := by
  subst hn hS hR
  rw [hfrom, region_cut M c hoff hin, anyR_cut pM (dev p (pm mid) c) hoff' hin']
  unfold owns
  iintro ⟨#HI, ⟨%fs, %hfs, Hsrc⟩, ⟨%fd, Hdst⟩, ⟨Ht1, Ht2⟩, HO⟩
  ihave #Hm := (Inv_msg P K c p mid) $$ HI
  icases Hm with ⟨⟨#HI1, #Hr1⟩, ⟨#HI2, #Hr2⟩⟩
  iapply (Rounds.wp_send_pointsTo 𝒱₀ ER (Rd P) (c : Thread nD τ) none
    (κ₁ := K (c, some (false, p, mid))) (κ₂ := K (dev p (pm mid) c, some (true, p, mid)))
    (r₁ := 0) (r₂ := 0) (d₁ := 0) (d₂ := 0) (q := part (ord mid)) (fs := fs) (fd := fd)
    (c' := (dev p (pm mid) c : Thread nD τ)) (src := cut M (n := u p) hin) (dst := cut pM (n := u p) hin') (sS := .dma (sndS p mid)) (sem := .dma (rcvS p mid))
    (mem_duty P c p mid false) (mem_duty P (dev p (pm mid) c) p mid true)
    () () (amt (len p mid)) ((amt_cut pM hin').trans (by rw [hlen])) (amount_msg P c p mid false 0) (amount_msg P (dev p (pm mid) c) p mid true 0)
    O rfl (W := W)
    (by
      refine BIBase.Entails.trans ?_ (Entails.of_eq (payload_eq P c (some (false, p, mid)) 0).symm); rw [pay_snd_final P c p mid hrs, hfrom, region_cut M c hoff hin]
      unfold owns
      iintro Hs
      iexists fs
      isplitr; · ipureintro; exact hfs
      iexact Hs)
    (by
      refine BIBase.Entails.trans ?_ (Entails.of_eq (payload_eq P (dev p (pm mid) c) (some (true, p, mid)) 0).symm); rw [pay_rcv_final P c p mid hrs, region_cut pM (dev p (pm mid) c) hoff' hin']
      unfold owns
      iintro Hd
      iexists _
      isplitr
      swap
      · iexact Hd
      · ipureintro; rw [View.read_write_univ]; exact hfs))
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

end Send

/-! ## Waits -/

section Wait
variable {c : Dev nD} {p : Fin 3} {mid : Fin 13}

/-- A wait on one of a message's semaphores gives what its transfer left there. -/
theorem wait_msg (b : Bool) (l : List (Fin 3 × Fin 13)) (hl : ∀ m ∈ l, lv (cellOf' c (some (b, p, mid))) () < lvl m.2)
    {s : DmaSem sig} (hs : csem (some (b, p, mid)) = .dma s)
    {sp sp' : Space} {sh sh' : Shape} {e e' : EltTy} {src : Memref sig .tc sp' sh' e'} {dst : Memref sig .tc sp sh e} {hsrc : src.view.WordExact} {hdst : dst.view.WordExact}
    (hamt : dst.view.dmaCredit = amt (len p mid))
    {α : Type} {Q : α → sProp 𝕄} {k : PUnit → Prog (TpuEff nD τ sig (Elt F) Λ₀ .tc) α} (W : Waits sig Unit) :
    iprop(Inv P K ∗ cred (tallyAt (cellOf' c (some (b, p, mid))) () (amt (len p mid))) ∗ owes (c : Thread nD τ) (Osum c l) W
        ∗ atPos ER (cellOf' c (some (b, p, mid))) 0 ∅ 0)
      ⊢ iprop(((owed (F := F) c l ∗ atPos ER (cellOf' c (some (b, p, mid))) 1 ∅ 0 ∗ pay P c (some (b, p, mid)) 0) -∗ WP c (k ⟨⟩) Q)
        -∗ WP c (.op (.waitDma2 s src dst hsrc hdst) k) Q) := by
  have hcell : cellOf' c (some (b, p, mid)) = ((c : Thread nD τ), SemLoc.dma s) := by unfold cellOf'; rw [hs]
  have hrest : bigSep ((Rd P).duties ((c : Thread nD τ), SemLoc.dma s) 0 \ ∅) (fun d => (Rd P).payload ((c : Thread nD τ), SemLoc.dma s) 0 d)
      ⊢ pay P c (some (b, p, mid)) 0 := by rw [← hcell, rest_msg]
  iintro ⟨#HI, Hc, HO, Ha⟩ Hk
  ihave #Hm := (Inv_cell P K c (some (b, p, mid))) $$ HI
  icases Hm with ⟨#HI1, #Hr1⟩
  ihave #Hlev := (Inv_lev P K) $$ HI
  ihave #Hmw := (mayWait_of (F := F) c (some (b, p, mid)) _ rfl l hl) $$ Hlev
  rw [hs]
  rw [hcell]
  iapply (Rounds.wp_wait_rest_token 𝒱₀ ER (Rd P) (c : Thread nD τ) none (κ := K (c, some (b, p, mid))) (k' := dst.view.dmaCredit)
      (wpE_waitDma2_eq 𝒱₀ (c : Thread nD τ) none Set.univ) (Set.mem_univ _) () (O := Osum c l) (W := W) (R := 0) (m := 0) (T := ∅)
      (by rw [← hcell, Nat.zero_add, expect_msg, hamt])) $$ [Hc HO Ha]
  · isplitr; · iexact HI1
    isplitl [Hc]; · rw [hamt]; iexact Hc
    isplitl [HO]; · iexact HO
    isplitr; · iexact Hmw
    iexact Ha
  iintro ⟨HO, Ha, -, Hp⟩
  iapply Hk
  isplitl [HO]
  · unfold owed
    iexists _
    iexact HO
  isplitl [Ha]; · iexact Ha
  iapply hrest
  iexact Hp

end Wait

end Cert.KernelIdeal.Halving
-- ==== Proof.Steps.lean ====
/-
# `Steps`: one rule per operation, from what is held before it to what is held after it
-/
module

public import proofs.«01_k».proof.Proof.Ops

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ)

/-! ## What some `At`s say -/

theorem interp_rsAny (c : Dev nD) (p mid) : interp P c (.rsAny p mid) = anyR (rsM p) (dev p (pm mid) c) (sec mid * u p) (len p mid) := rfl
theorem interp_tok (c : Dev nD) (p mid) : interp P c (.tok p mid) = iprop(dutyTok ER (sndC c p mid) 0 0 ∗ dutyTok ER (rcvC (dev p (pm mid) c) p mid) 0 0) := rfl
theorem interp_cS (c : Dev nD) (p mid) : interp P c (.cS p mid) = cred (tallyAt (sndC c p mid) () (amt (len p mid))) := rfl
theorem interp_aS (c : Dev nD) (p mid) : interp P c (.aS p mid) = atPos ER (sndC c p mid) 0 ∅ 0 := rfl
theorem interp_aR (c : Dev nD) (p mid) : interp P c (.aR p mid) = iprop(atPos ER (rcvC c p mid) 0 ∅ 0 ∗ cred (tallyAt (rcvC c p mid) () (amt (len p mid)))) := rfl
theorem interp_dS (c : Dev nD) (p mid) : interp P c (.dS p mid) = atPos ER (sndC c p mid) 1 ∅ 0 := rfl
theorem interp_dR (c : Dev nD) (p mid) : interp P c (.dR p mid) = atPos ER (rcvC c p mid) 1 ∅ 0 := rfl
theorem interp_rsFull (c : Dev nD) (p mid) : interp P c (.rsFull p mid) = region (rsM p) c (sec mid * u p) (len p mid) fullShare
    (valAt P p (st mid).val (row p mid (dev p (tc mid) c)) (dev p (pm mid) c)) := rfl
theorem interp_pO (c : Dev nD) (p s q l v) : interp P c (.pO p s q l v) = region pM c (base p (dev p s c)) (u p) q.q (valAt P p l (base p (dev p s c)) (dev p v c)) := rfl
theorem interp_pAny (c : Dev nD) (p s d) : interp P c (.pAny p s d) = anyR pM (dev p d c) (base p (dev p s c)) (u p) := rfl

theorem len_two {mid : Fin 13} (h : nr mid = 2) (p : Fin 3) : len p mid = 2 * u p := by unfold len; rw [h]
theorem nr_one {mid : Fin 13} (h : nr mid ≠ 2) : nr mid = 1 := by revert mid; decide
theorem len_one {mid : Fin 13} (h : nr mid ≠ 2) (p : Fin 3) : len p mid = u p := by unfold len; rw [nr_one h, one_mul]
theorem st_two {mid : Fin 13} (h : nr mid = 2) : (st mid).val = 0 := by revert mid; decide

theorem interp_srcRS (c : Dev nD) (p : Fin 3) (mid : Fin 13) :
    interp P c (srcRS p mid) = region pM c (row p mid (dev p (sc mid) c)) (len p mid) fullShare (valAt P p (st mid).val (row p mid (dev p (sc mid) c)) c) := by
  unfold srcRS row
  by_cases h : nr mid = 2
  · rw [if_pos h, if_pos h, len_two h, st_two h]; rfl
  · rw [if_neg h, if_neg h, len_one h]
    show region pM c _ _ fullShare (valAt P p _ _ (dev p 0 c)) = _
    rw [dev_zero]

theorem interp_tgt (c : Dev nD) (p : Fin 3) (mid : Fin 13) (l : ℕ) :
    interp P c (tgt p mid l) = region pM c (row p mid (dev p (tc mid) c)) (len p mid) fullShare (valAt P p l (row p mid (dev p (tc mid) c)) c) := by
  unfold tgt row
  by_cases h : nr mid = 2
  · rw [if_pos h, if_pos h, len_two h]; rfl
  · rw [if_neg h, if_neg h, len_one h]
    show region pM c _ _ fullShare (valAt P p _ _ (dev p 0 c)) = _
    rw [dev_zero]

theorem fwS_fk {mid : Fin 13} (h : isRS mid = false) (hd : direct mid = false) : fwS (fk mid) = sc mid := by revert mid; decide
theorem sc_direct {mid : Fin 13} (hd : direct mid = true) : sc mid = 0 := by revert mid; decide
theorem len_final {mid : Fin 13} (h : isRS mid = false) (p : Fin 3) : len p mid = u p := by revert mid p; decide

theorem interp_srcA (c : Dev nD) (p : Fin 3) (mid : Fin 13) (h : isRS mid = false) (q : Sh) :
    interp P c (srcA p mid q) = srcAG P c p mid q.q := by
  unfold srcA srcAG
  cases hd : direct mid with
  | true => rfl
  | false =>
    show region (fwM p) c _ _ q.q (valAt P p 3 (base p (dev p (fwS (fk mid)) c)) (dev p (fwS (fk mid)) c)) = _
    rw [fwS_fk h hd]; rfl

theorem srcAG_share (c : Dev nD) (p : Fin 3) (mid : Fin 13) (j : ℕ) :
    srcAG P c p mid (rem j) = iprop(srcAG P c p mid (part j) ∗ srcAG P c p mid (rem (j + 1))) := by
  unfold srcAG
  split <;> exact region_share _ _ _ _ _ _

variable {α : Type} {c : Dev nD} {k : ℕ}

/-! ## Messages -/

theorem step_send_partial {Q : α → sProp 𝕄} (p : Fin 3) (mid : Fin 13) (hi : instrs[k]? = some (.send p mid)) (hrs : isRS mid = true)
    {n : Dev nD} (hn : n = dev p (pm mid) c) {off off' : Fin 2 → ℕ}
    (hoff : off = ![row p mid (dev p (sc mid) c), 0]) (hoff' : off' = ![sec mid * u p, 0])
    {hin : ∀ a, off a + (mat (len p mid)).size a ≤ (mat 4096).size a} {hin' : ∀ a, off' a + (mat (len p mid)).size a ≤ (mat (7 * u p)).size a}
    {sS sR : DmaSem sig} (hS : sS = sndS p mid) (hR : sR = rcvS p mid)
    {hsc : (cut (rsM p) (n := len p mid) hin').view.ref.isScScratch = false}
    {hsrc : (cut pM (n := len p mid) hin).view.WordExact} {hdst : (cut (rsM p) (n := len p mid) hin').view.WordExact}
    {hsem : DmaTarget.Typed .vmem (.dma sR) (.remote (Dev.tc n : Thread nD τ) (cut (rsM p) (n := len p mid) hin') (.dma sS) hsc)}
    {kont : PUnit → Prog (TpuEff nD τ sig (Elt F) Λ₀ .tc) α}
    (H : Sk P K c (k + 1) ⊢ WP c (kont ⟨⟩) Q) :
    Sk P K c k ⊢ WP c (.op (.enqueueDma (cut pM (n := len p mid) hin) (.remote (Dev.tc n) (cut (rsM p) (n := len p mid) hin') (.dma sS) hsc) (.dma sR) hsrc hdst hsem) kont) Q := by
  obtain ⟨R, h1, h2⟩ := Sk_open P K c hi
  rw [h2] at H; rw [h1, todo_step hi]
  have e1 : pre (.send p mid) = [srcRS p mid, .rsAny p mid, .tok p mid] := by unfold pre; exact if_pos hrs
  have e2 : post (.send p mid) = [.cS p mid] := by unfold post; exact if_pos hrs
  rw [e1, bigSepL_cons', bigSepL_cons', bigSepL_singleton, interp_srcRS, interp_rsAny, interp_tok]
  rw [e2, bigSepL_singleton, interp_cS] at H
  unfold owed at H ⊢
  iintro ⟨#HI, ⟨%W, HO⟩, ⟨Hs, Hd, Ht⟩, HR⟩
  iapply (send_partial P K hn hrs hoff hoff' (hin := hin) (hin' := hin') hS hR (Osum c (todo (k + 1))) W) $$ [HO Hs Hd Ht]
  · isplitr; · iexact HI
    isplitl [Hs]; · iexact Hs
    isplitl [Hd]; · iexact Hd
    isplitl [Ht]; · iexact Ht
    iexact HO
  iintro ⟨Hc, HO⟩
  iapply H
  isplitr; · iexact HI
  isplitl [HO]; · iexists W; iexact HO
  isplitl [Hc]; · iexact Hc
  iexact HR

theorem step_send_final {Q : α → sProp 𝕄} {N : ℕ} {M : Memref sig .tc .vmem (mat N) .f32} {r : ℕ}
    (p : Fin 3) (mid : Fin 13) (hi : instrs[k]? = some (.send p mid)) (hrs : isRS mid = false)
    {n : Dev nD} (hn : n = dev p (pm mid) c) {off off' : Fin 2 → ℕ}
    (hoff : off = ![r, 0]) (hoff' : off' = ![base p (dev p (sc mid) c), 0])
    {hin : ∀ a, off a + (mat (u p)).size a ≤ (mat N).size a} {hin' : ∀ a, off' a + (mat (u p)).size a ≤ (mat 4096).size a}
    (hfrom : srcAG P c p mid (part (ord mid)) = region M c r (u p) (part (ord mid)) (valAt P p 3 (base p (dev p (sc mid) c)) (dev p (sc mid) c)))
    {sS sR : DmaSem sig} (hS : sS = sndS p mid) (hR : sR = rcvS p mid)
    {hsc : (cut pM (n := u p) hin').view.ref.isScScratch = false}
    {hsrc : (cut M (n := u p) hin).view.WordExact} {hdst : (cut pM (n := u p) hin').view.WordExact}
    {hsem : DmaTarget.Typed .vmem (.dma sR) (.remote (Dev.tc n : Thread nD τ) (cut pM (n := u p) hin') (.dma sS) hsc)}
    {kont : PUnit → Prog (TpuEff nD τ sig (Elt F) Λ₀ .tc) α}
    (H : Sk P K c (k + 1) ⊢ WP c (kont ⟨⟩) Q) :
    Sk P K c k ⊢ WP c (.op (.enqueueDma (cut M (n := u p) hin) (.remote (Dev.tc n) (cut pM (n := u p) hin') (.dma sS) hsc) (.dma sR) hsrc hdst hsem) kont) Q := by
  obtain ⟨R, h1, h2⟩ := Sk_open P K c hi
  rw [h2] at H; rw [h1, todo_step hi]
  have hne : ¬ isRS mid = true := by rw [hrs]; exact Bool.false_ne_true
  have e1 : pre (.send p mid) = [srcA p mid (.rem (ord mid)), .pAny p (sc mid) (pm mid), .tok p mid] := by unfold pre; exact if_neg hne
  have e2 : post (.send p mid) = [srcA p mid (.rem (ord mid + 1)), .cS p mid] := by unfold post; exact if_neg hne
  rw [e1, bigSepL_cons', bigSepL_cons', bigSepL_singleton, interp_srcA P c p mid hrs, interp_pAny, interp_tok, Sh.q, srcAG_share]
  rw [e2, bigSepL_cons', bigSepL_singleton, interp_srcA P c p mid hrs, interp_cS] at H
  unfold owed at H ⊢
  iintro ⟨#HI, ⟨%W, HO⟩, ⟨⟨Hs, Hs'⟩, Hd, Ht⟩, HR⟩
  iapply (send_final P K hn hrs hoff hoff' (hin := hin) (hin' := hin') (len_final hrs p) hfrom hS hR (Osum c (todo (k + 1))) W) $$ [HO Hs Hd Ht]
  · isplitr; · iexact HI
    isplitl [Hs]; · iexact Hs
    isplitl [Hd]; · iexact Hd
    isplitl [Ht]; · iexact Ht
    iexact HO
  iintro ⟨Hc, HO⟩
  iapply H
  isplitr; · iexact HI
  isplitl [HO]; · iexists W; iexact HO
  isplitl [Hc Hs']
  · isplitl [Hs']; · iexact Hs'
    iexact Hc
  iexact HR

/-- Waiting for a message. -/
theorem step_waitR {Q : α → sProp 𝕄} (p : Fin 3) (mid : Fin 13) (hi : instrs[k]? = some (.waitR p mid))
    {s : DmaSem sig} (hs : s = rcvS p mid)
    {sp sp' : Space} {sh sh' : Shape} {e e' : EltTy} {src : Memref sig .tc sp' sh' e'} {dst : Memref sig .tc sp sh e}
    {hsrc : src.view.WordExact} {hdst : dst.view.WordExact}
    (hamt : dst.view.dmaCredit = amt (len p mid))
    {kont : PUnit → Prog (TpuEff nD τ sig (Elt F) Λ₀ .tc) α} (H : Sk P K c (k + 1) ⊢ WP c (kont ⟨⟩) Q) :
    Sk P K c k ⊢ WP c (.op (.waitDma2 s src dst hsrc hdst) kont) Q := by
  subst hs
  obtain ⟨R, h1, h2⟩ := Sk_open P K c hi
  have ht : todo k = todo (k + 1) := todo_step hi
  rw [h2] at H; rw [h1, ht]
  have e1 : pre (.waitR p mid) = [.aR p mid] := rfl
  rw [e1, bigSepL_singleton, interp_aR]
  have e3 : pay P c (some (true, p, mid)) 0 = rcvPay P c p mid := rfl
  have e2 : iprop(atPos ER (rcvC c p mid) 1 ∅ 0 ∗ pay P c (some (true, p, mid)) 0) ⊢ bigSepL (post (.waitR p mid)) (interp P c) := by
    rw [e3]
    unfold rcvPay
    by_cases h : isRS mid = true
    · have e5 : post (.waitR p mid) = [.dR p mid, .rsFull p mid, if nr mid = 2 then .pAnyP p (tc mid) (pm mid) else .pAny p (tc mid) (pm mid)] := if_pos h
      rw [e5, if_pos h, bigSepL_cons', bigSepL_cons', bigSepL_singleton, interp_dR, interp_rsFull]
      iintro ⟨Ha, Hp, Hb⟩
      isplitl [Ha]; · iexact Ha
      isplitl [Hp]; · iexact Hp
      have e4 : anyR pM (dev p (pm mid) c) (row p mid (dev p (tc mid) c)) (len p mid)
          = interp P c (if nr mid = 2 then .pAnyP p (tc mid) (pm mid) else .pAny p (tc mid) (pm mid)) := by
        unfold row
        by_cases h' : nr mid = 2
        · rw [if_pos h', if_pos h', len_two h']; rfl
        · rw [if_neg h', if_neg h', len_one h']; rfl
      rw [← e4]
      iexact Hb
    · have e5 : post (.waitR p mid) = [.dR p mid, .pO p (tc mid) (.rem 0) 3 (tc mid)] := if_neg h
      rw [e5, if_neg h, bigSepL_cons', bigSepL_singleton, interp_dR, interp_pO]
      iintro ⟨Ha, Hp⟩
      isplitl [Ha]; · iexact Ha
      iexact Hp
  iintro ⟨#HI, HO, ⟨Ha, Hc⟩, HR⟩
  unfold owed
  icases HO with ⟨%W, HO⟩
  iapply (wait_msg P K true (todo (k + 1)) (by rw [lv_rcv]; exact waits_todo hi rfl) rfl hamt W) $$ [HO Ha Hc]
  · isplitr; · iexact HI
    isplitl [Hc]; · iexact Hc
    isplitl [HO]; · iexact HO
    iexact Ha
  iintro ⟨HO, Ha, Hp⟩
  iapply H
  isplitr; · iexact HI
  isplitl [HO]; · iexact HO
  isplitl [Ha Hp]
  · iapply e2
    isplitl [Ha]; · iexact Ha
    iexact Hp
  iexact HR

/-- Waiting for the end of a send. -/
theorem step_waitS {Q : α → sProp 𝕄} (p : Fin 3) (mid : Fin 13) (hi : instrs[k]? = some (.waitS p mid))
    {s : DmaSem sig} (hs : s = sndS p mid)
    {sp sp' : Space} {sh sh' : Shape} {e e' : EltTy} {src : Memref sig .tc sp' sh' e'} {dst : Memref sig .tc sp sh e}
    {hsrc : src.view.WordExact} {hdst : dst.view.WordExact}
    (hamt : dst.view.dmaCredit = amt (len p mid))
    {kont : PUnit → Prog (TpuEff nD τ sig (Elt F) Λ₀ .tc) α} (H : Sk P K c (k + 1) ⊢ WP c (kont ⟨⟩) Q) :
    Sk P K c k ⊢ WP c (.op (.waitDma2 s src dst hsrc hdst) kont) Q := by
  subst hs
  obtain ⟨R, h1, h2⟩ := Sk_open P K c hi
  have ht : todo k = todo (k + 1) := todo_step hi
  rw [h2] at H; rw [h1, ht]
  have e1 : pre (.waitS p mid) = [.aS p mid, .cS p mid] := rfl
  rw [e1, bigSepL_cons', bigSepL_singleton, interp_aS, interp_cS]
  have e3 : pay P c (some (false, p, mid)) 0 = sndPay P c p mid := rfl
  have e2 : iprop(atPos ER (sndC c p mid) 1 ∅ 0 ∗ pay P c (some (false, p, mid)) 0) ⊢ bigSepL (post (.waitS p mid)) (interp P c) := by
    rw [e3]
    unfold sndPay
    by_cases h : isRS mid = true
    · have e5 : post (.waitS p mid) = [.dS p mid] := if_pos h
      rw [e5, if_pos h, bigSepL_singleton, interp_dS]
      iintro ⟨Ha, -⟩
      iexact Ha
    · have e5 : post (.waitS p mid) = [.dS p mid, srcA p mid (.part (ord mid))] := if_neg h
      rw [e5, if_neg h, bigSepL_cons', bigSepL_singleton, interp_srcA P c p mid (by simpa using h), interp_dS]
      iintro ⟨Ha, Hp⟩
      isplitl [Ha]; · iexact Ha
      iexact Hp
  iintro ⟨#HI, HO, ⟨Ha, Hc⟩, HR⟩
  unfold owed
  icases HO with ⟨%W, HO⟩
  iapply (wait_msg P K false (todo (k + 1)) (by rw [lv_snd]; exact waits_todo hi rfl) rfl hamt W) $$ [HO Ha Hc]
  · isplitr; · iexact HI
    isplitl [Hc]; · iexact Hc
    isplitl [HO]; · iexact HO
    iexact Ha
  iintro ⟨HO, Ha, Hp⟩
  iapply H
  isplitr; · iexact HI
  isplitl [HO]; · iexact HO
  isplitl [Ha Hp]
  · iapply e2
    isplitl [Ha]; · iexact Ha
    iexact Hp
  iexact HR

/-! ## Loads and stores -/

/-- A load from a run that the step takes first. -/
theorem load_first {Q : α → sProp 𝕄} {i : Ins} {a : At} {l : List At} (hi : instrs[k]? = some i) (hp : pre i = a :: l)
    {N : ℕ} {M : Memref sig .tc .vmem (mat N) .f32} {r n : ℕ} {q : PosShare TreeShare} {W : Tab F} (ha : interp P c a = region M c r n q W)
    {off : Fin 2 → ℕ} (hoff : off = ![r, 0]) {hin : ∀ a, off a + (mat n).size a ≤ (mat N).size a}
    {hl : M.view.LoadsAt (Rect.unit (s := mat N) off (mat n).size hin).toLoadRect}
    {kont : ((mat n).Idx → Elt F .f32) → Prog (TpuEff nD τ sig (Elt F) Λ₀ .tc) α} (H : Sk P K c k ⊢ WP c (kont (blk n W)) Q) :
    Sk P K c k ⊢ WP c (.op (.load M (Rect.unit (s := mat N) off (mat n).size hin).toLoadRect hl) kont) Q := by
  obtain ⟨R, h1, h2⟩ := Sk_open P K c hi
  rw [h1, hp, bigSepL_cons', ha] at H
  rw [h1, hp, bigSepL_cons', ha]
  iintro ⟨#HI, HO, ⟨Ha, Hl⟩, HR⟩
  iapply (load_region hoff) $$ Ha
  iintro Ha
  iapply H
  isplitr; · iexact HI
  isplitl [HO]; · iexact HO
  isplitl [Ha Hl]
  · isplitl [Ha]; · iexact Ha
    iexact Hl
  iexact HR

/-- A load from a run that the step takes second. -/
theorem load_second {Q : α → sProp 𝕄} {i : Ins} {a b : At} (hi : instrs[k]? = some i) (hp : pre i = [a, b])
    {N : ℕ} {M : Memref sig .tc .vmem (mat N) .f32} {r n : ℕ} {q : PosShare TreeShare} {W : Tab F} (hb : interp P c b = region M c r n q W)
    {off : Fin 2 → ℕ} (hoff : off = ![r, 0]) {hin : ∀ a, off a + (mat n).size a ≤ (mat N).size a}
    {hl : M.view.LoadsAt (Rect.unit (s := mat N) off (mat n).size hin).toLoadRect}
    {kont : ((mat n).Idx → Elt F .f32) → Prog (TpuEff nD τ sig (Elt F) Λ₀ .tc) α} (H : Sk P K c k ⊢ WP c (kont (blk n W)) Q) :
    Sk P K c k ⊢ WP c (.op (.load M (Rect.unit (s := mat N) off (mat n).size hin).toLoadRect hl) kont) Q := by
  obtain ⟨R, h1, h2⟩ := Sk_open P K c hi
  rw [h1, hp, bigSepL_cons', bigSepL_singleton, hb] at H
  rw [h1, hp, bigSepL_cons', bigSepL_singleton, hb]
  iintro ⟨#HI, HO, ⟨Ha, Hl⟩, HR⟩
  iapply (load_region hoff) $$ Hl
  iintro Hl
  iapply H
  isplitr; · iexact HI
  isplitl [HO]; · iexact HO
  isplitl [Ha Hl]
  · isplitl [Ha]; · iexact Ha
    iexact Hl
  iexact HR

/-- A load, whose value is not used, from a run that the step takes second. -/
theorem load_dead {Q : α → sProp 𝕄} {i : Ins} {a b : At} (hi : instrs[k]? = some i) (hp : pre i = [a, b])
    {N : ℕ} {M : Memref sig .tc .vmem (mat N) .f32} {r n : ℕ} (hb : interp P c b = anyR M c r n)
    {off : Fin 2 → ℕ} (hoff : off = ![r, 0]) {hin : ∀ a, off a + (mat n).size a ≤ (mat N).size a}
    {hl : M.view.LoadsAt (Rect.unit (s := mat N) off (mat n).size hin).toLoadRect}
    {kont : ((mat n).Idx → Elt F .f32) → Prog (TpuEff nD τ sig (Elt F) Λ₀ .tc) α} (H : ∀ v, Sk P K c k ⊢ WP c (kont v) Q) :
    Sk P K c k ⊢ WP c (.op (.load M (Rect.unit (s := mat N) off (mat n).size hin).toLoadRect hl) kont) Q := by
  obtain ⟨R, h1, h2⟩ := Sk_open P K c hi
  rw [h1, hp, bigSepL_cons', bigSepL_singleton, hb] at H
  rw [h1, hp, bigSepL_cons', bigSepL_singleton, hb]
  iintro ⟨#HI, HO, ⟨Ha, Hl⟩, HR⟩
  iapply (load_any hoff) $$ Hl
  iintro %v Hl
  iapply (H v)
  isplitr; · iexact HI
  isplitl [HO]; · iexact HO
  isplitl [Ha Hl]
  · isplitl [Ha]; · iexact Ha
    iexact Hl
  iexact HR

/-- The run a partial sum is added to, before the addition, and the one that arrived. -/
abbrev accA (c : Dev nD) (p : Fin 3) (mid : Fin 13) : Tab F := valAt P p (st mid).val (row p mid (dev p (tc mid) c)) c
abbrev accB (c : Dev nD) (p : Fin 3) (mid : Fin 13) : Tab F := valAt P p (st mid).val (row p mid (dev p (tc mid) c)) (dev p (pm mid) c)

theorem acc_value (c : Dev nD) (p : Fin 3) (mid : Fin 13) :
    valAt P p ((st mid).val + 1) (row p mid (dev p (tc mid) c)) c = fun i j => FloatOps.addf (accA P c p mid i j) (accB P c p mid i j) := by
  funext i j
  show FloatOps.addf _ (val P p (st mid).val (dev p (one (Fin.ofNat 3 (st mid).val)) c) _ j) = _
  have : Fin.ofNat 3 (st mid).val = st mid := Fin.ext (Nat.mod_eq_of_lt (st mid).isLt)
  rw [this]; rfl

/-- The sum is stored over the run. -/
theorem step_acc {Q : α → sProp 𝕄} (p : Fin 3) (mid : Fin 13) (hi : instrs[k]? = some (.acc p mid))
    {off : Fin 2 → ℕ} (hoff : off = ![row p mid (dev p (tc mid) c), 0]) {hin : ∀ a, off a + (mat (len p mid)).size a ≤ (mat 4096).size a}
    {w : (mat (len p mid)).Idx → Elt F .f32} (hw : w = blk (len p mid) fun i j => FloatOps.addf (accA P c p mid i j) (accB P c p mid i j))
    {hx : (pM.access (Rect.unit (s := mat 4096) off (mat (len p mid)).size hin)).Stores Finset.univ}
    {hm : (Finset.univ : Finset (mat (len p mid)).Idx) = Finset.univ ∨ ∀ a, (Rect.unit (s := mat 4096) off (mat (len p mid)).size hin).stride a = 1}
    {kont : PUnit → Prog (TpuEff nD τ sig (Elt F) Λ₀ .tc) α} (H : Sk P K c (k + 1) ⊢ WP c (kont ⟨⟩) Q) :
    Sk P K c k ⊢ WP c (.op (.store pM (Rect.unit (s := mat 4096) off (mat (len p mid)).size hin) w Finset.univ hx hm) kont) Q := by
  obtain ⟨R, h1, h2⟩ := Sk_open P K c hi
  have ht : todo k = todo (k + 1) := todo_step hi
  rw [h2, show post (.acc p mid) = [tgt p mid ((st mid).val + 1), .rsFull p mid] from rfl, bigSepL_cons', bigSepL_singleton, interp_tgt, acc_value] at H
  rw [h1, ht, show pre (.acc p mid) = [tgt p mid (st mid).val, .rsFull p mid] from rfl, bigSepL_cons', bigSepL_singleton, interp_tgt]
  iintro ⟨#HI, HO, ⟨Ha, Hl⟩, HR⟩
  ihave Ha := (region_any (F := F) pM c _ _ _) $$ Ha
  iapply (store_region hoff hw) $$ Ha
  iintro Ha
  iapply H
  isplitr; · iexact HI
  isplitl [HO]; · iexact HO
  isplitl [Ha Hl]
  · isplitl [Ha]; · iexact Ha
    iexact Hl
  iexact HR

/-- A copy is stored. -/
theorem store_second {Q : α → sProp 𝕄} {i : Ins} {a b b' : At} (hi : instrs[k]? = some i) (hs : sends i = none) (hp : pre i = [a, b]) (hq : post i = [a, b'])
    {N : ℕ} {M : Memref sig .tc .vmem (mat N) .f32} {r n : ℕ} {W : Tab F} (hb : interp P c b = anyR M c r n)
    (hb' : interp P c b' = region M c r n fullShare W)
    {off : Fin 2 → ℕ} (hoff : off = ![r, 0]) {hin : ∀ a, off a + (mat n).size a ≤ (mat N).size a}
    {w : (mat n).Idx → Elt F .f32} (hw : w = blk n W)
    {hx : (M.access (Rect.unit (s := mat N) off (mat n).size hin)).Stores Finset.univ}
    {hm : (Finset.univ : Finset (mat n).Idx) = Finset.univ ∨ ∀ a, (Rect.unit (s := mat N) off (mat n).size hin).stride a = 1}
    {kont : PUnit → Prog (TpuEff nD τ sig (Elt F) Λ₀ .tc) α} (H : Sk P K c (k + 1) ⊢ WP c (kont ⟨⟩) Q) :
    Sk P K c k ⊢ WP c (.op (.store M (Rect.unit (s := mat N) off (mat n).size hin) w Finset.univ hx hm) kont) Q := by
  obtain ⟨R, h1, h2⟩ := Sk_open P K c hi
  have ht : todo k = todo (k + 1) := by rw [todo_step hi, hs]; rfl
  rw [h2, hq, bigSepL_cons', bigSepL_singleton, hb'] at H
  rw [h1, ht, hp, bigSepL_cons', bigSepL_singleton, hb]
  iintro ⟨#HI, HO, ⟨Ha, Hl⟩, HR⟩
  iapply (store_region hoff hw) $$ Hl
  iintro Hl
  iapply H
  isplitr; · iexact HI
  isplitl [HO]; · iexact HO
  isplitl [Ha Hl]
  · isplitl [Ha]; · iexact Ha
    iexact Hl
  iexact HR

/-! ## Changes of view -/

/-- A step without an operation. -/
theorem ghost_step {X : sProp 𝕄} {i : Ins} (hi : instrs[k]? = some i) (hs : sends i = none)
    (he : bigSepL (pre i) (interp P c) ⊢ bigSepL (post i) (interp P c)) (H : Sk P K c (k + 1) ⊢ X) : Sk P K c k ⊢ X := by
  obtain ⟨R, h1, h2⟩ := Sk_open P K c hi
  have ht : todo k = todo (k + 1) := by rw [todo_step hi, hs]; rfl
  refine BIBase.Entails.trans ?_ H
  rw [h1, h2, ht]
  iintro ⟨#HI, HO, Ha, HR⟩
  isplitr; · iexact HI
  isplitl [HO]; · iexact HO
  isplitl [Ha]; · iapply he; iexact Ha
  iexact HR

/-- The two regions of a pair: which comes first. -/
theorem pair_cases (p : Fin 3) (c : Dev nD) :
    (base p (lo p (dev p 2 c)) = base p (dev p 2 c) ∧ base p (dev p 6 c) = base p (dev p 2 c) + u p)
      ∨ (base p (lo p (dev p 2 c)) = base p (dev p 6 c) ∧ base p (dev p 2 c) = base p (dev p 6 c) + u p) := by
  revert p c; decide +kernel

theorem sh_sh (W : Tab F) (a b : ℕ) : sh a (sh b W) = sh (b + a) W := by
  funext i j; unfold sh; rw [Nat.add_assoc]

theorem step_unpair {X : sProp 𝕄} (p : Fin 3) (hi : instrs[k]? = some (.unpair p)) (H : Sk P K c (k + 1) ⊢ X) : Sk P K c k ⊢ X := by
  refine ghost_step P K hi rfl ?_ H
  have h : region pM c (base p (lo p (dev p 2 c))) (2 * u p) fullShare (valAt P p 1 (base p (lo p (dev p 2 c))) c)
      ⊢ iprop(region pM c (base p (dev p 2 c)) (u p) fullShare (valAt P p 1 (base p (dev p 2 c)) (dev p 0 c))
        ∗ region pM c (base p (dev p 6 c)) (u p) fullShare (valAt P p 1 (base p (dev p 6 c)) (dev p 0 c))) := by
    rw [dev_zero, two_mul, region_two, sh_sh]
    rcases pair_cases p c with ⟨h1, h2⟩ | ⟨h1, h2⟩
    · rw [h1, h2]
    · rw [h1, h2]
      iintro ⟨Ha, Hb⟩
      isplitl [Hb]; · iexact Hb
      iexact Ha
  exact h

theorem step_unpairAny {X : sProp 𝕄} (p : Fin 3) (hi : instrs[k]? = some (.unpairAny p)) (H : Sk P K c (k + 1) ⊢ X) : Sk P K c k ⊢ X := by
  refine ghost_step P K hi rfl ?_ H
  have h : anyR (F := F) pM (dev p 1 c) (base p (lo p (dev p 2 c))) (2 * u p)
      ⊢ iprop(anyR (F := F) pM (dev p 1 c) (base p (dev p 2 c)) (u p) ∗ anyR (F := F) pM (dev p 1 c) (base p (dev p 6 c)) (u p)) := by
    rw [two_mul, anyR_two]
    rcases pair_cases p c with ⟨h1, h2⟩ | ⟨h1, h2⟩
    · rw [h1, h2]
    · rw [h1, h2]
      iintro ⟨Ha, Hb⟩
      isplitl [Hb]; · iexact Hb
      iexact Ha
  exact h

theorem step_mergeP {X : sProp 𝕄} (p : Fin 3) (j : ℕ) (hi : instrs[k]? = some (.mergeP p j)) (H : Sk P K c (k + 1) ⊢ X) : Sk P K c k ⊢ X := by
  refine ghost_step P K hi rfl ?_ H
  exact Entails.of_eq (region_share pM c _ _ (rem j) _).symm

theorem step_mergeF {X : sProp 𝕄} (p f : Fin 3) (j : ℕ) (hi : instrs[k]? = some (.mergeF p f j)) (H : Sk P K c (k + 1) ⊢ X) : Sk P K c k ⊢ X := by
  refine ghost_step P K hi rfl ?_ H
  exact Entails.of_eq (region_share (fwM p) c _ _ (rem j) _).symm

/-! ## The stored values -/

/-- A sum of blocks is the block of the sums. -/
theorem addf_blk {n : ℕ} (A B : Tab F) (h : (mat n).ShapeCasts (mat n)) :
    shapeCast (mat n) (addf (s := mat n) (blk n A) (blk n B)) h = blk n fun i j => FloatOps.addf (A i j) (B i j) := by
  rw [shapeCast_self]; rfl

theorem cast_blk {n : ℕ} (A : Tab F) (h : (mat n).ShapeCasts (mat n)) : shapeCast (mat n) (blk n A) h = blk n A := shapeCast_self _ _

end Cert.KernelIdeal.Halving
-- ==== Proof.Offs.lean ====
/-
# `Offs`: where the rows and partners that the program computes lie
-/
module

public import proofs.«01_k».proof.Proof.Steps

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## First rows -/

theorem off1 : ∀ c : Dev nD, k0_off1 c = ![base 0 (lo 0 (dev 0 3 c)), 0] := by decide +kernel
theorem off2 : ∀ c : Dev nD, k0_off2 c = ![base 0 (dev 0 5 c), 0] := by decide +kernel
theorem off3 : ∀ c : Dev nD, k0_off3 c = ![base 0 (dev 0 1 c), 0] := by decide +kernel
theorem off4 : ∀ c : Dev nD, k0_off4 c = ![base 1 (lo 1 (dev 1 3 c)), 0] := by decide +kernel
theorem off5 : ∀ c : Dev nD, k0_off5 c = ![base 1 (dev 1 5 c), 0] := by decide +kernel
theorem off6 : ∀ c : Dev nD, k0_off6 c = ![base 1 (dev 1 1 c), 0] := by decide +kernel
theorem off7 : ∀ c : Dev nD, k0_off7 c = ![base 2 (lo 2 (dev 2 3 c)), 0] := by decide +kernel
theorem off8 : ∀ c : Dev nD, k0_off8 c = ![base 2 (dev 2 5 c), 0] := by decide +kernel
theorem off9 : ∀ c : Dev nD, k0_off9 c = ![base 2 (dev 2 1 c), 0] := by decide +kernel
theorem off10 : ∀ c : Dev nD, k0_off10 c = ![base 0 (lo 0 (dev 0 2 c)), 0] := by decide +kernel
theorem off11 : ∀ c : Dev nD, k0_off11 c = ![base 0 (dev 0 6 c), 0] := by decide +kernel
theorem off12 : ∀ c : Dev nD, k0_off12 c = ![base 0 (dev 0 2 c), 0] := by decide +kernel
theorem off13 : ∀ c : Dev nD, k0_off13 c = ![base 1 (lo 1 (dev 1 2 c)), 0] := by decide +kernel
theorem off14 : ∀ c : Dev nD, k0_off14 c = ![base 1 (dev 1 6 c), 0] := by decide +kernel
theorem off15 : ∀ c : Dev nD, k0_off15 c = ![base 1 (dev 1 2 c), 0] := by decide +kernel
theorem off16 : ∀ c : Dev nD, k0_off16 c = ![base 2 (lo 2 (dev 2 2 c)), 0] := by decide +kernel
theorem off17 : ∀ c : Dev nD, k0_off17 c = ![base 2 (dev 2 6 c), 0] := by decide +kernel
theorem off18 : ∀ c : Dev nD, k0_off18 c = ![base 2 (dev 2 2 c), 0] := by decide +kernel
theorem off19 : ∀ c : Dev nD, k0_off19 c = ![base 0 (dev 0 4 c), 0] := by decide +kernel
theorem off20 : ∀ c : Dev nD, k0_off20 c = ![base 1 (dev 1 4 c), 0] := by decide +kernel
theorem off21 : ∀ c : Dev nD, k0_off21 c = ![base 2 (dev 2 4 c), 0] := by decide +kernel
theorem off22 : ∀ c : Dev nD, k0_off22 c = ![base 0 (dev 0 4 c), 0] := by decide +kernel
theorem off23 : ∀ c : Dev nD, k0_off23 c = ![base 1 (dev 1 4 c), 0] := by decide +kernel
theorem off24 : ∀ c : Dev nD, k0_off24 c = ![base 2 (dev 2 4 c), 0] := by decide +kernel
theorem off25 : ∀ c : Dev nD, k0_off25 c = ![base 0 (dev 0 0 c), 0] := by decide +kernel
theorem off26 : ∀ c : Dev nD, k0_off26 c = ![base 1 (dev 1 0 c), 0] := by decide +kernel
theorem off27 : ∀ c : Dev nD, k0_off27 c = ![base 2 (dev 2 0 c), 0] := by decide +kernel
theorem off28 : ∀ c : Dev nD, k0_off28 c = ![base 0 (dev 0 0 c), 0] := by decide +kernel
theorem off29 : ∀ c : Dev nD, k0_off29 c = ![base 1 (dev 1 0 c), 0] := by decide +kernel
theorem off30 : ∀ c : Dev nD, k0_off30 c = ![base 2 (dev 2 0 c), 0] := by decide +kernel
theorem off31 : ∀ c : Dev nD, k0_off31 c = ![base 0 (dev 0 2 c), 0] := by decide +kernel
theorem off32 : ∀ c : Dev nD, k0_off32 c = ![base 1 (dev 1 2 c), 0] := by decide +kernel
theorem off33 : ∀ c : Dev nD, k0_off33 c = ![base 2 (dev 2 2 c), 0] := by decide +kernel
theorem off34 : ∀ c : Dev nD, k0_off34 c = ![base 0 (dev 0 6 c), 0] := by decide +kernel
theorem off35 : ∀ c : Dev nD, k0_off35 c = ![base 1 (dev 1 6 c), 0] := by decide +kernel
theorem off36 : ∀ c : Dev nD, k0_off36 c = ![base 2 (dev 2 6 c), 0] := by decide +kernel
theorem off37 : ∀ c : Dev nD, k0_off37 c = ![base 0 (dev 0 1 c), 0] := by decide +kernel
theorem off38 : ∀ c : Dev nD, k0_off38 c = ![base 1 (dev 1 1 c), 0] := by decide +kernel
theorem off39 : ∀ c : Dev nD, k0_off39 c = ![base 2 (dev 2 1 c), 0] := by decide +kernel
theorem off40 : ∀ c : Dev nD, k0_off40 c = ![base 0 (dev 0 5 c), 0] := by decide +kernel
theorem off41 : ∀ c : Dev nD, k0_off41 c = ![base 1 (dev 1 5 c), 0] := by decide +kernel
theorem off42 : ∀ c : Dev nD, k0_off42 c = ![base 2 (dev 2 5 c), 0] := by decide +kernel
theorem off43 : ∀ c : Dev nD, k0_off43 c = ![base 0 (dev 0 3 c), 0] := by decide +kernel
theorem off44 : ∀ c : Dev nD, k0_off44 c = ![base 0 (dev 0 3 c), 0] := by decide +kernel
theorem off45 : ∀ c : Dev nD, k0_off45 c = ![base 1 (dev 1 3 c), 0] := by decide +kernel
theorem off46 : ∀ c : Dev nD, k0_off46 c = ![base 1 (dev 1 3 c), 0] := by decide +kernel
theorem off47 : ∀ c : Dev nD, k0_off47 c = ![base 2 (dev 2 3 c), 0] := by decide +kernel
theorem off48 : ∀ c : Dev nD, k0_off48 c = ![base 2 (dev 2 3 c), 0] := by decide +kernel
theorem off49 : ∀ c : Dev nD, k0_off49 c = ![base 0 (dev 0 7 c), 0] := by decide +kernel
theorem off50 : ∀ c : Dev nD, k0_off50 c = ![base 0 (dev 0 7 c), 0] := by decide +kernel
theorem off51 : ∀ c : Dev nD, k0_off51 c = ![base 1 (dev 1 7 c), 0] := by decide +kernel
theorem off52 : ∀ c : Dev nD, k0_off52 c = ![base 1 (dev 1 7 c), 0] := by decide +kernel
theorem off53 : ∀ c : Dev nD, k0_off53 c = ![base 2 (dev 2 7 c), 0] := by decide +kernel
theorem off54 : ∀ c : Dev nD, k0_off54 c = ![base 2 (dev 2 7 c), 0] := by decide +kernel

/-! ## Partners -/

theorem dev4 : ∀ c : Dev nD, (⟨k0_dev4 c, k0_dev4_lt c⟩ : Dev nD) = dev 0 (pm 0) c := by decide +kernel
theorem dev5 : ∀ c : Dev nD, (⟨k0_dev5 c, k0_dev5_lt c⟩ : Dev nD) = dev 0 (pm 1) c := by decide +kernel
theorem dev6 : ∀ c : Dev nD, (⟨k0_dev6 c, k0_dev6_lt c⟩ : Dev nD) = dev 0 (pm 12) c := by decide +kernel
theorem dev7 : ∀ c : Dev nD, (⟨k0_dev7 c, k0_dev7_lt c⟩ : Dev nD) = dev 1 (pm 0) c := by decide +kernel
theorem dev8 : ∀ c : Dev nD, (⟨k0_dev8 c, k0_dev8_lt c⟩ : Dev nD) = dev 1 (pm 1) c := by decide +kernel
theorem dev9 : ∀ c : Dev nD, (⟨k0_dev9 c, k0_dev9_lt c⟩ : Dev nD) = dev 1 (pm 12) c := by decide +kernel
theorem dev10 : ∀ c : Dev nD, (⟨k0_dev10 c, k0_dev10_lt c⟩ : Dev nD) = dev 2 (pm 0) c := by decide +kernel
theorem dev11 : ∀ c : Dev nD, (⟨k0_dev11 c, k0_dev11_lt c⟩ : Dev nD) = dev 2 (pm 1) c := by decide +kernel
theorem dev12 : ∀ c : Dev nD, (⟨k0_dev12 c, k0_dev12_lt c⟩ : Dev nD) = dev 2 (pm 12) c := by decide +kernel
theorem dev13 : ∀ c : Dev nD, (⟨k0_dev13 c, k0_dev13_lt c⟩ : Dev nD) = dev 0 (pm 2) c := by decide +kernel
theorem dev14 : ∀ c : Dev nD, (⟨k0_dev14 c, k0_dev14_lt c⟩ : Dev nD) = dev 0 (pm 3) c := by decide +kernel
theorem dev15 : ∀ c : Dev nD, (⟨k0_dev15 c, k0_dev15_lt c⟩ : Dev nD) = dev 1 (pm 2) c := by decide +kernel
theorem dev16 : ∀ c : Dev nD, (⟨k0_dev16 c, k0_dev16_lt c⟩ : Dev nD) = dev 1 (pm 3) c := by decide +kernel
theorem dev17 : ∀ c : Dev nD, (⟨k0_dev17 c, k0_dev17_lt c⟩ : Dev nD) = dev 2 (pm 2) c := by decide +kernel
theorem dev18 : ∀ c : Dev nD, (⟨k0_dev18 c, k0_dev18_lt c⟩ : Dev nD) = dev 2 (pm 3) c := by decide +kernel
theorem dev19 : ∀ c : Dev nD, (⟨k0_dev19 c, k0_dev19_lt c⟩ : Dev nD) = dev 0 (pm 4) c := by decide +kernel
theorem dev20 : ∀ c : Dev nD, (⟨k0_dev20 c, k0_dev20_lt c⟩ : Dev nD) = dev 1 (pm 4) c := by decide +kernel
theorem dev21 : ∀ c : Dev nD, (⟨k0_dev21 c, k0_dev21_lt c⟩ : Dev nD) = dev 2 (pm 4) c := by decide +kernel
theorem dev22 : ∀ c : Dev nD, (⟨k0_dev22 c, k0_dev22_lt c⟩ : Dev nD) = dev 0 (pm 5) c := by decide +kernel
theorem dev23 : ∀ c : Dev nD, (⟨k0_dev23 c, k0_dev23_lt c⟩ : Dev nD) = dev 0 (pm 6) c := by decide +kernel
theorem dev24 : ∀ c : Dev nD, (⟨k0_dev24 c, k0_dev24_lt c⟩ : Dev nD) = dev 0 (pm 8) c := by decide +kernel
theorem dev25 : ∀ c : Dev nD, (⟨k0_dev25 c, k0_dev25_lt c⟩ : Dev nD) = dev 1 (pm 5) c := by decide +kernel
theorem dev26 : ∀ c : Dev nD, (⟨k0_dev26 c, k0_dev26_lt c⟩ : Dev nD) = dev 1 (pm 6) c := by decide +kernel
theorem dev27 : ∀ c : Dev nD, (⟨k0_dev27 c, k0_dev27_lt c⟩ : Dev nD) = dev 1 (pm 8) c := by decide +kernel
theorem dev28 : ∀ c : Dev nD, (⟨k0_dev28 c, k0_dev28_lt c⟩ : Dev nD) = dev 2 (pm 5) c := by decide +kernel
theorem dev29 : ∀ c : Dev nD, (⟨k0_dev29 c, k0_dev29_lt c⟩ : Dev nD) = dev 2 (pm 6) c := by decide +kernel
theorem dev30 : ∀ c : Dev nD, (⟨k0_dev30 c, k0_dev30_lt c⟩ : Dev nD) = dev 2 (pm 8) c := by decide +kernel
theorem dev31 : ∀ c : Dev nD, (⟨k0_dev31 c, k0_dev31_lt c⟩ : Dev nD) = dev 0 (pm 7) c := by decide +kernel
theorem dev32 : ∀ c : Dev nD, (⟨k0_dev32 c, k0_dev32_lt c⟩ : Dev nD) = dev 0 (pm 9) c := by decide +kernel
theorem dev33 : ∀ c : Dev nD, (⟨k0_dev33 c, k0_dev33_lt c⟩ : Dev nD) = dev 1 (pm 7) c := by decide +kernel
theorem dev34 : ∀ c : Dev nD, (⟨k0_dev34 c, k0_dev34_lt c⟩ : Dev nD) = dev 1 (pm 9) c := by decide +kernel
theorem dev35 : ∀ c : Dev nD, (⟨k0_dev35 c, k0_dev35_lt c⟩ : Dev nD) = dev 2 (pm 7) c := by decide +kernel
theorem dev36 : ∀ c : Dev nD, (⟨k0_dev36 c, k0_dev36_lt c⟩ : Dev nD) = dev 2 (pm 9) c := by decide +kernel
theorem dev37 : ∀ c : Dev nD, (⟨k0_dev37 c, k0_dev37_lt c⟩ : Dev nD) = dev 0 (pm 10) c := by decide +kernel
theorem dev38 : ∀ c : Dev nD, (⟨k0_dev38 c, k0_dev38_lt c⟩ : Dev nD) = dev 1 (pm 10) c := by decide +kernel
theorem dev39 : ∀ c : Dev nD, (⟨k0_dev39 c, k0_dev39_lt c⟩ : Dev nD) = dev 2 (pm 10) c := by decide +kernel
theorem dev40 : ∀ c : Dev nD, (⟨k0_dev40 c, k0_dev40_lt c⟩ : Dev nD) = dev 0 (pm 11) c := by decide +kernel
theorem dev41 : ∀ c : Dev nD, (⟨k0_dev41 c, k0_dev41_lt c⟩ : Dev nD) = dev 1 (pm 11) c := by decide +kernel
theorem dev42 : ∀ c : Dev nD, (⟨k0_dev42 c, k0_dev42_lt c⟩ : Dev nD) = dev 2 (pm 11) c := by decide +kernel

variable (P : Dev nD → Tab F)

/-! ## What some more `At`s say -/

theorem interp_fwAny (c : Dev nD) (p k) : interp P c (.fwAny p k) = anyR (fwM p) c (k.val * u p) (u p) := rfl
theorem interp_fwFull (c : Dev nD) (p k q) : interp P c (.fwFull p k q)
    = region (fwM p) c (k.val * u p) (u p) q.q (valAt P p 3 (base p (dev p (fwS k) c)) (dev p (fwS k) c)) := rfl
theorem interp_outAny (c : Dev nD) (p s) : interp P c (.outAny p s) = anyR oM c (base p (dev p s c)) (u p) := rfl
theorem interp_outFull (c : Dev nD) (p s) : interp P c (.outFull p s)
    = region oM c (base p (dev p s c)) (u p) fullShare (valAt P p 3 (base p (dev p s c)) (dev p s c)) := rfl

/-- A finished program. -/
theorem ret_intro {α : Type} {X : sProp 𝕄} {c : Dev nD} {Q : α → sProp 𝕄} {a : α} (H : X ⊢ Q a) : X ⊢ WP c (.ret a) Q := by
  unfold WP; rw [wp_ret]; exact BIBase.Entails.trans H fupd_intro

end Cert.KernelIdeal.Halving
-- ==== Proof.Tiles.lean ====
/-
# `Tiles`: whole buffers and the runs the protocol holds of them

The buffer of partial products starts cut in six runs per partition and ends cut in eight regions per partition,
as the result does; the landing buffers are cut in one section per message, the forwarding buffers in three. Each
cutting is stated as an equation between the whole buffer and the list of its runs.
-/
module

public import proofs.«01_k».proof.Proof.Offs

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

section Lists
variable {I J : Type}

omit [FloatOps F] in
/-- The conjunction along a list of lists is that along the concatenation. -/
theorem bigSepL_flatMap (l : List I) (f : I → List J) (Φ : J → sProp 𝕄) :
    bigSepL (l.flatMap f) Φ = bigSepL l fun i => bigSepL (f i) Φ := by
  induction l with
  | nil => rfl
  | cons i l ih =>
    rw [List.flatMap_cons, bigSepL_append, ih, bigSepL_cons']

omit [FloatOps F] in
/-- Only the members of the list matter. -/
theorem bigSepL_congr_mem {l : List I} {Φ Ψ : I → sProp 𝕄} (h : ∀ i ∈ l, Φ i = Ψ i) : bigSepL l Φ = bigSepL l Ψ := by
  induction l with
  | nil => rfl
  | cons i l ih =>
    rw [bigSepL_cons', bigSepL_cons', h i List.mem_cons_self, ih fun j hj => h j (List.mem_cons_of_mem _ hj)]

omit [FloatOps F] in
/-- The order of the list does not matter. -/
theorem bigSepL_perm {l l' : List I} (h : l.Perm l') (Φ : I → sProp 𝕄) : bigSepL l Φ = bigSepL l' Φ := by
  induction h with
  | nil => rfl
  | cons i _ ih => rw [bigSepL_cons', bigSepL_cons', ih]
  | swap i j l => rw [bigSepL_cons', bigSepL_cons', bigSepL_cons', bigSepL_cons']; exact sep_swap _ _ _
  | trans _ _ ih1 ih2 => exact ih1.trans ih2

end Lists

/-! ## Tilings -/

/-- The runs `b t`, `k t` tile the run `r`, `n`, said so that it can be decided. -/
def Tiling {T : Type} [Fintype T] (r n : ℕ) (b k : T → ℕ) : Prop :=
  (∀ t, r ≤ b t ∧ b t + k t ≤ r + n) ∧ (∀ t, 0 < k t) ∧ (∃ t, b t = r)
    ∧ (∀ t, b t + k t = r + n ∨ ∃ t', b t' = b t + k t)
    ∧ ∀ t t', t = t' ∨ b t + k t ≤ b t' ∨ b t' + k t' ≤ b t

instance {T : Type} [Fintype T] [DecidableEq T] (r n : ℕ) (b k : T → ℕ) : Decidable (Tiling r n b k) := by
  unfold Tiling; infer_instance

section Tiling
variable {T : Type} [Fintype T] [DecidableEq T] {r n : ℕ} {b k : T → ℕ}

/-- Every row of a tiled run is in a tile. -/
theorem Tiling.cover (h : Tiling r n b k) : ∀ i, r ≤ i → i < r + n → ∃ t, b t ≤ i ∧ i < b t + k t := by
  obtain ⟨h1, h2, ⟨t0, h3⟩, h4, h5⟩ := h
  intro i hi
  induction i, hi using Nat.le_induction with
  | base =>
    intro _
    have := h2 t0
    exact ⟨t0, by omega, by omega⟩
  | succ i hi ih =>
    intro hlt
    obtain ⟨t, ha, hb⟩ := ih (by omega)
    by_cases hc : i + 1 < b t + k t
    · exact ⟨t, by omega, hc⟩
    · rcases h4 t with h | ⟨t', h⟩
      · omega
      · have := h2 t'
        exact ⟨t', by omega, by omega⟩

/-- No row is in two tiles. -/
theorem Tiling.disjoint (h : Tiling r n b k) : ∀ t t' i, b t ≤ i → i < b t + k t → b t' ≤ i → i < b t' + k t' → t = t' := by
  intro t t' i h1 h2 h3 h4
  rcases h.2.2.2.2 t t' with h | h | h
  · exact h
  · omega
  · omega

variable {N : ℕ} (M : Memref sig .tc .vmem (mat N) .f32) (d : Dev nD)

/-- A run is the list of its tiles. -/
theorem region_tiles (q : PosShare TreeShare) (W : Tab F) (h : Tiling r n b k) (l : List T) (hl : l.Nodup) (hc : ∀ t, t ∈ l) :
    region M d r n q W = bigSepL l fun t => region M d (b t) (k t) q (sh (b t - r) W) := by
  rw [region_family M d r n q b k h.1 h.cover h.disjoint,
    bigSep_univ_eq_bigSepL l (Finset.eq_univ_iff_forall.mpr fun t => List.mem_toFinset.mpr (hc t)).symm hl]

theorem anyR_tiles (h : Tiling r n b k) (l : List T) (hl : l.Nodup) (hc : ∀ t, t ∈ l) :
    anyR (F := F) M d r n = bigSepL l fun t => anyR M d (b t) (k t) := by
  rw [anyR_family M d r n b k h.1 h.cover h.disjoint,
    bigSep_univ_eq_bigSepL l (Finset.eq_univ_iff_forall.mpr fun t => List.mem_toFinset.mpr (hc t)).symm hl]

end Tiling

/-! ## Whole buffers -/

section Whole
variable {N : ℕ} (M : Memref sig .tc .vmem (mat N) .f32) (d : Dev nD)

omit [FloatOps F] in
theorem rset_all : rset M 0 N = M.view.set := by
  unfold rset
  have : rows N 0 N = Finset.univ := by
    ext i
    have := (i 0).isLt
    simp only [mem_rows, Finset.mem_univ, iff_true]
    exact ⟨Nat.zero_le _, by simpa using this⟩
  rw [this]
  rfl

omit [FloatOps F] in
theorem region_all (q : PosShare TreeShare) (W : Tab F) : region M d 0 N q W = owns (d : Thread nD τ) M q (blk N W) := by
  unfold region owns
  rw [rset_all]
  have : ∀ f : Buf (Elt F) (M.view.loc (d : Thread nD τ)),
      (∀ i : (mat N).Idx, i ∈ rows N 0 N → M.view.read (Elt F) f i = W ((i 0).val - 0) (i 1).val) = (M.view.read (Elt F) f = blk N W) := by
    intro f
    refine propext ⟨fun h => funext fun i => h i (mem_rows.mpr ⟨Nat.zero_le _, by have := (i 0).isLt; simpa using this⟩), fun h i _ => ?_⟩
    rw [h]; rfl
  simp only [this]

omit [FloatOps F] in
theorem anyR_all : anyR (F := F) M d 0 N = iprop(∃ f : Buf (Elt F) (M.view.loc (d : Thread nD τ)), (M.view.loc (d : Thread nD τ) ↦[M.view.set]{fullShare} f)) := by
  unfold anyR
  rw [rset_all]

end Whole

/-! ## The lists of the pieces -/

/-- The eight regions of the three partitions. -/
def l8 : List (Fin 3 × Fin 8) := ps.flatMap fun p => (List.finRange 8).map fun s => (p, s)
/-- The six runs of the three partitions. -/
def l6 : List (Fin 3 × Fin 6) := ps.flatMap fun p => (List.finRange 6).map fun s => (p, s)
/-- The messages. -/
def lm : List (Fin 3 × Fin 13) := ps.flatMap fun p => (List.finRange 13).map fun s => (p, s)

theorem l8_nodup : l8.Nodup := by decide +kernel
theorem l8_all : ∀ t, t ∈ l8 := by decide +kernel
theorem l6_nodup : l6.Nodup := by decide +kernel
theorem l6_all : ∀ t, t ∈ l6 := by decide +kernel
theorem lm_nodup : lm.Nodup := by decide +kernel
theorem lm_all : ∀ t, t ∈ lm := by decide +kernel

/-! ### The regions of a buffer of 4096 rows -/

theorem tiles8 : ∀ c : Dev nD, Tiling (T := Fin 3 × Fin 8) 0 4096 (fun t => base t.1 (dev t.1 t.2 c)) (fun t => u t.1) := by decide +kernel

/-- What is held of the sum buffer, by its six places. -/
def pAt : Fin 3 × Fin 6 → At
  | (p, 0) => .pP p 3 0
  | (p, 1) => .pP p 2 0
  | (p, 2) => .pO p 5 (.rem 0) 0 0
  | (p, 3) => .pO p 1 (.rem 0) 0 0
  | (p, 4) => .pO p 4 (.rem 0) 0 0
  | (p, 5) => .pO p 0 (.rem 0) 0 0

/-- Its first row, -/
def pB (c : Dev nD) : Fin 3 × Fin 6 → ℕ
  | (p, 0) => base p (lo p (dev p 3 c))
  | (p, 1) => base p (lo p (dev p 2 c))
  | (p, 2) => base p (dev p 5 c)
  | (p, 3) => base p (dev p 1 c)
  | (p, 4) => base p (dev p 4 c)
  | (p, 5) => base p (dev p 0 c)

/-- and its length. -/
def pK : Fin 3 × Fin 6 → ℕ
  | (p, 0) => 2 * u p
  | (p, 1) => 2 * u p
  | (p, _) => u p

theorem tiles6 : ∀ c : Dev nD, Tiling 0 4096 (pB c) pK := by decide +kernel

variable (P : Dev nD → Tab F)

/-- The buffer of partial products is the runs held after the barrier. -/
theorem seg_p (c : Dev nD) : region pM c 0 4096 fullShare (P c) = bigSepL (l6.map pAt) (interp P c) := by
  rw [region_tiles pM c fullShare (P c) (tiles6 c) l6 l6_nodup l6_all, bigSepL_map]
  refine congrArg (bigSepL l6) (funext ?_)
  rintro ⟨p, i⟩
  have hz := dev_zero p c
  match i with
  | 0 => rfl
  | 1 => rfl
  | 2 => show _ = region pM c (base p (dev p 5 c)) (u p) fullShare (valAt P p 0 (base p (dev p 5 c)) (dev p 0 c)); rw [hz]; rfl
  | 3 => show _ = region pM c (base p (dev p 1 c)) (u p) fullShare (valAt P p 0 (base p (dev p 1 c)) (dev p 0 c)); rw [hz]; rfl
  | 4 => show _ = region pM c (base p (dev p 4 c)) (u p) fullShare (valAt P p 0 (base p (dev p 4 c)) (dev p 0 c)); rw [hz]; rfl
  | 5 => show region pM c (base p (dev p 0 c)) (u p) fullShare (sh (base p (dev p 0 c)) (P c)) = region pM c (base p (dev p 0 c)) (u p) fullShare (valAt P p 0 (base p (dev p 0 c)) (dev p 0 c)); rw [hz]; rfl

/-- The result's buffer is its regions. -/
theorem seg_out (c : Dev nD) : anyR (F := F) oM c 0 4096 = bigSepL (l8.map fun t => At.outAny t.1 t.2) (interp P c) := by
  rw [anyR_tiles oM c (tiles8 c) l8 l8_nodup l8_all, bigSepL_map]
  rfl

/-- The finished regions, forgotten, are the buffer of partial products again. -/
theorem seg_p_end (c : Dev nD) : bigSepL (l8.map fun t => At.pO t.1 t.2 (.rem 0) 3 t.2) (interp P c) ⊢ anyR (F := F) pM c 0 4096 := by
  rw [anyR_tiles pM c (tiles8 c) l8 l8_nodup l8_all, bigSepL_map]
  exact bigSepL_mono fun t _ => region_any pM c _ _ _

/-! ### The values of the result -/

/-- The device at a place of a partition. -/
def devAt (p : Fin 3) (s : ℕ) : Dev nD := ((List.finRange 8).find? fun e => slot p e = s).getD 0

theorem devAt_slot : ∀ (p : Fin 3) (e : Dev nD), devAt p (slot p e) = e := by decide +kernel
theorem slot_lt : ∀ (p : Fin 3) (e : Dev nD), slot p e < 8 := by decide +kernel

/-- The partition of a row. -/
def pOf (r : ℕ) : Fin 3 := if r < 1344 then 0 else if r < 2688 then 1 else 2

/-- The device that finishes a row. -/
def owner (r : ℕ) : Dev nD := devAt (pOf r) ((r - start (pOf r)) / u (pOf r))

/-- The sums, by row and column. -/
def fin : Tab F := fun r j => val P (pOf r) 3 (owner r) r j

theorem pOf_first {r : ℕ} (h : r < 1344) : pOf r = 0 := if_pos h
theorem pOf_second {r : ℕ} (h : 1344 ≤ r) (h' : r < 2688) : pOf r = 1 := (if_neg (by omega)).trans (if_pos h')
theorem pOf_third {r : ℕ} (h : 2688 ≤ r) : pOf r = 2 := (if_neg (by omega)).trans (if_neg (by omega))

theorem pOf_base (p : Fin 3) (e : Dev nD) (i : ℕ) (hi : i < u p) : pOf (base p e + i) = p := by
  have hs := slot_lt p e
  unfold base
  match p, hi, hs with
  | 0, hi, hs => exact pOf_first (by simp only [start, u] at hi ⊢; omega)
  | 1, hi, hs => exact pOf_second (by simp only [start, u] at hi ⊢; omega) (by simp only [start, u] at hi ⊢; omega)
  | 2, hi, hs => exact pOf_third (by simp only [start, u] at hi ⊢; omega)

theorem owner_base (p : Fin 3) (e : Dev nD) (i : ℕ) (hi : i < u p) : owner (base p e + i) = e := by
  unfold owner
  rw [pOf_base p e i hi]
  have : (base p e + i - start p) / u p = slot p e := by
    unfold base
    have h0 : 0 < u p := by omega
    rw [show start p + u p * slot p e + i - start p = i + u p * slot p e by omega, Nat.add_mul_div_left _ _ h0, Nat.div_eq_of_lt hi, Nat.zero_add]
  rw [this, devAt_slot]

/-- The regions of the result, written, are its buffer holding the sums. -/
theorem seg_out_end (c : Dev nD) : bigSepL (l8.map fun t => At.outFull t.1 t.2) (interp P c) = region oM c 0 4096 fullShare (fin P) := by
  rw [region_tiles oM c fullShare (fin P) (tiles8 c) l8 l8_nodup l8_all, bigSepL_map]
  refine congrArg (bigSepL l8) (funext ?_)
  rintro ⟨p, s⟩
  show region oM c (base p (dev p s c)) (u p) fullShare (valAt P p 3 (base p (dev p s c)) (dev p s c)) = _
  refine region_congr oM c _ _ _ fun i hi j hj => ?_
  show val P p 3 (dev p s c) (base p (dev p s c) + i) j = fin P (base p (dev p s c) - 0 + i) j
  rw [Nat.sub_zero]
  unfold fin
  rw [pOf_base p _ i hi, owner_base p _ i hi]

/-! ### Forwarding sections -/

theorem tiles_fw : ∀ p : Fin 3, Tiling (T := Fin 3) 0 (3 * u p) (fun k => k.val * u p) (fun _ => u p) := by decide +kernel

theorem fw_cut (c : Dev nD) (p : Fin 3) : anyR (F := F) (fwM p) c 0 (3 * u p) = bigSepL (List.finRange 3) fun k => anyR (F := F) (fwM p) c (k.val * u p) (u p) :=
  anyR_tiles (fwM p) c (tiles_fw p) _ (List.nodup_finRange 3) (List.mem_finRange ·)

theorem seg_fw (c : Dev nD) : (bigSepL ps fun p => anyR (F := F) (fwM p) c 0 (3 * u p))
    = bigSepL (ps.flatMap fun p => (List.finRange 3).map fun k => At.fwAny p k) (interp P c) := by
  rw [bigSepL_flatMap]
  refine congrArg (bigSepL ps) (funext fun p => ?_)
  rw [fw_cut, bigSepL_map]
  rfl

theorem seg_fw_end (c : Dev nD) : bigSepL (ps.flatMap fun p => (List.finRange 3).map fun k => At.fwFull p k (.rem 0)) (interp P c)
    ⊢ bigSepL ps fun p => anyR (F := F) (fwM p) c 0 (3 * u p) := by
  rw [bigSepL_flatMap]
  refine bigSepL_mono fun p _ => ?_
  rw [fw_cut, bigSepL_map]
  exact bigSepL_mono fun k _ => region_any (fwM p) c _ _ _

/-! ### Landing sections -/

/-- The messages of partial sums in the order of their sections. -/
def rsAt : Fin 6 → Fin 13
  | 0 => 0
  | 1 => 1
  | 2 => 12
  | 3 => 2
  | 4 => 3
  | 5 => 4

theorem tiles_rs : ∀ p : Fin 3, Tiling (T := Fin 6) 0 (7 * u p) (fun i => sec (rsAt i) * u p) (fun i => len p (rsAt i)) := by decide +kernel

theorem rs_cut (c : Dev nD) (p : Fin 3) : anyR (F := F) (rsM p) c 0 (7 * u p)
    = bigSepL [0, 1, 2, 3, 4, 12] fun mid => anyR (F := F) (rsM p) c (sec mid * u p) (len p mid) := by
  rw [anyR_tiles (rsM p) c (tiles_rs p) _ (List.nodup_finRange 6) (List.mem_finRange ·)]
  have h : ((List.finRange 6).map rsAt).Perm [0, 1, 2, 3, 4, 12] := by decide
  rw [← bigSepL_perm h, bigSepL_map]

/-- The messages of partial sums. -/
def lrs : List (Fin 3 × Fin 13) := ps.flatMap fun p => [0, 1, 2, 3, 4, 12].map fun mid => (p, mid)

/-- The same, in the order of the barrier's signals. -/
def lrsBar : List (Fin 3 × Fin 13) := [0, 1, 2].flatMap fun d => [0, 1, 2].flatMap fun p => (rsMids (stg p d)).map fun mid => (p, mid)

theorem lrs_perm : lrsBar.Perm lrs := by decide +kernel

theorem pr_pr : ∀ c x : Dev nD, pr (pr c x) x = c := by decide +kernel
theorem dev_bm : ∀ d p : Fin 3, ∀ mid ∈ rsMids (stg p d), ∀ c : Dev nD, dev p (pm mid) c = pr c (bm d) := by decide +kernel

/-- A device's landing buffers are what it hands over with its three signals. -/
theorem seg_rs (c : Dev nD) : (bigSepL ps fun p => anyR (F := F) (rsM p) c 0 (7 * u p))
    = bigSepL [0, 1, 2] fun d => barPay (F := F) (pr c (bm d)) d := by
  have h : (bigSepL ps fun p => anyR (F := F) (rsM p) c 0 (7 * u p))
      = bigSepL lrs fun t => anyR (F := F) (rsM t.1) c (sec t.2 * u t.1) (len t.1 t.2) := by
    unfold lrs
    rw [bigSepL_flatMap]
    refine congrArg (bigSepL ps) (funext fun p => ?_)
    rw [rs_cut, bigSepL_map]
  rw [h, ← bigSepL_perm lrs_perm]
  unfold lrsBar
  rw [bigSepL_flatMap]
  refine congrArg (bigSepL [0, 1, 2]) (funext fun d => ?_)
  unfold barPay
  rw [bigSepL_flatMap]
  refine congrArg (bigSepL [0, 1, 2]) (funext fun p => ?_)
  unfold rsSecs
  rw [pr_pr, bigSepL_map]

/-- What the barrier hands over is the landing sections of the device's messages. -/
theorem seg_bar (c : Dev nD) : (bigSepL [0, 1, 2] fun d => barPay (F := F) c d)
    = bigSepL (ps.flatMap fun p => [0, 1, 2, 3, 4, 12].map fun mid => At.rsAny p mid) (interp P c) := by
  have h : bigSepL (ps.flatMap fun p => [0, 1, 2, 3, 4, 12].map fun mid => At.rsAny p mid) (interp P c)
      = bigSepL lrs fun t => interp P c (.rsAny t.1 t.2) := by
    unfold lrs
    rw [bigSepL_flatMap, bigSepL_flatMap]
    refine congrArg (bigSepL ps) (funext fun p => ?_)
    rw [bigSepL_map, bigSepL_map]
  rw [h, ← bigSepL_perm lrs_perm]
  unfold lrsBar
  rw [bigSepL_flatMap]
  refine congrArg (bigSepL [0, 1, 2]) (funext fun d => ?_)
  unfold barPay
  rw [bigSepL_flatMap]
  refine congrArg (bigSepL [0, 1, 2]) (funext fun p => ?_)
  unfold rsSecs
  rw [bigSepL_map]
  refine bigSepL_congr_mem fun mid hmid => ?_
  show _ = anyR (rsM p) (dev p (pm mid) c) (sec mid * u p) (len p mid)
  rw [dev_bm d p mid hmid]

/-- The sections, arrived and forgotten, are the landing buffers again. -/
theorem seg_rs_end (c : Dev nD) : bigSepL (ps.flatMap fun p => [0, 1, 2, 3, 4, 12].map fun mid => At.rsFull p mid) (interp P c)
    ⊢ bigSepL ps fun p => anyR (F := F) (rsM p) c 0 (7 * u p) := by
  rw [bigSepL_flatMap]
  refine bigSepL_mono fun p _ => ?_
  rw [rs_cut, bigSepL_map]
  exact bigSepL_mono fun k _ => region_any (rsM p) c _ _ _

end Cert.KernelIdeal.Halving
-- ==== Proof.Words.lean ====
/-
# `Words`: the parts of the program that only compute offsets and partners
-/
module

public import proofs.«01_k».proof.Proof.Tiles

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD}

/-! These parts touch no memory; their words matter only through the offsets and partners of `Offs`. -/

/-- Part 2 goes through. -/
theorem part2_ok {X : sProp 𝕄} {Q : (Σ' (v32 : BitVec 32) (v38 : BitVec 32) (v39 : BitVec 32) (v44 : BitVec 32) (v50 : BitVec 32) (v55 : BitVec 32) (v61 : BitVec 32), BitVec 32) → sProp 𝕄} (v5 : BitVec 32) (v7 : BitVec 32) (v8 : BitVec 32) (v28 : BitVec 32) (v29 : BitVec 32) (H : ∀ w0 w1 w2 w3 w4 w5 w6 w7, X ⊢ Q ⟨w0, w1, w2, w3, w4, w5, w6, w7⟩) :
    X ⊢ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v5 v7 v8 v28 v29) Q := by
  rw [k0_part2_eq_skeleton]; unfold k0_part2_skel
  simp only [Prog.pure_eq_ret]
  exact ret_intro (H _ _ _ _ _ _ _ _)

/-- Part 3 goes through. -/
theorem part3_ok {X : sProp 𝕄} {Q : (Σ' (v74 : BitVec 32) (v77 : BitVec 32) (v80 : BitVec 32) (v83 : BitVec 32) (v86 : BitVec 32) (v89 : BitVec 32) (v92 : BitVec 32) (v95 : BitVec 32) (v96 : BitVec 32), BitVec 32) → sProp 𝕄} (v2 : BitVec 32) (v5 : BitVec 32) (v7 : BitVec 32) (v8 : BitVec 32) (v22 : BitVec 32) (v27 : BitVec 32) (v44 : BitVec 32) (v50 : BitVec 32) (v55 : BitVec 32) (v61 : BitVec 32) (v65 : BitVec 32) (H : ∀ w0 w1 w2 w3 w4 w5 w6 w7 w8 w9, X ⊢ Q ⟨w0, w1, w2, w3, w4, w5, w6, w7, w8, w9⟩) :
    X ⊢ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v7 v8 v22 v27 v44 v50 v55 v61 v65) Q := by
  rw [k0_part3_eq_skeleton]; unfold k0_part3_skel
  simp only [Prog.pure_eq_ret]
  exact ret_intro (H _ _ _ _ _ _ _ _ _ _)

/-- Part 4 goes through. -/
theorem part4_ok {X : sProp 𝕄} {Q : (Σ' (v98 : BitVec 32) (v101 : BitVec 32) (v104 : BitVec 32) (v107 : BitVec 32) (v110 : BitVec 32) (v115 : BitVec 32) (v121 : BitVec 32) (v127 : BitVec 32) (v129 : BitVec 32), BitVec 32) → sProp 𝕄} (v2 : BitVec 32) (v5 : BitVec 32) (v8 : BitVec 32) (v22 : BitVec 32) (v27 : BitVec 32) (v32 : BitVec 32) (v38 : BitVec 32) (v39 : BitVec 32) (v96 : BitVec 32) (c0_i32_71 : BitVec 32) (H : ∀ w0 w1 w2 w3 w4 w5 w6 w7 w8 w9, X ⊢ Q ⟨w0, w1, w2, w3, w4, w5, w6, w7, w8, w9⟩) :
    X ⊢ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v8 v22 v27 v32 v38 v39 v96 c0_i32_71) Q := by
  rw [k0_part4_eq_skeleton]; unfold k0_part4_skel
  simp only [Prog.pure_eq_ret]
  exact ret_intro (H _ _ _ _ _ _ _ _ _ _)

/-- Part 5 goes through. -/
theorem part5_ok {X : sProp 𝕄} {Q : (Σ' (v134 : BitVec 32) (v137 : BitVec 32) (v140 : BitVec 32) (v143 : BitVec 32) (v146 : BitVec 32) (v149 : BitVec 32) (v152 : BitVec 32) (v155 : BitVec 32) (v159 : BitVec 32), BitVec 32) → sProp 𝕄} (v2 : BitVec 32) (v3 : BitVec 32) (v5 : BitVec 32) (v7 : BitVec 32) (v27 : BitVec 32) (v32 : BitVec 32) (v38 : BitVec 32) (v39 : BitVec 32) (v115 : BitVec 32) (v121 : BitVec 32) (v127 : BitVec 32) (v129 : BitVec 32) (c1_i32_98 : BitVec 32) (H : ∀ w0 w1 w2 w3 w4 w5 w6 w7 w8 w9, X ⊢ Q ⟨w0, w1, w2, w3, w4, w5, w6, w7, w8, w9⟩) :
    X ⊢ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v3 v5 v7 v27 v32 v38 v39 v115 v121 v127 v129 c1_i32_98) Q := by
  rw [k0_part5_eq_skeleton]; unfold k0_part5_skel
  simp only [Prog.pure_eq_ret]
  exact ret_intro (H _ _ _ _ _ _ _ _ _ _)

/-- Part 6 goes through. -/
theorem part6_ok {X : sProp 𝕄} {Q : (Σ' (v164 : BitVec 32) (v169 : BitVec 32) (v175 : BitVec 32) (v176 : BitVec 32) (v181 : BitVec 32) (v187 : BitVec 32) (v192 : BitVec 32), BitVec 32) → sProp 𝕄} (v3 : BitVec 32) (v5 : BitVec 32) (v7 : BitVec 32) (v162 : BitVec 32) (H : ∀ w0 w1 w2 w3 w4 w5 w6 w7, X ⊢ Q ⟨w0, w1, w2, w3, w4, w5, w6, w7⟩) :
    X ⊢ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v3 v5 v7 v162) Q := by
  rw [k0_part6_eq_skeleton]; unfold k0_part6_skel
  simp only [Prog.pure_eq_ret]
  exact ret_intro (H _ _ _ _ _ _ _ _)

/-- Part 7 goes through. -/
theorem part7_ok {X : sProp 𝕄} {Q : (Σ' (v211 : BitVec 32) (v214 : BitVec 32) (v217 : BitVec 32) (v220 : BitVec 32) (v223 : BitVec 32) (v226 : BitVec 32) (v229 : BitVec 32), BitVec 32) → sProp 𝕄} (v2 : BitVec 32) (v3 : BitVec 32) (v5 : BitVec 32) (v7 : BitVec 32) (v159 : BitVec 32) (v181 : BitVec 32) (v187 : BitVec 32) (v192 : BitVec 32) (v198 : BitVec 32) (H : ∀ w0 w1 w2 w3 w4 w5 w6 w7, X ⊢ Q ⟨w0, w1, w2, w3, w4, w5, w6, w7⟩) :
    X ⊢ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v3 v5 v7 v159 v181 v187 v192 v198) Q := by
  rw [k0_part7_eq_skeleton]; unfold k0_part7_skel
  simp only [Prog.pure_eq_ret]
  exact ret_intro (H _ _ _ _ _ _ _ _)

/-- Part 8 goes through. -/
theorem part8_ok {X : sProp 𝕄} {Q : (Σ' (v232 : BitVec 32) (v235 : BitVec 32) (v238 : BitVec 32) (v241 : BitVec 32) (v244 : BitVec 32) (v247 : BitVec 32) (v252 : BitVec 32) (v258 : BitVec 32) (v260 : BitVec 32), BitVec 32) → sProp 𝕄} (v2 : BitVec 32) (v5 : BitVec 32) (v7 : BitVec 32) (v159 : BitVec 32) (v164 : BitVec 32) (v169 : BitVec 32) (v175 : BitVec 32) (v176 : BitVec 32) (v230 : BitVec 32) (H : ∀ w0 w1 w2 w3 w4 w5 w6 w7 w8 w9, X ⊢ Q ⟨w0, w1, w2, w3, w4, w5, w6, w7, w8, w9⟩) :
    X ⊢ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v7 v159 v164 v169 v175 v176 v230) Q := by
  rw [k0_part8_eq_skeleton]; unfold k0_part8_skel
  simp only [Prog.pure_eq_ret]
  exact ret_intro (H _ _ _ _ _ _ _ _ _ _)

/-- Part 9 goes through. -/
theorem part9_ok {X : sProp 𝕄} {Q : (Σ' (v264 : BitVec 32) (v271 : BitVec 32) (v274 : BitVec 32) (v277 : BitVec 32) (v280 : BitVec 32) (v283 : BitVec 32) (v286 : BitVec 32) (v289 : BitVec 32) (v292 : BitVec 32) (v293 : BitVec 32), BitVec 32) → sProp 𝕄} (v2 : BitVec 32) (v5 : BitVec 32) (v7 : BitVec 32) (v8 : BitVec 32) (v164 : BitVec 32) (v169 : BitVec 32) (v175 : BitVec 32) (v176 : BitVec 32) (v252 : BitVec 32) (v258 : BitVec 32) (v260 : BitVec 32) (v262 : BitVec 32) (H : ∀ w0 w1 w2 w3 w4 w5 w6 w7 w8 w9 w10, X ⊢ Q ⟨w0, w1, w2, w3, w4, w5, w6, w7, w8, w9, w10⟩) :
    X ⊢ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v7 v8 v164 v169 v175 v176 v252 v258 v260 v262) Q := by
  rw [k0_part9_eq_skeleton]; unfold k0_part9_skel
  simp only [Prog.pure_eq_ret]
  exact ret_intro (H _ _ _ _ _ _ _ _ _ _ _)

/-- Part 10 goes through. -/
theorem part10_ok {X : sProp 𝕄} {Q : (Σ' (v296 : BitVec 32) (v301 : BitVec 32) (v306 : BitVec 32) (v312 : BitVec 32) (v313 : BitVec 32) (v318 : BitVec 32) (v324 : BitVec 32) (v329 : BitVec 32) (v330 : BitVec 32), BitVec 32) → sProp 𝕄} (v5 : BitVec 32) (v7 : BitVec 32) (v8 : BitVec 32) (v293 : BitVec 32) (v294 : BitVec 32) (H : ∀ w0 w1 w2 w3 w4 w5 w6 w7 w8 w9, X ⊢ Q ⟨w0, w1, w2, w3, w4, w5, w6, w7, w8, w9⟩) :
    X ⊢ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v5 v7 v8 v293 v294) Q := by
  rw [k0_part10_eq_skeleton]; unfold k0_part10_skel
  simp only [Prog.pure_eq_ret]
  exact ret_intro (H _ _ _ _ _ _ _ _ _ _)

/-- Part 11 goes through. -/
theorem part11_ok {X : sProp 𝕄} {Q : (Σ' (v348 : BitVec 32) (v351 : BitVec 32) (v354 : BitVec 32) (v357 : BitVec 32) (v360 : BitVec 32) (v363 : BitVec 32), BitVec 32) → sProp 𝕄} (v2 : BitVec 32) (v5 : BitVec 32) (v7 : BitVec 32) (v8 : BitVec 32) (v318 : BitVec 32) (v324 : BitVec 32) (v329 : BitVec 32) (v330 : BitVec 32) (c1_i32_256 : BitVec 32) (H : ∀ w0 w1 w2 w3 w4 w5 w6, X ⊢ Q ⟨w0, w1, w2, w3, w4, w5, w6⟩) :
    X ⊢ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v7 v8 v318 v324 v329 v330 c1_i32_256) Q := by
  rw [k0_part11_eq_skeleton]; unfold k0_part11_skel
  simp only [Prog.pure_eq_ret]
  exact ret_intro (H _ _ _ _ _ _ _)

/-- Part 12 goes through. -/
theorem part12_ok {X : sProp 𝕄} {Q : (Σ' (v366 : BitVec 32) (v369 : BitVec 32) (v372 : BitVec 32) (v375 : BitVec 32) (v378 : BitVec 32) (v381 : BitVec 32) (v384 : BitVec 32) (v389 : BitVec 32) (v395 : BitVec 32), BitVec 32) → sProp 𝕄} (v2 : BitVec 32) (v7 : BitVec 32) (v8 : BitVec 32) (v296 : BitVec 32) (v301 : BitVec 32) (v306 : BitVec 32) (v312 : BitVec 32) (v313 : BitVec 32) (c176_i32_281 : BitVec 32) (H : ∀ w0 w1 w2 w3 w4 w5 w6 w7 w8 w9, X ⊢ Q ⟨w0, w1, w2, w3, w4, w5, w6, w7, w8, w9⟩) :
    X ⊢ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v7 v8 v296 v301 v306 v312 v313 c176_i32_281) Q := by
  rw [k0_part12_eq_skeleton]; unfold k0_part12_skel
  simp only [Prog.pure_eq_ret]
  exact ret_intro (H _ _ _ _ _ _ _ _ _ _)

/-- Part 13 goes through. -/
theorem part13_ok {X : sProp 𝕄} {Q : (Σ' (v401 : BitVec 32) (v408 : BitVec 32) (v411 : BitVec 32) (v414 : BitVec 32) (v417 : BitVec 32) (v420 : BitVec 32) (v423 : BitVec 32) (v426 : BitVec 32) (v427 : BitVec 32), BitVec 32) → sProp 𝕄} (v2 : BitVec 32) (v7 : BitVec 32) (v8 : BitVec 32) (v301 : BitVec 32) (v306 : BitVec 32) (v312 : BitVec 32) (v313 : BitVec 32) (v389 : BitVec 32) (v395 : BitVec 32) (c1_i32_309 : BitVec 32) (H : ∀ w0 w1 w2 w3 w4 w5 w6 w7 w8 w9, X ⊢ Q ⟨w0, w1, w2, w3, w4, w5, w6, w7, w8, w9⟩) :
    X ⊢ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v7 v8 v301 v306 v312 v313 v389 v395 c1_i32_309) Q := by
  rw [k0_part13_eq_skeleton]; unfold k0_part13_skel
  simp only [Prog.pure_eq_ret]
  exact ret_intro (H _ _ _ _ _ _ _ _ _ _)

end Cert.KernelIdeal.Halving
-- ==== Proof.Enter.lean ====
/-
# `Enter`: the barrier and the partial product

From the device's share of the protocol, its three operands and its empty buffers, the body runs to the end of the
list of steps (`Body`); here are the three signals of the barrier, the partial product and the wait for the three partners, after which come the
steps of `State`.
-/
module

public import proofs.«01_k».proof.Proof.Words

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

/-! ## Rules for programs in parts -/

omit [FloatOps F] in
/-- A table from an array of 4096 rows. -/
def tabOf (v : (mat 4096).Idx → Elt F .f32) : Tab F := fun i j => v fun a => match a with
  | 0 => ⟨i % 4096, Nat.mod_lt _ (by decide)⟩
  | 1 => ⟨j % 512, Nat.mod_lt _ (by decide)⟩

omit [FloatOps F] in
theorem blk_tabOf (v : (mat 4096).Idx → Elt F .f32) : blk 4096 (tabOf v) = v := by
  funext i
  unfold blk tabOf
  congr 1
  funext a
  refine Fin.ext ?_
  match a with
  | 0 => exact Nat.mod_eq_of_lt (i 0).isLt
  | 1 => exact Nat.mod_eq_of_lt (i 1).isLt

/-- A program in two parts. -/
theorem bind_step {α β : Type} {X : sProp 𝕄} {e : Prog (TpuEff nD τ sig (Elt F) Λ₀ .tc) α} {k : α → Prog (TpuEff nD τ sig (Elt F) Λ₀ .tc) β} {Q : β → sProp 𝕄}
    (H : X ⊢ WP c e fun a => WP c (k a) Q) : X ⊢ WP c (e >>= k) Q := by
  show X ⊢ wp frame (wpE (defs₀ (F := F)) 𝒱₀ (c : Thread nD τ) none) Set.univ (e >>= k) Q
  rw [wp_bind]; exact H

/-- What a program does not touch comes back at its end. -/
theorem framed {α : Type} {X R : sProp 𝕄} {e : Prog (TpuEff nD τ sig (Elt F) Λ₀ .tc) α} {Q : α → sProp 𝕄}
    (H : X ⊢ WP c e fun a => iprop(R -∗ |={Set.univ}=> Q a)) : iprop(X ∗ R) ⊢ WP c e Q := by
  have h1 : iprop(X ∗ R) ⊢ WP c e fun a => iprop((R -∗ |={Set.univ}=> Q a) ∗ R) := by
    refine BIBase.Entails.trans ?_ (wp_frame_r frame (wpE (defs₀ (F := F)) 𝒱₀ (c : Thread nD τ) none) Set.univ)
    iintro ⟨HX, HR⟩
    isplitl [HX]
    · iapply H; iexact HX
    · iexact HR
  refine BIBase.Entails.trans h1 (BIBase.Entails.trans (wp_mono _ _ _ fun a => ?_) (wp_fupd frame (wpE (defs₀ (F := F)) 𝒱₀ (c : Thread nD τ) none) Set.univ e Q))
  show iprop((R -∗ |={Set.univ}=> Q a) ∗ R) ⊢ iprop(|={Set.univ}=> Q a)
  iintro ⟨H, HR⟩
  iapply H
  iexact HR

/-- The end of a framed program. -/
theorem ret_frame {α : Type} {X R : sProp 𝕄} {Q : α → sProp 𝕄} {a : α} (H : iprop(X ∗ R) ⊢ |={Set.univ}=> Q a) :
    X ⊢ WP c (.ret a) fun a => iprop(R -∗ |={Set.univ}=> Q a) := by
  refine ret_intro ?_
  iintro HX HR
  iapply H
  isplitl [HX]
  · iexact HX
  · iexact HR

/-! ## What is held before and during the barrier -/

/-- What the first signals pay. -/
def barDue (c : Dev nD) (d : Fin 3) : CellTallies nD τ sig Unit := tallyAt (barC (pr c (bm d))) () 1

/-- Everything a device owes at the start: its messages and its three signals. -/
def O₀ (c : Dev nD) : CellTallies nD τ sig Unit := Osum c (todo 0) + barDue c 2 + barDue c 1 + barDue c 0

/-- The three operands on a device. -/
def ins (c : Dev nD) (fx : (cc0_stg0_0 : Ref sig .tc).ty.Contents (Elt F)) (fk : (cc0_stg1_0 : Ref sig .tc).ty.Contents (Elt F))
    (fw : (cc0_stg2_0 : Ref sig .tc).ty.Contents (Elt F)) : sProp 𝕄 :=
  iprop((((c : Thread nD τ).loc cc0_stg0_0) ↦{fullShare} fx) ∗ (((c : Thread nD τ).loc cc0_stg1_0) ↦{fullShare} fk) ∗ (((c : Thread nD τ).loc cc0_stg2_0) ↦{fullShare} fw))

abbrev xR : Rect S4x1024x512 := Rect.unit (s := S4x1024x512) ![0, 0, 0] S4x1024x512.size inb_S4x1024x512_S4x1024x512_0_0_0
abbrev wR : Rect S512x512 := Rect.unit (s := S512x512) ![0, 0] S512x512.size inb_S512x512_S512x512_0_0

/-- A row of the second operand. -/
def krow (fk : (cc0_stg1_0 : Ref sig .tc).ty.Contents (Elt F)) : Fin 4 → Vec F S1x512 .f32
  | 0 => (Memref.whole cc0_stg1_0 : Memref sig .tc .vmem S4x512 .f32).view.readAt (Elt F) (Rect.unit (s := S4x512) ![0, 0] S1x512.size inb_S4x512_S1x512_0_0).toLoadRect fk
  | 1 => (Memref.whole cc0_stg1_0 : Memref sig .tc .vmem S4x512 .f32).view.readAt (Elt F) (Rect.unit (s := S4x512) ![1, 0] S1x512.size inb_S4x512_S1x512_1_0).toLoadRect fk
  | 2 => (Memref.whole cc0_stg1_0 : Memref sig .tc .vmem S4x512 .f32).view.readAt (Elt F) (Rect.unit (s := S4x512) ![2, 0] S1x512.size inb_S4x512_S1x512_2_0).toLoadRect fk
  | 3 => (Memref.whole cc0_stg1_0 : Memref sig .tc .vmem S4x512 .f32).view.readAt (Elt F) (Rect.unit (s := S4x512) ![3, 0] S1x512.size inb_S4x512_S1x512_3_0).toLoadRect fk

/-- The activated convolution of a device, -/
def act (fx : (cc0_stg0_0 : Ref sig .tc).ty.Contents (Elt F)) (fk : (cc0_stg1_0 : Ref sig .tc).ty.Contents (Elt F)) : FVec F S4096x512 .f32 :=
  k0_pay1 fx (krow fk 3) (krow fk 0) (krow fk 1) (krow fk 2)

/-- and its partial product. -/
def prod (fx : (cc0_stg0_0 : Ref sig .tc).ty.Contents (Elt F)) (fk : (cc0_stg1_0 : Ref sig .tc).ty.Contents (Elt F))
    (fw : (cc0_stg2_0 : Ref sig .tc).ty.Contents (Elt F)) : FVec F S4096x512 .f32 := k0_pay2 (act fx fk) fw

theorem bdev1 : ∀ c : Dev nD, (⟨k0_dev1 c, k0_dev1_lt c⟩ : Dev nD) = pr c (bm 0) := by decide +kernel
theorem bdev2 : ∀ c : Dev nD, (⟨k0_dev2 c, k0_dev2_lt c⟩ : Dev nD) = pr c (bm 1) := by decide +kernel
theorem bdev3 : ∀ c : Dev nD, (⟨k0_dev3 c, k0_dev3_lt c⟩ : Dev nD) = pr c (bm 2) := by decide +kernel

theorem hz2 : (![0, 0] : Fin 2 → ℕ) = fun _ => 0 := funext fun a => by fin_cases a <;> rfl
theorem hz3 : (![0, 0, 0] : Fin 3 → ℕ) = fun _ => 0 := funext fun a => by fin_cases a <;> rfl

/-- What is held besides before the steps begin: the forwarding buffers, the result's buffer, and the rights to send
    and to wait. -/
def restL : List At :=
  (ps.flatMap fun p => (List.finRange 3).map fun k => At.fwAny p k)
  ++ ((l8.map fun t => At.outAny t.1 t.2)
  ++ ((lm.map fun t => At.tok t.1 t.2)
  ++ ((lm.map fun t => At.aS t.1 t.2)
  ++ (lm.map fun t => At.aR t.1 t.2))))

theorem S₀_eq : stateAt 0 = l6.map pAt ++ ((ps.flatMap fun p => [0, 1, 2, 3, 4, 12].map fun mid => At.rsAny p mid) ++ restL) := by decide +kernel

/-- The sum buffer, the landing sections of the partners, and the rest are what the steps start from. -/
theorem Sk_intro : iprop(Inv P K ∗ owed (F := F) c (todo 0) ∗ region pM c 0 4096 fullShare (P c) ∗ (bigSepL [0, 1, 2] fun d => barPay (F := F) c d)
      ∗ bigSepL restL (interp P c)) ⊢ Sk P K c 0 := by
  unfold Sk
  rw [S₀_eq, bigSepL_append, bigSepL_append, seg_p, seg_bar (P := P)]

omit [FloatOps F] in
theorem three (Φ : Fin 3 → sProp 𝕄) : bigSepL [0, 1, 2] Φ = iprop(Φ 0 ∗ Φ 1 ∗ Φ 2) := by
  rw [bigSepL_cons_cons, bigSepL_cons_cons, bigSepL_singleton]; rfl

/-- One signal of the barrier: it hands over landing sections and pays one unit owed. -/
theorem step_signal {n : Dev nD} (d : Fin 3) (hn : n = pr c (bm d)) (O : CellTallies nD τ sig Unit) (W : Waits sig Unit)
    {α : Type} {Q : α → sProp 𝕄} {k : PUnit → Prog (TpuEff nD τ sig (Elt F) Λ₀ .tc) α} :
    iprop(Inv P K ∗ owes (c : Thread nD τ) (O + barDue c d) W ∗ dutyTok ER (barC (pr c (bm d))) 0 d ∗ barPay (F := F) (pr c (bm d)) d)
      ⊢ iprop((owes (c : Thread nD τ) O W -∗ WP c (k ⟨⟩) Q) -∗ WP c (.op (.semSignal (Dev.tc n) barS (1#32).toNat) k) Q) := by
  subst hn
  iintro ⟨#HI, HO, Ht, Hp⟩
  ihave #Hm := (Inv_cell P K (pr c (bm d)) none) $$ HI
  icases Hm with ⟨#HI1, #Hr1⟩
  have hp : barPay (F := F) (pr c (bm d)) d ⊢ (Rd P).payload ((pr c (bm d) : Thread nD τ), SemLoc.reg barS) 0 d := Entails.of_eq (payload_eq P (pr c (bm d)) none d).symm
  iapply (Rounds.wp_signal 𝒱₀ ER (Rd P) (c : Thread nD τ) none (dst := (pr c (bm d) : Thread nD τ)) (κ := K (pr c (bm d), none))
      (d := d) (by show d ∈ (Rd P).duties (barC (pr c (bm d))) 0; rw [duties_bar]; exact Finset.mem_univ _) ((amount_bar P (pr c (bm d)) d).trans (by decide)) () O rfl)
  isplitr; · iexact HI1
  isplitl [HO]; · iexact HO
  isplitl [Ht]; · iexact Ht
  isplitl [Hp]
  · iapply hp; iexact Hp
  iexact Hr1

/-- The first part: the three signals. -/
theorem part1_ok {Z : sProp 𝕄} {Q : (Σ' (d0 : Dev nD) (v2 : BitVec 32) (v3 : BitVec 32) (v5 : BitVec 32) (v7 : BitVec 32) (v8 : BitVec 32) (v9 : Sems sig S_) (v22 : BitVec 32) (v27 : BitVec 32) (v28 : BitVec 32), BitVec 32) → sProp 𝕄}
    (H : ∀ (w0 : BitVec 32) (w1 : BitVec 32) (w2 : BitVec 32) (w3 : BitVec 32) (w4 : BitVec 32) (w5 : BitVec 32) (w6 : BitVec 32) (w7 : BitVec 32) (w8 : BitVec 32), iprop(Inv P K ∗ owed (F := F) c (todo 0) ∗ Z) ⊢ Q ⟨c, w0, w1, w2, w3, w4, (SemArray.scalar (sig.barrier 0 rfl) : Sems sig S_), w5, w6, w7, w8⟩) :
    iprop(Inv P K ∗ (∃ W, owes (c : Thread nD τ) (O₀ c) W) ∗ (bigSepL [0, 1, 2] fun d => dutyTok ER (barC (pr c (bm d))) 0 d)
        ∗ (bigSepL [0, 1, 2] fun d => barPay (F := F) (pr c (bm d)) d) ∗ Z)
      ⊢ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q := by
  rw [k0_part1_eq_skeleton]; unfold k0_part1_skel
  simp only [semSignalWord, Prog.lift, Prog.bind_op, Prog.bind_ret, Prog.pure_eq_ret, wp_deviceId]
  rw [three, three]
  unfold O₀
  iintro ⟨#HI, ⟨%W, HO⟩, ⟨Ht0, Ht1, Ht2⟩, ⟨Hp0, Hp1, Hp2⟩, HZ⟩
  iapply (step_signal P K (c := c) 0 (bdev1 c) (Osum c (todo 0) + barDue c 2 + barDue c 1) W) $$ [HO Ht0 Hp0]
  · isplitr; · iexact HI
    isplitl [HO]; · iexact HO
    isplitl [Ht0] <;> iassumption
  iintro HO
  iapply (step_signal P K (c := c) 1 (bdev2 c) (Osum c (todo 0) + barDue c 2) W) $$ [HO Ht1 Hp1]
  · isplitr; · iexact HI
    isplitl [HO]; · iexact HO
    isplitl [Ht1] <;> iassumption
  iintro HO
  iapply (step_signal P K (c := c) 2 (bdev3 c) (Osum c (todo 0)) W) $$ [HO Ht2 Hp2]
  · isplitr; · iexact HI
    isplitl [HO]; · iexact HO
    isplitl [Ht2] <;> iassumption
  iintro HO
  iapply (ret_intro (H _ _ _ _ _ _ _ _ _))
  isplitr; · iexact HI
  isplitl [HO]
  · unfold owed; iexists W; iexact HO
  · iexact HZ

/-- The loads of the first two operands. -/
theorem part14_ok {X : sProp 𝕄} {Q : (Σ' (v429 : BitVec 32), FVec F S4096x512 .f32) → sProp 𝕄} (v2 : BitVec 32) (v427 : BitVec 32) (v0 : BitVec 32)
    {fx : (cc0_stg0_0 : Ref sig .tc).ty.Contents (Elt F)} {fk : (cc0_stg1_0 : Ref sig .tc).ty.Contents (Elt F)} {fw : (cc0_stg2_0 : Ref sig .tc).ty.Contents (Elt F)}
    (H : ∀ w, iprop(ins c fx fk fw ∗ X) ⊢ Q ⟨w, act fx fk⟩) :
    iprop(ins c fx fk fw ∗ X) ⊢ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v427 v0) Q := by
  rw [k0_part14_eq_skeleton]; unfold k0_part14_skel
  simp only [Prog.lift, Prog.bind_op, Prog.bind_ret, Prog.pure_eq_ret]
  have hx : (Memref.whole cc0_stg0_0 : Memref sig .tc .vmem S4x1024x512 .f32).view.readAt (Elt F) xR.toLoadRect fx = fx :=
    Memref.readAt_unit_zero (Elt F) cc0_stg0_0 hz3 _ fx
  unfold ins at *
  iintro ⟨⟨Hx, Hk, Hw⟩, HX⟩
  iapply (wp_load 𝒱₀ (c : Thread nD τ) none Set.univ (m := (Memref.whole cc0_stg0_0 : Memref sig .tc .vmem S4x1024x512 .f32)) (Finset.subset_univ _)) $$ Hx
  iintro Hx
  rw [hx]
  iapply (wp_load 𝒱₀ (c : Thread nD τ) none Set.univ (m := (Memref.whole cc0_stg1_0 : Memref sig .tc .vmem S4x512 .f32)) (Finset.subset_univ _)) $$ Hk
  iintro Hk
  iapply (wp_load 𝒱₀ (c : Thread nD τ) none Set.univ (m := (Memref.whole cc0_stg1_0 : Memref sig .tc .vmem S4x512 .f32)) (Finset.subset_univ _)) $$ Hk
  iintro Hk
  iapply (wp_load 𝒱₀ (c : Thread nD τ) none Set.univ (m := (Memref.whole cc0_stg1_0 : Memref sig .tc .vmem S4x512 .f32)) (Finset.subset_univ _)) $$ Hk
  iintro Hk
  iapply (wp_load 𝒱₀ (c : Thread nD τ) none Set.univ (m := (Memref.whole cc0_stg1_0 : Memref sig .tc .vmem S4x512 .f32)) (Finset.subset_univ _)) $$ Hk
  iintro Hk
  iapply (ret_intro (H _))
  isplitl [Hx Hk Hw]
  · isplitl [Hx]; · iexact Hx
    isplitl [Hk]; · iexact Hk
    iexact Hw
  · iexact HX

/-- The partial product is stored and the barrier passed; two messages leave. -/
theorem part15_ok {Q : PUnit → sProp 𝕄} (v74 : BitVec 32) (v77 : BitVec 32) (v80 : BitVec 32)
    {fx : (cc0_stg0_0 : Ref sig .tc).ty.Contents (Elt F)} {fk : (cc0_stg1_0 : Ref sig .tc).ty.Contents (Elt F)} {fw : (cc0_stg2_0 : Ref sig .tc).ty.Contents (Elt F)}
    (hP : prod fx fk fw = blk 4096 (P c))
    (H : iprop(Sk P K c 2 ∗ ins c fx fk fw ∗ atPos ER (barC c) 1 ∅ 0) ⊢ |={Set.univ}=> Q ⟨⟩) :
    iprop(ins c fx fk fw ∗ Inv P K ∗ owed (F := F) c (todo 0) ∗ anyR pM c 0 4096 ∗ cred (tallyAt (barC c) () 3) ∗ atPos ER (barC c) 0 ∅ 0
        ∗ bigSepL restL (interp P c))
      ⊢ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c (SemArray.scalar (sig.barrier 0 rfl)) v74 v77 v80 (act fx fk)) Q := by
  rw [k0_part15_eq_skeleton]; unfold k0_part15_skel
  simp only [semWaitWord, Prog.lift, Prog.bind_op, Prog.bind_ret, Prog.pure_eq_ret]
  have hw : (Memref.whole cc0_stg2_0 : Memref sig .tc .vmem S512x512 .f32).view.readAt (Elt F) wR.toLoadRect fw = fw :=
    Memref.readAt_unit_zero (Elt F) cc0_stg2_0 hz2 _ fw
  have hrest : bigSep ((Rd P).duties ((c : Thread nD τ), SemLoc.reg (SemArray.scalar (sig.barrier 0 rfl) : Sems sig S_).sem) 0 \ ∅)
      (fun d => (Rd P).payload ((c : Thread nD τ), SemLoc.reg (SemArray.scalar (sig.barrier 0 rfl) : Sems sig S_).sem) 0 d)
      ⊢ bigSepL [0, 1, 2] fun d => barPay (F := F) c d := Entails.of_eq (rest_bar P c)
  have hlv : ∀ m ∈ todo 0, 1 < lvl m.2 := by decide +kernel
  unfold ins owed
  iintro ⟨⟨Hx, Hk, Hw⟩, #HI, ⟨%W, HO⟩, Hp, Hc, Ha, HR⟩
  iapply (wp_load 𝒱₀ (c : Thread nD τ) none Set.univ (m := (Memref.whole cc0_stg2_0 : Memref sig .tc .vmem S512x512 .f32)) (Finset.subset_univ _)) $$ Hw
  iintro Hw
  rw [hw]
  iapply (load_any (M := pM) (c := c) (r := 0) (n := 4096) rfl) $$ Hp
  iintro %v Hp
  iapply (store_region (M := pM) (c := c) (r := 0) (n := 4096) (W := P c) rfl hP) $$ Hp
  iintro Hp
  ihave #Hm := (Inv_cell P K c none) $$ HI
  icases Hm with ⟨#HI1, #Hr1⟩
  ihave #Hlev := (Inv_lev P K) $$ HI
  ihave #Hmw := (mayWait_of (F := F) c none 1 (lv_bar c) (todo 0) hlv) $$ Hlev
  iapply (Rounds.wp_wait_rest_token 𝒱₀ ER (Rd P) (c : Thread nD τ) none (κ := K (c, none))
      (wpE_semWait_eq 𝒱₀ (c : Thread nD τ) none Set.univ) (Set.mem_univ _) () (O := Osum c (todo 0)) (W := W) (R := 0) (m := 0) (T := ∅)
      (by show _ = (Rd P).expect (barC c) 0; rw [expect_bar]; decide)) $$ [Hc HO Ha]
  · isplitr; · iexact HI1
    isplitl [Hc]; · iexact Hc
    isplitl [HO]; · iexact HO
    isplitr; · iexact Hmw
    iexact Ha
  iintro ⟨HO, Ha, -, Hpay⟩
  ihave Hpay := hrest $$ Hpay
  iapply (framed (X := Sk P K c 0) (R := iprop(ins c fx fk fw ∗ atPos ER (barC c) 1 ∅ 0)) (c := c) (by
    refine step_send_partial P K 0 0 (by decide +kernel) rfl (dev4 c) (off1 c) rfl rfl rfl ?_
    refine step_send_partial P K 0 1 (by decide +kernel) rfl (dev5 c) (off2 c) rfl rfl rfl ?_
    exact ret_frame H))
  isplitl [HO Hp Hpay HR]
  · iapply (Sk_intro P K)
    isplitr; · iexact HI
    isplitl [HO]
    · unfold owed; iexists _; iexact HO
    isplitl [Hp]; · iexact Hp
    isplitl [Hpay]; · iexact Hpay
    iexact HR
  · unfold ins
    isplitl [Hx Hk Hw]
    · isplitl [Hx]; · iexact Hx
      isplitl [Hk]; · iexact Hk
      iexact Hw
    · iexact Ha

end Cert.KernelIdeal.Halving
-- ==== Proof.PartsA.lean ====
/-
# `PartsA`: the program between the barrier and its end, parts 16 to 23
-/
module

public import proofs.«01_k».proof.Proof.Offs

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

theorem part16_ok {Q : (PUnit) → sProp 𝕄} (v211 : BitVec 32) (v214 : BitVec 32) (v217 : BitVec 32) (H : Sk P K c 5 ⊢ Q ⟨⟩) :
    Sk P K c 2 ⊢ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v211 v214 v217) Q := by
  rw [k0_part16_eq_skeleton]; unfold k0_part16_skel
  simp only [Prog.lift, Prog.bind_op, Prog.bind_ret, Prog.pure_eq_ret]
  refine step_send_partial P K 0 12 (by decide +kernel) rfl (dev6 c) (off3 c) rfl rfl rfl ?_
  refine step_send_partial P K 1 0 (by decide +kernel) rfl (dev7 c) (off4 c) rfl rfl rfl ?_
  refine step_send_partial P K 1 1 (by decide +kernel) rfl (dev8 c) (off5 c) rfl rfl rfl ?_
  exact ret_intro H

theorem part17_ok {Q : (PUnit) → sProp 𝕄} (v348 : BitVec 32) (v351 : BitVec 32) (v354 : BitVec 32) (H : Sk P K c 9 ⊢ Q ⟨⟩) :
    Sk P K c 5 ⊢ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v348 v351 v354) Q := by
  rw [k0_part17_eq_skeleton]; unfold k0_part17_skel
  simp only [Prog.lift, Prog.bind_op, Prog.bind_ret, Prog.pure_eq_ret]
  refine step_send_partial P K 1 12 (by decide +kernel) rfl (dev9 c) (off6 c) rfl rfl rfl ?_
  refine step_send_partial P K 2 0 (by decide +kernel) rfl (dev10 c) (off7 c) rfl rfl rfl ?_
  refine step_send_partial P K 2 1 (by decide +kernel) rfl (dev11 c) (off8 c) rfl rfl rfl ?_
  refine step_send_partial P K 2 12 (by decide +kernel) rfl (dev12 c) (off9 c) rfl rfl rfl ?_
  exact ret_intro H

theorem part18_ok {Q : (BitVec 32) → sProp 𝕄} (v5 : BitVec 32) (v8 : BitVec 32) (v74 : BitVec 32) (v83 : BitVec 32) (H : ∀ w, Sk P K c 14 ⊢ Q w) :
    Sk P K c 9 ⊢ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v8 v74 v83) Q := by
  rw [k0_part18_eq_skeleton]; unfold k0_part18_skel
  simp only [Prog.lift, Prog.bind_op, Prog.bind_ret, Prog.pure_eq_ret]
  refine step_waitR P K 0 0 (by decide +kernel) rfl rfl ?_
  refine step_unpairAny P K 0 (by decide +kernel) ?_
  refine load_first P K (i := .acc 0 0) (by decide +kernel) rfl (interp_tgt P c 0 0 (st 0).val) (off10 c) ?_
  refine load_second P K (i := .acc 0 0) (by decide +kernel) rfl (interp_rsFull P c 0 0) rfl ?_
  refine load_first P K (i := .acc 0 0) (by decide +kernel) rfl (interp_tgt P c 0 0 (st 0).val) (off10 c) ?_
  refine step_acc P K 0 0 (by decide +kernel) (off10 c) (addf_blk _ _ _) ?_
  refine step_unpair P K 0 (by decide +kernel) ?_
  refine step_send_partial P K 0 2 (by decide +kernel) rfl (dev13 c) (off11 c) rfl rfl rfl ?_
  exact ret_intro (H _)

theorem part19_ok {Q : (Σ' (v605 : BitVec 32), BitVec 32) → sProp 𝕄} (v5 : BitVec 32) (v7 : BitVec 32) (v86 : BitVec 32) (v211 : BitVec 32) (v220 : BitVec 32) (c1_i32_462 : BitVec 32) (H : ∀ w0 w1, Sk P K c 18 ⊢ Q ⟨w0, w1⟩) :
    Sk P K c 14 ⊢ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v7 v86 v211 v220 c1_i32_462) Q := by
  rw [k0_part19_eq_skeleton]; unfold k0_part19_skel
  simp only [Prog.lift, Prog.bind_op, Prog.bind_ret, Prog.pure_eq_ret]
  refine step_send_partial P K 0 3 (by decide +kernel) rfl (dev14 c) (off12 c) rfl rfl rfl ?_
  refine step_waitR P K 1 0 (by decide +kernel) rfl rfl ?_
  refine step_unpairAny P K 1 (by decide +kernel) ?_
  refine load_first P K (i := .acc 1 0) (by decide +kernel) rfl (interp_tgt P c 1 0 (st 0).val) (off13 c) ?_
  refine load_second P K (i := .acc 1 0) (by decide +kernel) rfl (interp_rsFull P c 1 0) rfl ?_
  refine load_first P K (i := .acc 1 0) (by decide +kernel) rfl (interp_tgt P c 1 0 (st 0).val) (off13 c) ?_
  refine step_acc P K 1 0 (by decide +kernel) (off13 c) (addf_blk _ _ _) ?_
  exact ret_intro (H _ _)

theorem part20_ok {Q : (Σ' (v632 : BitVec 32), Vec F S352x512 .f32) → sProp 𝕄} (v7 : BitVec 32) (v8 : BitVec 32) (v223 : BitVec 32) (v348 : BitVec 32) (v605 : BitVec 32) (c0_i32_489 : BitVec 32) (H : ∀ w0, Sk P K c 23 ⊢ Q ⟨w0, (blk (len 2 0) (accA P c 2 0))⟩) :
    Sk P K c 18 ⊢ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v7 v8 v223 v348 v605 c0_i32_489) Q := by
  rw [k0_part20_eq_skeleton]; unfold k0_part20_skel
  simp only [Prog.lift, Prog.bind_op, Prog.bind_ret, Prog.pure_eq_ret]
  refine step_unpair P K 1 (by decide +kernel) ?_
  refine step_send_partial P K 1 2 (by decide +kernel) rfl (dev15 c) (off14 c) rfl rfl rfl ?_
  refine step_send_partial P K 1 3 (by decide +kernel) rfl (dev16 c) (off15 c) rfl rfl rfl ?_
  refine step_waitR P K 2 0 (by decide +kernel) rfl rfl ?_
  refine step_unpairAny P K 2 (by decide +kernel) ?_
  refine load_first P K (i := .acc 2 0) (by decide +kernel) rfl (interp_tgt P c 2 0 (st 0).val) (off16 c) ?_
  exact ret_intro (H _)

theorem part21_ok {Q : (PUnit) → sProp 𝕄} (v77 : BitVec 32) (v357 : BitVec 32) (v360 : BitVec 32) (v632 : BitVec 32) (H : Sk P K c 27 ⊢ Q ⟨⟩) :
    Sk P K c 23 ⊢ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v77 v357 v360 v632 (blk (len 2 0) (accA P c 2 0))) Q := by
  rw [k0_part21_eq_skeleton]; unfold k0_part21_skel
  simp only [Prog.lift, Prog.bind_op, Prog.bind_ret, Prog.pure_eq_ret]
  refine load_second P K (i := .acc 2 0) (by decide +kernel) rfl (interp_rsFull P c 2 0) rfl ?_
  refine load_first P K (i := .acc 2 0) (by decide +kernel) rfl (interp_tgt P c 2 0 (st 0).val) (off16 c) ?_
  refine step_acc P K 2 0 (by decide +kernel) (off16 c) (addf_blk _ _ _) ?_
  refine step_unpair P K 2 (by decide +kernel) ?_
  refine step_send_partial P K 2 2 (by decide +kernel) rfl (dev17 c) (off17 c) rfl rfl rfl ?_
  refine step_send_partial P K 2 3 (by decide +kernel) rfl (dev18 c) (off18 c) rfl rfl rfl ?_
  exact ret_intro H

theorem part22_ok {Q : (Σ' (v690 : BitVec 32) (v692 : Vec F S168x512 .f32), Vec F S168x512 .f32) → sProp 𝕄} (v3 : BitVec 32) (v5 : BitVec 32) (v7 : BitVec 32) (v8 : BitVec 32) (v214 : BitVec 32) (H : ∀ w0, Sk P K c 30 ⊢ Q ⟨w0, (blk (len 1 1) (accA P c 1 1)), (blk (len 1 1) (accB P c 1 1))⟩) :
    Sk P K c 27 ⊢ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v3 v5 v7 v8 v214) Q := by
  rw [k0_part22_eq_skeleton]; unfold k0_part22_skel
  simp only [Prog.lift, Prog.bind_op, Prog.bind_ret, Prog.pure_eq_ret]
  refine step_waitR P K 0 1 (by decide +kernel) rfl rfl ?_
  refine load_first P K (i := .acc 0 1) (by decide +kernel) rfl (interp_tgt P c 0 1 (st 1).val) (off19 c) ?_
  refine load_second P K (i := .acc 0 1) (by decide +kernel) rfl (interp_rsFull P c 0 1) rfl ?_
  refine load_first P K (i := .acc 0 1) (by decide +kernel) rfl (interp_tgt P c 0 1 (st 1).val) (off19 c) ?_
  refine step_acc P K 0 1 (by decide +kernel) (off19 c) (addf_blk _ _ _) ?_
  refine step_waitR P K 1 1 (by decide +kernel) rfl rfl ?_
  refine load_first P K (i := .acc 1 1) (by decide +kernel) rfl (interp_tgt P c 1 1 (st 1).val) (off20 c) ?_
  refine load_second P K (i := .acc 1 1) (by decide +kernel) rfl (interp_rsFull P c 1 1) rfl ?_
  exact ret_intro (H _)

theorem part23_ok {Q : (PUnit) → sProp 𝕄} (v5 : BitVec 32) (v7 : BitVec 32) (v8 : BitVec 32) (v83 : BitVec 32) (v351 : BitVec 32) (v690 : BitVec 32) (H : Sk P K c 33 ⊢ Q ⟨⟩) :
    Sk P K c 30 ⊢ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v7 v8 v83 v351 v690 (blk (len 1 1) (accA P c 1 1)) (blk (len 1 1) (accB P c 1 1))) Q := by
  rw [k0_part23_eq_skeleton]; unfold k0_part23_skel
  simp only [Prog.lift, Prog.bind_op, Prog.bind_ret, Prog.pure_eq_ret]
  refine load_first P K (i := .acc 1 1) (by decide +kernel) rfl (interp_tgt P c 1 1 (st 1).val) (off20 c) ?_
  refine step_acc P K 1 1 (by decide +kernel) (off20 c) (addf_blk _ _ _) ?_
  refine step_waitR P K 2 1 (by decide +kernel) rfl rfl ?_
  refine load_first P K (i := .acc 2 1) (by decide +kernel) rfl (interp_tgt P c 2 1 (st 1).val) (off21 c) ?_
  refine load_second P K (i := .acc 2 1) (by decide +kernel) rfl (interp_rsFull P c 2 1) rfl ?_
  refine load_first P K (i := .acc 2 1) (by decide +kernel) rfl (interp_tgt P c 2 1 (st 1).val) (off21 c) ?_
  refine step_acc P K 2 1 (by decide +kernel) (off21 c) (addf_blk _ _ _) ?_
  exact ret_intro H

end Cert.KernelIdeal.Halving
-- ==== Proof.PartsB.lean ====
/-
# `PartsB`: the program between the barrier and its end, parts 24 to 30
-/
module

public import proofs.«01_k».proof.Proof.Offs

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

theorem part24_ok {Q : (PUnit) → sProp 𝕄} (v5 : BitVec 32) (v7 : BitVec 32) (v8 : BitVec 32) (v89 : BitVec 32) (v220 : BitVec 32) (H : Sk P K c 36 ⊢ Q ⟨⟩) :
    Sk P K c 33 ⊢ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v7 v8 v89 v220) Q := by
  rw [k0_part24_eq_skeleton]; unfold k0_part24_skel
  simp only [Prog.lift, Prog.bind_op, Prog.bind_ret, Prog.pure_eq_ret]
  refine step_waitR P K 0 2 (by decide +kernel) rfl rfl ?_
  refine load_first P K (i := .acc 0 2) (by decide +kernel) rfl (interp_tgt P c 0 2 (st 2).val) (off19 c) ?_
  refine load_second P K (i := .acc 0 2) (by decide +kernel) rfl (interp_rsFull P c 0 2) rfl ?_
  refine load_first P K (i := .acc 0 2) (by decide +kernel) rfl (interp_tgt P c 0 2 (st 2).val) (off19 c) ?_
  refine step_acc P K 0 2 (by decide +kernel) (off19 c) (addf_blk _ _ _) ?_
  refine step_send_partial P K 0 4 (by decide +kernel) rfl (dev19 c) (off22 c) rfl rfl rfl ?_
  exact ret_intro H

theorem part25_ok {Q : (PUnit) → sProp 𝕄} (v3 : BitVec 32) (v5 : BitVec 32) (v7 : BitVec 32) (v226 : BitVec 32) (v357 : BitVec 32) (H : Sk P K c 39 ⊢ Q ⟨⟩) :
    Sk P K c 36 ⊢ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v3 v5 v7 v226 v357) Q := by
  rw [k0_part25_eq_skeleton]; unfold k0_part25_skel
  simp only [Prog.lift, Prog.bind_op, Prog.bind_ret, Prog.pure_eq_ret]
  refine step_waitR P K 1 2 (by decide +kernel) rfl rfl ?_
  refine load_first P K (i := .acc 1 2) (by decide +kernel) rfl (interp_tgt P c 1 2 (st 2).val) (off20 c) ?_
  refine load_second P K (i := .acc 1 2) (by decide +kernel) rfl (interp_rsFull P c 1 2) rfl ?_
  refine load_first P K (i := .acc 1 2) (by decide +kernel) rfl (interp_tgt P c 1 2 (st 2).val) (off20 c) ?_
  refine step_acc P K 1 2 (by decide +kernel) (off20 c) (addf_blk _ _ _) ?_
  refine step_send_partial P K 1 4 (by decide +kernel) rfl (dev20 c) (off23 c) rfl rfl rfl ?_
  exact ret_intro H

theorem part26_ok {Q : (PUnit) → sProp 𝕄} (v5 : BitVec 32) (v7 : BitVec 32) (v8 : BitVec 32) (v80 : BitVec 32) (v363 : BitVec 32) (H : Sk P K c 42 ⊢ Q ⟨⟩) :
    Sk P K c 39 ⊢ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v7 v8 v80 v363) Q := by
  rw [k0_part26_eq_skeleton]; unfold k0_part26_skel
  simp only [Prog.lift, Prog.bind_op, Prog.bind_ret, Prog.pure_eq_ret]
  refine step_waitR P K 2 2 (by decide +kernel) rfl rfl ?_
  refine load_first P K (i := .acc 2 2) (by decide +kernel) rfl (interp_tgt P c 2 2 (st 2).val) (off21 c) ?_
  refine load_second P K (i := .acc 2 2) (by decide +kernel) rfl (interp_rsFull P c 2 2) rfl ?_
  refine load_first P K (i := .acc 2 2) (by decide +kernel) rfl (interp_tgt P c 2 2 (st 2).val) (off21 c) ?_
  refine step_acc P K 2 2 (by decide +kernel) (off21 c) (addf_blk _ _ _) ?_
  refine step_send_partial P K 2 4 (by decide +kernel) rfl (dev21 c) (off24 c) rfl rfl rfl ?_
  exact ret_intro H

theorem part27_ok {Q : (PUnit) → sProp 𝕄} (v22 : BitVec 32) (v159 : BitVec 32) (v217 : BitVec 32) (v354 : BitVec 32) (H : Sk P K c 46 ⊢ Q ⟨⟩) :
    Sk P K c 42 ⊢ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v22 v159 v217 v354) Q := by
  rw [k0_part27_eq_skeleton]; unfold k0_part27_skel
  simp only [Prog.lift, Prog.bind_op, Prog.bind_ret, Prog.pure_eq_ret]
  refine step_waitR P K 0 12 (by decide +kernel) rfl rfl ?_
  refine load_first P K (i := .acc 0 12) (by decide +kernel) rfl (interp_tgt P c 0 12 (st 12).val) (off25 c) ?_
  refine load_second P K (i := .acc 0 12) (by decide +kernel) rfl (interp_rsFull P c 0 12) rfl ?_
  refine load_first P K (i := .acc 0 12) (by decide +kernel) rfl (interp_tgt P c 0 12 (st 12).val) (off25 c) ?_
  refine step_acc P K 0 12 (by decide +kernel) (off25 c) (addf_blk _ _ _) ?_
  refine step_waitR P K 1 12 (by decide +kernel) rfl rfl ?_
  refine load_first P K (i := .acc 1 12) (by decide +kernel) rfl (interp_tgt P c 1 12 (st 12).val) (off26 c) ?_
  refine load_second P K (i := .acc 1 12) (by decide +kernel) rfl (interp_rsFull P c 1 12) rfl ?_
  refine load_first P K (i := .acc 1 12) (by decide +kernel) rfl (interp_tgt P c 1 12 (st 12).val) (off26 c) ?_
  refine step_acc P K 1 12 (by decide +kernel) (off26 c) (addf_blk _ _ _) ?_
  exact ret_intro H

theorem part28_ok {Q : (PUnit) → sProp 𝕄} (v22 : BitVec 32) (v86 : BitVec 32) (v296 : BitVec 32) (H : Sk P K c 50 ⊢ Q ⟨⟩) :
    Sk P K c 46 ⊢ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v22 v86 v296) Q := by
  rw [k0_part28_eq_skeleton]; unfold k0_part28_skel
  simp only [Prog.lift, Prog.bind_op, Prog.bind_ret, Prog.pure_eq_ret]
  refine step_waitR P K 2 12 (by decide +kernel) rfl rfl ?_
  refine load_first P K (i := .acc 2 12) (by decide +kernel) rfl (interp_tgt P c 2 12 (st 12).val) (off27 c) ?_
  refine load_second P K (i := .acc 2 12) (by decide +kernel) rfl (interp_rsFull P c 2 12) rfl ?_
  refine load_first P K (i := .acc 2 12) (by decide +kernel) rfl (interp_tgt P c 2 12 (st 12).val) (off27 c) ?_
  refine step_acc P K 2 12 (by decide +kernel) (off27 c) (addf_blk _ _ _) ?_
  refine step_waitR P K 0 3 (by decide +kernel) rfl rfl ?_
  refine load_first P K (i := .acc 0 3) (by decide +kernel) rfl (interp_tgt P c 0 3 (st 3).val) (off25 c) ?_
  refine load_second P K (i := .acc 0 3) (by decide +kernel) rfl (interp_rsFull P c 0 3) rfl ?_
  refine load_first P K (i := .acc 0 3) (by decide +kernel) rfl (interp_tgt P c 0 3 (st 3).val) (off25 c) ?_
  refine step_acc P K 0 3 (by decide +kernel) (off25 c) (addf_blk _ _ _) ?_
  exact ret_intro H

theorem part29_ok {Q : (Σ' (v898 : FVec F S176x512 .f32), Vec F S176x512 .f32) → sProp 𝕄} (v159 : BitVec 32) (v223 : BitVec 32) (v296 : BitVec 32) (v360 : BitVec 32) (H : Sk P K c 53 ⊢ Q ⟨k0_pay17 (blk (len 2 3) (accA P c 2 3)) (blk (len 2 3) (accB P c 2 3)), (blk (len 2 3) (accA P c 2 3))⟩) :
    Sk P K c 50 ⊢ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v159 v223 v296 v360) Q := by
  rw [k0_part29_eq_skeleton]; unfold k0_part29_skel
  simp only [Prog.lift, Prog.bind_op, Prog.bind_ret, Prog.pure_eq_ret]
  refine step_waitR P K 1 3 (by decide +kernel) rfl rfl ?_
  refine load_first P K (i := .acc 1 3) (by decide +kernel) rfl (interp_tgt P c 1 3 (st 3).val) (off26 c) ?_
  refine load_second P K (i := .acc 1 3) (by decide +kernel) rfl (interp_rsFull P c 1 3) rfl ?_
  refine load_first P K (i := .acc 1 3) (by decide +kernel) rfl (interp_tgt P c 1 3 (st 3).val) (off26 c) ?_
  refine step_acc P K 1 3 (by decide +kernel) (off26 c) (addf_blk _ _ _) ?_
  refine step_waitR P K 2 3 (by decide +kernel) rfl rfl ?_
  refine load_first P K (i := .acc 2 3) (by decide +kernel) rfl (interp_tgt P c 2 3 (st 3).val) (off27 c) ?_
  refine load_second P K (i := .acc 2 3) (by decide +kernel) rfl (interp_rsFull P c 2 3) rfl ?_
  refine load_first P K (i := .acc 2 3) (by decide +kernel) rfl (interp_tgt P c 2 3 (st 3).val) (off27 c) ?_
  exact ret_intro H

theorem part30_ok {Q : (Σ' (v927 : BitVec 32), BitVec 32) → sProp 𝕄} (v22 : BitVec 32) (v89 : BitVec 32) (v92 : BitVec 32) (v95 : BitVec 32) (H : ∀ w0 w1, Sk P K c 57 ⊢ Q ⟨w0, w1⟩) :
    Sk P K c 53 ⊢ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v22 v89 v92 v95 (k0_pay17 (blk (len 2 3) (accA P c 2 3)) (blk (len 2 3) (accB P c 2 3))) (blk (len 2 3) (accA P c 2 3))) Q := by
  rw [k0_part30_eq_skeleton]; unfold k0_part30_skel
  simp only [Prog.lift, Prog.bind_op, Prog.bind_ret, Prog.pure_eq_ret]
  refine step_acc P K 2 3 (by decide +kernel) (off27 c) (addf_blk _ _ _) ?_
  refine step_waitR P K 0 4 (by decide +kernel) rfl rfl ?_
  refine load_first P K (i := .acc 0 4) (by decide +kernel) rfl (interp_tgt P c 0 4 (st 4).val) (off25 c) ?_
  refine load_second P K (i := .acc 0 4) (by decide +kernel) rfl (interp_rsFull P c 0 4) rfl ?_
  refine load_first P K (i := .acc 0 4) (by decide +kernel) rfl (interp_tgt P c 0 4 (st 4).val) (off25 c) ?_
  refine step_acc P K 0 4 (by decide +kernel) (off25 c) (addf_blk _ _ _) ?_
  refine step_send_final P K 0 5 (by decide +kernel) rfl (dev22 c) (off28 c) (off28 c) rfl rfl rfl ?_
  exact ret_intro (H _ _)

end Cert.KernelIdeal.Halving
-- ==== Proof.PartsC.lean ====
/-
# `PartsC`: the program between the barrier and its end, parts 31 to 39
-/
module

public import proofs.«01_k».proof.Proof.Offs

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

theorem part31_ok {Q : (PUnit) → sProp 𝕄} (v101 : BitVec 32) (v159 : BitVec 32) (v226 : BitVec 32) (v927 : BitVec 32) (c0_i32_776 : BitVec 32) (H : Sk P K c 61 ⊢ Q ⟨⟩) :
    Sk P K c 57 ⊢ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v101 v159 v226 v927 c0_i32_776) Q := by
  rw [k0_part31_eq_skeleton]; unfold k0_part31_skel
  simp only [Prog.lift, Prog.bind_op, Prog.bind_ret, Prog.pure_eq_ret]
  refine step_send_final P K 0 6 (by decide +kernel) rfl (dev23 c) (off28 c) (off28 c) rfl rfl rfl ?_
  refine step_send_final P K 0 8 (by decide +kernel) rfl (dev24 c) (off28 c) (off28 c) rfl rfl rfl ?_
  refine step_waitR P K 1 4 (by decide +kernel) rfl rfl ?_
  refine load_first P K (i := .acc 1 4) (by decide +kernel) rfl (interp_tgt P c 1 4 (st 4).val) (off26 c) ?_
  refine load_second P K (i := .acc 1 4) (by decide +kernel) rfl (interp_rsFull P c 1 4) rfl ?_
  refine load_first P K (i := .acc 1 4) (by decide +kernel) rfl (interp_tgt P c 1 4 (st 4).val) (off26 c) ?_
  refine step_acc P K 1 4 (by decide +kernel) (off26 c) (addf_blk _ _ _) ?_
  exact ret_intro H

theorem part32_ok {Q : (PUnit) → sProp 𝕄} (v229 : BitVec 32) (v232 : BitVec 32) (v238 : BitVec 32) (v363 : BitVec 32) (H : Sk P K c 64 ⊢ Q ⟨⟩) :
    Sk P K c 61 ⊢ WP c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v229 v232 v238 v363) Q := by
  rw [k0_part32_eq_skeleton]; unfold k0_part32_skel
  simp only [Prog.lift, Prog.bind_op, Prog.bind_ret, Prog.pure_eq_ret]
  refine step_send_final P K 1 5 (by decide +kernel) rfl (dev25 c) (off29 c) (off29 c) rfl rfl rfl ?_
  refine step_send_final P K 1 6 (by decide +kernel) rfl (dev26 c) (off29 c) (off29 c) rfl rfl rfl ?_
  refine step_send_final P K 1 8 (by decide +kernel) rfl (dev27 c) (off29 c) (off29 c) rfl rfl rfl ?_
  exact ret_intro H

theorem part33_ok {Q : (PUnit) → sProp 𝕄} (v296 : BitVec 32) (v366 : BitVec 32) (v369 : BitVec 32) (H : Sk P K c 68 ⊢ Q ⟨⟩) :
    Sk P K c 64 ⊢ WP c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v296 v366 v369) Q := by
  rw [k0_part33_eq_skeleton]; unfold k0_part33_skel
  simp only [Prog.lift, Prog.bind_op, Prog.bind_ret, Prog.pure_eq_ret]
  refine step_waitR P K 2 4 (by decide +kernel) rfl rfl ?_
  refine load_first P K (i := .acc 2 4) (by decide +kernel) rfl (interp_tgt P c 2 4 (st 4).val) (off27 c) ?_
  refine load_second P K (i := .acc 2 4) (by decide +kernel) rfl (interp_rsFull P c 2 4) rfl ?_
  refine load_first P K (i := .acc 2 4) (by decide +kernel) rfl (interp_tgt P c 2 4 (st 4).val) (off27 c) ?_
  refine step_acc P K 2 4 (by decide +kernel) (off27 c) (addf_blk _ _ _) ?_
  refine step_send_final P K 2 5 (by decide +kernel) rfl (dev28 c) (off30 c) (off30 c) rfl rfl rfl ?_
  refine step_send_final P K 2 6 (by decide +kernel) rfl (dev29 c) (off30 c) (off30 c) rfl rfl rfl ?_
  exact ret_intro H

theorem part34_ok {Q : (PUnit) → sProp 𝕄} (v22 : BitVec 32) (v137 : BitVec 32) (v159 : BitVec 32) (v296 : BitVec 32) (v375 : BitVec 32) (H : Sk P K c 72 ⊢ Q ⟨⟩) :
    Sk P K c 68 ⊢ WP c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v22 v137 v159 v296 v375) Q := by
  rw [k0_part34_eq_skeleton]; unfold k0_part34_skel
  simp only [Prog.lift, Prog.bind_op, Prog.bind_ret, Prog.pure_eq_ret]
  refine step_send_final P K 2 8 (by decide +kernel) rfl (dev30 c) (off30 c) (off30 c) rfl rfl rfl ?_
  refine load_first P K (i := (.copy 0 0)) (by decide +kernel) rfl (interp_pO P c 0 0 (.rem (left 0)) 3 0) (off25 c) ?_
  refine load_dead P K (i := (.copy 0 0)) (by decide +kernel) rfl (interp_outAny P c 0 0) (off25 c) fun _ => ?_
  refine store_second P K (i := (.copy 0 0)) (by decide +kernel) rfl rfl rfl (interp_outAny P c 0 0) (interp_outFull P c 0 0) (off25 c) rfl ?_
  refine load_first P K (i := (.copy 1 0)) (by decide +kernel) rfl (interp_pO P c 1 0 (.rem (left 0)) 3 0) (off26 c) ?_
  refine load_dead P K (i := (.copy 1 0)) (by decide +kernel) rfl (interp_outAny P c 1 0) (off26 c) fun _ => ?_
  refine store_second P K (i := (.copy 1 0)) (by decide +kernel) rfl rfl rfl (interp_outAny P c 1 0) (interp_outFull P c 1 0) (off26 c) rfl ?_
  refine load_first P K (i := (.copy 2 0)) (by decide +kernel) rfl (interp_pO P c 2 0 (.rem (left 0)) 3 0) (off27 c) ?_
  refine load_dead P K (i := (.copy 2 0)) (by decide +kernel) rfl (interp_outAny P c 2 0) (off27 c) fun _ => ?_
  refine store_second P K (i := (.copy 2 0)) (by decide +kernel) rfl rfl rfl (interp_outAny P c 2 0) (interp_outFull P c 2 0) (off27 c) rfl ?_
  exact ret_intro H

theorem part35_ok {Q : (PUnit) → sProp 𝕄} (v27 : BitVec 32) (v98 : BitVec 32) (v104 : BitVec 32) (v274 : BitVec 32) (H : Sk P K c 76 ⊢ Q ⟨⟩) :
    Sk P K c 72 ⊢ WP c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v27 v98 v104 v274) Q := by
  rw [k0_part35_eq_skeleton]; unfold k0_part35_skel
  simp only [Prog.lift, Prog.bind_op, Prog.bind_ret, Prog.pure_eq_ret]
  refine step_waitR P K 0 5 (by decide +kernel) rfl rfl ?_
  refine load_first P K (i := (.fwd 0 0)) (by decide +kernel) rfl (interp_pO P c 0 4 (.rem 0) 3 4) (off19 c) ?_
  refine load_dead P K (i := (.fwd 0 0)) (by decide +kernel) rfl (interp_fwAny P c 0 0) rfl fun _ => ?_
  refine store_second P K (i := (.fwd 0 0)) (by decide +kernel) rfl rfl rfl (interp_fwAny P c 0 0) (interp_fwFull P c 0 0 (.rem 0)) rfl (cast_blk _ _) ?_
  refine step_send_final P K 0 7 (by decide +kernel) rfl (dev31 c) rfl (off22 c) rfl rfl rfl ?_
  refine step_send_final P K 0 9 (by decide +kernel) rfl (dev32 c) rfl (off22 c) rfl rfl rfl ?_
  exact ret_intro H

theorem part36_ok {Q : (PUnit) → sProp 𝕄} (v164 : BitVec 32) (v235 : BitVec 32) (v241 : BitVec 32) (H : Sk P K c 80 ⊢ Q ⟨⟩) :
    Sk P K c 76 ⊢ WP c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v164 v235 v241) Q := by
  rw [k0_part36_eq_skeleton]; unfold k0_part36_skel
  simp only [Prog.lift, Prog.bind_op, Prog.bind_ret, Prog.pure_eq_ret]
  refine step_waitR P K 1 5 (by decide +kernel) rfl rfl ?_
  refine load_first P K (i := (.fwd 1 0)) (by decide +kernel) rfl (interp_pO P c 1 4 (.rem 0) 3 4) (off20 c) ?_
  refine load_dead P K (i := (.fwd 1 0)) (by decide +kernel) rfl (interp_fwAny P c 1 0) rfl fun _ => ?_
  refine store_second P K (i := (.fwd 1 0)) (by decide +kernel) rfl rfl rfl (interp_fwAny P c 1 0) (interp_fwFull P c 1 0 (.rem 0)) rfl (cast_blk _ _) ?_
  refine step_send_final P K 1 7 (by decide +kernel) rfl (dev33 c) rfl (off23 c) rfl rfl rfl ?_
  refine step_send_final P K 1 9 (by decide +kernel) rfl (dev34 c) rfl (off23 c) rfl rfl rfl ?_
  exact ret_intro H

theorem part37_ok {Q : (PUnit) → sProp 𝕄} (v301 : BitVec 32) (v372 : BitVec 32) (v378 : BitVec 32) (v411 : BitVec 32) (H : Sk P K c 84 ⊢ Q ⟨⟩) :
    Sk P K c 80 ⊢ WP c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v301 v372 v378 v411) Q := by
  rw [k0_part37_eq_skeleton]; unfold k0_part37_skel
  simp only [Prog.lift, Prog.bind_op, Prog.bind_ret, Prog.pure_eq_ret]
  refine step_waitR P K 2 5 (by decide +kernel) rfl rfl ?_
  refine load_first P K (i := (.fwd 2 0)) (by decide +kernel) rfl (interp_pO P c 2 4 (.rem 0) 3 4) (off21 c) ?_
  refine load_dead P K (i := (.fwd 2 0)) (by decide +kernel) rfl (interp_fwAny P c 2 0) rfl fun _ => ?_
  refine store_second P K (i := (.fwd 2 0)) (by decide +kernel) rfl rfl rfl (interp_fwAny P c 2 0) (interp_fwFull P c 2 0 (.rem 0)) rfl (cast_blk _ _) ?_
  refine step_send_final P K 2 7 (by decide +kernel) rfl (dev35 c) rfl (off24 c) rfl rfl rfl ?_
  refine step_send_final P K 2 9 (by decide +kernel) rfl (dev36 c) rfl (off24 c) rfl rfl rfl ?_
  exact ret_intro H

theorem part38_ok {Q : (FVec F S168x512 .f32) → sProp 𝕄} (v27 : BitVec 32) (v32 : BitVec 32) (v140 : BitVec 32) (v164 : BitVec 32) (v301 : BitVec 32) (H : Sk P K c 88 ⊢ Q (k0_pay25 (blk (u 0) (valAt P 0 3 (base 0 (dev 0 2 c)) (dev 0 2 c))))) :
    Sk P K c 84 ⊢ WP c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v27 v32 v140 v164 v301) Q := by
  rw [k0_part38_eq_skeleton]; unfold k0_part38_skel
  simp only [Prog.lift, Prog.bind_op, Prog.bind_ret, Prog.pure_eq_ret]
  refine load_first P K (i := (.copy 0 4)) (by decide +kernel) rfl (interp_pO P c 0 4 (.rem (left 4)) 3 4) (off19 c) ?_
  refine load_dead P K (i := (.copy 0 4)) (by decide +kernel) rfl (interp_outAny P c 0 4) (off19 c) fun _ => ?_
  refine store_second P K (i := (.copy 0 4)) (by decide +kernel) rfl rfl rfl (interp_outAny P c 0 4) (interp_outFull P c 0 4) (off19 c) rfl ?_
  refine load_first P K (i := (.copy 1 4)) (by decide +kernel) rfl (interp_pO P c 1 4 (.rem (left 4)) 3 4) (off20 c) ?_
  refine load_dead P K (i := (.copy 1 4)) (by decide +kernel) rfl (interp_outAny P c 1 4) (off20 c) fun _ => ?_
  refine store_second P K (i := (.copy 1 4)) (by decide +kernel) rfl rfl rfl (interp_outAny P c 1 4) (interp_outFull P c 1 4) (off20 c) rfl ?_
  refine load_first P K (i := (.copy 2 4)) (by decide +kernel) rfl (interp_pO P c 2 4 (.rem (left 4)) 3 4) (off21 c) ?_
  refine load_dead P K (i := (.copy 2 4)) (by decide +kernel) rfl (interp_outAny P c 2 4) (off21 c) fun _ => ?_
  refine store_second P K (i := (.copy 2 4)) (by decide +kernel) rfl rfl rfl (interp_outAny P c 2 4) (interp_outFull P c 2 4) (off21 c) rfl ?_
  refine step_waitR P K 0 6 (by decide +kernel) rfl rfl ?_
  refine load_first P K (i := (.fwd 0 1)) (by decide +kernel) rfl (interp_pO P c 0 2 (.rem 0) 3 2) (off31 c) ?_
  refine load_dead P K (i := (.fwd 0 1)) (by decide +kernel) rfl (interp_fwAny P c 0 1) rfl fun _ => ?_
  exact ret_intro H

theorem part39_ok {Q : (PUnit) → sProp 𝕄} (v107 : BitVec 32) (v169 : BitVec 32) (v244 : BitVec 32) (v277 : BitVec 32) (H : Sk P K c 92 ⊢ Q ⟨⟩) :
    Sk P K c 88 ⊢ WP c (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v107 v169 v244 v277 (k0_pay25 (blk (u 0) (valAt P 0 3 (base 0 (dev 0 2 c)) (dev 0 2 c))))) Q := by
  rw [k0_part39_eq_skeleton]; unfold k0_part39_skel
  simp only [Prog.lift, Prog.bind_op, Prog.bind_ret, Prog.pure_eq_ret]
  refine store_second P K (i := (.fwd 0 1)) (by decide +kernel) rfl rfl rfl (interp_fwAny P c 0 1) (interp_fwFull P c 0 1 (.rem 0)) rfl (cast_blk _ _) ?_
  refine step_send_final P K 0 10 (by decide +kernel) rfl (dev37 c) rfl (off12 c) rfl rfl rfl ?_
  refine step_waitR P K 1 6 (by decide +kernel) rfl rfl ?_
  refine load_first P K (i := (.fwd 1 1)) (by decide +kernel) rfl (interp_pO P c 1 2 (.rem 0) 3 2) (off32 c) ?_
  refine load_dead P K (i := (.fwd 1 1)) (by decide +kernel) rfl (interp_fwAny P c 1 1) rfl fun _ => ?_
  refine store_second P K (i := (.fwd 1 1)) (by decide +kernel) rfl rfl rfl (interp_fwAny P c 1 1) (interp_fwFull P c 1 1 (.rem 0)) rfl (cast_blk _ _) ?_
  exact ret_intro H

end Cert.KernelIdeal.Halving
-- ==== Proof.PartsD.lean ====
/-
# `PartsD`: the program between the barrier and its end, parts 40 to 48
-/
module

public import proofs.«01_k».proof.Proof.Offs

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

theorem part40_ok {Q : (PUnit) → sProp 𝕄} (v143 : BitVec 32) (v306 : BitVec 32) (v381 : BitVec 32) (v414 : BitVec 32) (H : Sk P K c 96 ⊢ Q ⟨⟩) :
    Sk P K c 92 ⊢ WP c (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v143 v306 v381 v414) Q := by
  rw [k0_part40_eq_skeleton]; unfold k0_part40_skel
  simp only [Prog.lift, Prog.bind_op, Prog.bind_ret, Prog.pure_eq_ret]
  refine step_send_final P K 1 10 (by decide +kernel) rfl (dev38 c) rfl (off15 c) rfl rfl rfl ?_
  refine step_waitR P K 2 6 (by decide +kernel) rfl rfl ?_
  refine load_first P K (i := (.fwd 2 1)) (by decide +kernel) rfl (interp_pO P c 2 2 (.rem 0) 3 2) (off33 c) ?_
  refine load_dead P K (i := (.fwd 2 1)) (by decide +kernel) rfl (interp_fwAny P c 2 1) rfl fun _ => ?_
  refine store_second P K (i := (.fwd 2 1)) (by decide +kernel) rfl rfl rfl (interp_fwAny P c 2 1) (interp_fwFull P c 2 1 (.rem 0)) rfl (cast_blk _ _) ?_
  refine step_send_final P K 2 10 (by decide +kernel) rfl (dev39 c) rfl (off18 c) rfl rfl rfl ?_
  exact ret_intro H

theorem part41_ok {Q : (Vec F S168x512 .f32) → sProp 𝕄} (v38 : BitVec 32) (v110 : BitVec 32) (v175 : BitVec 32) (v280 : BitVec 32) (H : Sk P K c 100 ⊢ Q (blk (u 1) (valAt P 1 3 (base 1 (dev 1 6 c)) (dev 1 6 c)))) :
    Sk P K c 96 ⊢ WP c (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v38 v110 v175 v280) Q := by
  rw [k0_part41_eq_skeleton]; unfold k0_part41_skel
  simp only [Prog.lift, Prog.bind_op, Prog.bind_ret, Prog.pure_eq_ret]
  refine step_waitR P K 0 7 (by decide +kernel) rfl rfl ?_
  refine load_first P K (i := (.fwd 0 2)) (by decide +kernel) rfl (interp_pO P c 0 6 (.rem 0) 3 6) (off34 c) ?_
  refine load_dead P K (i := (.fwd 0 2)) (by decide +kernel) rfl (interp_fwAny P c 0 2) rfl fun _ => ?_
  refine store_second P K (i := (.fwd 0 2)) (by decide +kernel) rfl rfl rfl (interp_fwAny P c 0 2) (interp_fwFull P c 0 2 (.rem 0)) rfl (cast_blk _ _) ?_
  refine step_send_final P K 0 11 (by decide +kernel) rfl (dev40 c) rfl (off11 c) rfl rfl rfl ?_
  refine step_waitR P K 1 7 (by decide +kernel) rfl rfl ?_
  refine load_first P K (i := (.fwd 1 2)) (by decide +kernel) rfl (interp_pO P c 1 6 (.rem 0) 3 6) (off35 c) ?_
  exact ret_intro H

theorem part42_ok {Q : (PUnit) → sProp 𝕄} (v247 : BitVec 32) (v312 : BitVec 32) (v384 : BitVec 32) (v417 : BitVec 32) (H : Sk P K c 104 ⊢ Q ⟨⟩) :
    Sk P K c 100 ⊢ WP c (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v247 v312 v384 v417 (blk (u 1) (valAt P 1 3 (base 1 (dev 1 6 c)) (dev 1 6 c)))) Q := by
  rw [k0_part42_eq_skeleton]; unfold k0_part42_skel
  simp only [Prog.lift, Prog.bind_op, Prog.bind_ret, Prog.pure_eq_ret]
  refine load_dead P K (i := (.fwd 1 2)) (by decide +kernel) rfl (interp_fwAny P c 1 2) rfl fun _ => ?_
  refine store_second P K (i := (.fwd 1 2)) (by decide +kernel) rfl rfl rfl (interp_fwAny P c 1 2) (interp_fwFull P c 1 2 (.rem 0)) rfl (cast_blk _ _) ?_
  refine step_send_final P K 1 11 (by decide +kernel) rfl (dev41 c) rfl (off14 c) rfl rfl rfl ?_
  refine step_waitR P K 2 7 (by decide +kernel) rfl rfl ?_
  refine load_first P K (i := (.fwd 2 2)) (by decide +kernel) rfl (interp_pO P c 2 6 (.rem 0) 3 6) (off36 c) ?_
  refine load_dead P K (i := (.fwd 2 2)) (by decide +kernel) rfl (interp_fwAny P c 2 2) rfl fun _ => ?_
  refine store_second P K (i := (.fwd 2 2)) (by decide +kernel) rfl rfl rfl (interp_fwAny P c 2 2) (interp_fwFull P c 2 2 (.rem 0)) rfl (cast_blk _ _) ?_
  exact ret_intro H

theorem part43_ok {Q : (Σ' (v1297 : BitVec 32), Vec F S176x512 .f32) → sProp 𝕄} (v32 : BitVec 32) (v38 : BitVec 32) (v169 : BitVec 32) (v175 : BitVec 32) (v306 : BitVec 32) (H : ∀ w0, Sk P K c 109 ⊢ Q ⟨w0, (blk (u 2) (valAt P 2 3 (base 2 (dev 2 2 c)) (dev 2 2 c)))⟩) :
    Sk P K c 104 ⊢ WP c (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v32 v38 v169 v175 v306) Q := by
  rw [k0_part43_eq_skeleton]; unfold k0_part43_skel
  simp only [Prog.lift, Prog.bind_op, Prog.bind_ret, Prog.pure_eq_ret]
  refine step_send_final P K 2 11 (by decide +kernel) rfl (dev42 c) rfl (off17 c) rfl rfl rfl ?_
  refine load_first P K (i := (.copy 0 2)) (by decide +kernel) rfl (interp_pO P c 0 2 (.rem (left 2)) 3 2) (off31 c) ?_
  refine load_dead P K (i := (.copy 0 2)) (by decide +kernel) rfl (interp_outAny P c 0 2) (off31 c) fun _ => ?_
  refine store_second P K (i := (.copy 0 2)) (by decide +kernel) rfl rfl rfl (interp_outAny P c 0 2) (interp_outFull P c 0 2) (off31 c) rfl ?_
  refine load_first P K (i := (.copy 0 6)) (by decide +kernel) rfl (interp_pO P c 0 6 (.rem (left 6)) 3 6) (off34 c) ?_
  refine load_dead P K (i := (.copy 0 6)) (by decide +kernel) rfl (interp_outAny P c 0 6) (off34 c) fun _ => ?_
  refine store_second P K (i := (.copy 0 6)) (by decide +kernel) rfl rfl rfl (interp_outAny P c 0 6) (interp_outFull P c 0 6) (off34 c) rfl ?_
  refine load_first P K (i := (.copy 1 2)) (by decide +kernel) rfl (interp_pO P c 1 2 (.rem (left 2)) 3 2) (off32 c) ?_
  refine load_dead P K (i := (.copy 1 2)) (by decide +kernel) rfl (interp_outAny P c 1 2) (off32 c) fun _ => ?_
  refine store_second P K (i := (.copy 1 2)) (by decide +kernel) rfl rfl rfl (interp_outAny P c 1 2) (interp_outFull P c 1 2) (off32 c) rfl ?_
  refine load_first P K (i := (.copy 1 6)) (by decide +kernel) rfl (interp_pO P c 1 6 (.rem (left 6)) 3 6) (off35 c) ?_
  refine load_dead P K (i := (.copy 1 6)) (by decide +kernel) rfl (interp_outAny P c 1 6) (off35 c) fun _ => ?_
  refine store_second P K (i := (.copy 1 6)) (by decide +kernel) rfl rfl rfl (interp_outAny P c 1 6) (interp_outFull P c 1 6) (off35 c) rfl ?_
  refine load_first P K (i := (.copy 2 2)) (by decide +kernel) rfl (interp_pO P c 2 2 (.rem (left 2)) 3 2) (off33 c) ?_
  exact ret_intro (H _)

theorem part44_ok {Q : (BitVec 32) → sProp 𝕄} (v115 : BitVec 32) (v146 : BitVec 32) (v252 : BitVec 32) (v283 : BitVec 32) (v312 : BitVec 32) (v1297 : BitVec 32) (H : ∀ w, Sk P K c 114 ⊢ Q w) :
    Sk P K c 109 ⊢ WP c (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v115 v146 v252 v283 v312 v1297 (blk (u 2) (valAt P 2 3 (base 2 (dev 2 2 c)) (dev 2 2 c)))) Q := by
  rw [k0_part44_eq_skeleton]; unfold k0_part44_skel
  simp only [Prog.lift, Prog.bind_op, Prog.bind_ret, Prog.pure_eq_ret]
  refine load_dead P K (i := (.copy 2 2)) (by decide +kernel) rfl (interp_outAny P c 2 2) (off33 c) fun _ => ?_
  refine store_second P K (i := (.copy 2 2)) (by decide +kernel) rfl rfl rfl (interp_outAny P c 2 2) (interp_outFull P c 2 2) (off33 c) rfl ?_
  refine load_first P K (i := (.copy 2 6)) (by decide +kernel) rfl (interp_pO P c 2 6 (.rem (left 6)) 3 6) (off36 c) ?_
  refine load_dead P K (i := (.copy 2 6)) (by decide +kernel) rfl (interp_outAny P c 2 6) (off36 c) fun _ => ?_
  refine store_second P K (i := (.copy 2 6)) (by decide +kernel) rfl rfl rfl (interp_outAny P c 2 6) (interp_outFull P c 2 6) (off36 c) rfl ?_
  refine step_waitR P K 0 8 (by decide +kernel) rfl rfl ?_
  refine load_first P K (i := (.copy 0 1)) (by decide +kernel) rfl (interp_pO P c 0 1 (.rem (left 1)) 3 1) (off37 c) ?_
  refine load_dead P K (i := (.copy 0 1)) (by decide +kernel) rfl (interp_outAny P c 0 1) (off37 c) fun _ => ?_
  refine store_second P K (i := (.copy 0 1)) (by decide +kernel) rfl rfl rfl (interp_outAny P c 0 1) (interp_outFull P c 0 1) (off37 c) rfl ?_
  refine step_waitR P K 1 8 (by decide +kernel) rfl rfl ?_
  exact ret_intro (H _)

theorem part45_ok {Q : (PUnit) → sProp 𝕄} (v121 : BitVec 32) (v149 : BitVec 32) (v389 : BitVec 32) (v420 : BitVec 32) (v1327 : BitVec 32) (H : Sk P K c 119 ⊢ Q ⟨⟩) :
    Sk P K c 114 ⊢ WP c (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v121 v149 v389 v420 v1327) Q := by
  rw [k0_part45_eq_skeleton]; unfold k0_part45_skel
  simp only [Prog.lift, Prog.bind_op, Prog.bind_ret, Prog.pure_eq_ret]
  refine load_first P K (i := (.copy 1 1)) (by decide +kernel) rfl (interp_pO P c 1 1 (.rem (left 1)) 3 1) (off38 c) ?_
  refine load_dead P K (i := (.copy 1 1)) (by decide +kernel) rfl (interp_outAny P c 1 1) (off38 c) fun _ => ?_
  refine store_second P K (i := (.copy 1 1)) (by decide +kernel) rfl rfl rfl (interp_outAny P c 1 1) (interp_outFull P c 1 1) (off38 c) rfl ?_
  refine step_waitR P K 2 8 (by decide +kernel) rfl rfl ?_
  refine load_first P K (i := (.copy 2 1)) (by decide +kernel) rfl (interp_pO P c 2 1 (.rem (left 1)) 3 1) (off39 c) ?_
  refine load_dead P K (i := (.copy 2 1)) (by decide +kernel) rfl (interp_outAny P c 2 1) (off39 c) fun _ => ?_
  refine store_second P K (i := (.copy 2 1)) (by decide +kernel) rfl rfl rfl (interp_outAny P c 2 1) (interp_outFull P c 2 1) (off39 c) rfl ?_
  refine step_waitR P K 0 9 (by decide +kernel) rfl rfl ?_
  refine load_first P K (i := (.copy 0 5)) (by decide +kernel) rfl (interp_pO P c 0 5 (.rem (left 5)) 3 5) (off40 c) ?_
  refine load_dead P K (i := (.copy 0 5)) (by decide +kernel) rfl (interp_outAny P c 0 5) (off40 c) fun _ => ?_
  refine store_second P K (i := (.copy 0 5)) (by decide +kernel) rfl rfl rfl (interp_outAny P c 0 5) (interp_outFull P c 0 5) (off40 c) rfl ?_
  exact ret_intro H

theorem part46_ok {Q : (PUnit) → sProp 𝕄} (v152 : BitVec 32) (v258 : BitVec 32) (v286 : BitVec 32) (v395 : BitVec 32) (v423 : BitVec 32) (H : Sk P K c 123 ⊢ Q ⟨⟩) :
    Sk P K c 119 ⊢ WP c (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v152 v258 v286 v395 v423) Q := by
  rw [k0_part46_eq_skeleton]; unfold k0_part46_skel
  simp only [Prog.lift, Prog.bind_op, Prog.bind_ret, Prog.pure_eq_ret]
  refine step_waitR P K 1 9 (by decide +kernel) rfl rfl ?_
  refine load_first P K (i := (.copy 1 5)) (by decide +kernel) rfl (interp_pO P c 1 5 (.rem (left 5)) 3 5) (off41 c) ?_
  refine load_dead P K (i := (.copy 1 5)) (by decide +kernel) rfl (interp_outAny P c 1 5) (off41 c) fun _ => ?_
  refine store_second P K (i := (.copy 1 5)) (by decide +kernel) rfl rfl rfl (interp_outAny P c 1 5) (interp_outFull P c 1 5) (off41 c) rfl ?_
  refine step_waitR P K 2 9 (by decide +kernel) rfl rfl ?_
  refine load_first P K (i := (.copy 2 5)) (by decide +kernel) rfl (interp_pO P c 2 5 (.rem (left 5)) 3 5) (off42 c) ?_
  refine load_dead P K (i := (.copy 2 5)) (by decide +kernel) rfl (interp_outAny P c 2 5) (off42 c) fun _ => ?_
  refine store_second P K (i := (.copy 2 5)) (by decide +kernel) rfl rfl rfl (interp_outAny P c 2 5) (interp_outFull P c 2 5) (off42 c) rfl ?_
  exact ret_intro H

theorem part47_ok {Q : (BitVec 32) → sProp 𝕄} (v127 : BitVec 32) (v264 : BitVec 32) (v289 : BitVec 32) (v401 : BitVec 32) (v426 : BitVec 32) (H : ∀ w, Sk P K c 128 ⊢ Q w) :
    Sk P K c 123 ⊢ WP c (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v127 v264 v289 v401 v426) Q := by
  rw [k0_part47_eq_skeleton]; unfold k0_part47_skel
  simp only [Prog.lift, Prog.bind_op, Prog.bind_ret, Prog.pure_eq_ret]
  refine step_waitR P K 0 10 (by decide +kernel) rfl rfl ?_
  refine load_first P K (i := (.copy 0 3)) (by decide +kernel) rfl (interp_pO P c 0 3 (.rem (left 3)) 3 3) (off44 c) ?_
  refine load_dead P K (i := (.copy 0 3)) (by decide +kernel) rfl (interp_outAny P c 0 3) (off44 c) fun _ => ?_
  refine store_second P K (i := (.copy 0 3)) (by decide +kernel) rfl rfl rfl (interp_outAny P c 0 3) (interp_outFull P c 0 3) (off44 c) rfl ?_
  refine step_waitR P K 1 10 (by decide +kernel) rfl rfl ?_
  refine load_first P K (i := (.copy 1 3)) (by decide +kernel) rfl (interp_pO P c 1 3 (.rem (left 3)) 3 3) (off46 c) ?_
  refine load_dead P K (i := (.copy 1 3)) (by decide +kernel) rfl (interp_outAny P c 1 3) (off46 c) fun _ => ?_
  refine store_second P K (i := (.copy 1 3)) (by decide +kernel) rfl rfl rfl (interp_outAny P c 1 3) (interp_outFull P c 1 3) (off46 c) rfl ?_
  refine step_waitR P K 2 10 (by decide +kernel) rfl rfl ?_
  exact ret_intro (H _)

theorem part48_ok {Q : (Vec F S168x512 .f32) → sProp 𝕄} (v134 : BitVec 32) (v155 : BitVec 32) (v271 : BitVec 32) (v292 : BitVec 32) (v1410 : BitVec 32) (H : Sk P K c 132 ⊢ Q (blk (u 1) (valAt P 1 3 (base 1 (dev 1 7 c)) (dev 1 7 c)))) :
    Sk P K c 128 ⊢ WP c (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v134 v155 v271 v292 v1410) Q := by
  rw [k0_part48_eq_skeleton]; unfold k0_part48_skel
  simp only [Prog.lift, Prog.bind_op, Prog.bind_ret, Prog.pure_eq_ret]
  refine load_first P K (i := (.copy 2 3)) (by decide +kernel) rfl (interp_pO P c 2 3 (.rem (left 3)) 3 3) (off48 c) ?_
  refine load_dead P K (i := (.copy 2 3)) (by decide +kernel) rfl (interp_outAny P c 2 3) (off48 c) fun _ => ?_
  refine store_second P K (i := (.copy 2 3)) (by decide +kernel) rfl rfl rfl (interp_outAny P c 2 3) (interp_outFull P c 2 3) (off48 c) rfl ?_
  refine step_waitR P K 0 11 (by decide +kernel) rfl rfl ?_
  refine load_first P K (i := (.copy 0 7)) (by decide +kernel) rfl (interp_pO P c 0 7 (.rem (left 7)) 3 7) (off50 c) ?_
  refine load_dead P K (i := (.copy 0 7)) (by decide +kernel) rfl (interp_outAny P c 0 7) (off50 c) fun _ => ?_
  refine store_second P K (i := (.copy 0 7)) (by decide +kernel) rfl rfl rfl (interp_outAny P c 0 7) (interp_outFull P c 0 7) (off50 c) rfl ?_
  refine step_waitR P K 1 11 (by decide +kernel) rfl rfl ?_
  refine load_first P K (i := (.copy 1 7)) (by decide +kernel) rfl (interp_pO P c 1 7 (.rem (left 7)) 3 7) (off52 c) ?_
  refine load_dead P K (i := (.copy 1 7)) (by decide +kernel) rfl (interp_outAny P c 1 7) (off52 c) fun _ => ?_
  exact ret_intro H

end Cert.KernelIdeal.Halving
-- ==== Proof.PartsE.lean ====
/-
# `PartsE`: the program between the barrier and its end, parts 49 to 56
-/
module

public import proofs.«01_k».proof.Proof.Offs

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

theorem part49_ok {Q : (PUnit) → sProp 𝕄} (v408 : BitVec 32) (v429 : BitVec 32) (H : Sk P K c 137 ⊢ Q ⟨⟩) :
    Sk P K c 132 ⊢ WP c (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v408 v429 (blk (u 1) (valAt P 1 3 (base 1 (dev 1 7 c)) (dev 1 7 c)))) Q := by
  rw [k0_part49_eq_skeleton]; unfold k0_part49_skel
  simp only [Prog.lift, Prog.bind_op, Prog.bind_ret, Prog.pure_eq_ret]
  refine store_second P K (i := (.copy 1 7)) (by decide +kernel) rfl rfl rfl (interp_outAny P c 1 7) (interp_outFull P c 1 7) (off52 c) rfl ?_
  refine step_waitR P K 2 11 (by decide +kernel) rfl rfl ?_
  refine load_first P K (i := (.copy 2 7)) (by decide +kernel) rfl (interp_pO P c 2 7 (.rem (left 7)) 3 7) (off54 c) ?_
  refine load_dead P K (i := (.copy 2 7)) (by decide +kernel) rfl (interp_outAny P c 2 7) (off54 c) fun _ => ?_
  refine store_second P K (i := (.copy 2 7)) (by decide +kernel) rfl rfl rfl (interp_outAny P c 2 7) (interp_outFull P c 2 7) (off54 c) rfl ?_
  refine step_waitS P K 0 0 (by decide +kernel) rfl rfl ?_
  refine step_waitS P K 0 1 (by decide +kernel) rfl rfl ?_
  exact ret_intro H

theorem part50_ok {Q : (PUnit) → sProp 𝕄} (H : Sk P K c 142 ⊢ Q ⟨⟩) :
    Sk P K c 137 ⊢ WP c (k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part50_eq_skeleton]; unfold k0_part50_skel
  simp only [Prog.lift, Prog.bind_op, Prog.bind_ret, Prog.pure_eq_ret]
  refine step_waitS P K 0 2 (by decide +kernel) rfl rfl ?_
  refine step_waitS P K 0 3 (by decide +kernel) rfl rfl ?_
  refine step_waitS P K 0 4 (by decide +kernel) rfl rfl ?_
  refine step_waitS P K 0 5 (by decide +kernel) rfl rfl ?_
  refine step_waitS P K 0 6 (by decide +kernel) rfl rfl ?_
  exact ret_intro H

theorem part51_ok {Q : (PUnit) → sProp 𝕄} (H : Sk P K c 147 ⊢ Q ⟨⟩) :
    Sk P K c 142 ⊢ WP c (k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part51_eq_skeleton]; unfold k0_part51_skel
  simp only [Prog.lift, Prog.bind_op, Prog.bind_ret, Prog.pure_eq_ret]
  refine step_waitS P K 0 7 (by decide +kernel) rfl rfl ?_
  refine step_waitS P K 0 8 (by decide +kernel) rfl rfl ?_
  refine step_waitS P K 0 9 (by decide +kernel) rfl rfl ?_
  refine step_waitS P K 0 10 (by decide +kernel) rfl rfl ?_
  refine step_waitS P K 0 11 (by decide +kernel) rfl rfl ?_
  exact ret_intro H

theorem part52_ok {Q : (PUnit) → sProp 𝕄} (H : Sk P K c 151 ⊢ Q ⟨⟩) :
    Sk P K c 147 ⊢ WP c (k0_part52 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part52_eq_skeleton]; unfold k0_part52_skel
  simp only [Prog.lift, Prog.bind_op, Prog.bind_ret, Prog.pure_eq_ret]
  refine step_waitS P K 0 12 (by decide +kernel) rfl rfl ?_
  refine step_waitS P K 1 0 (by decide +kernel) rfl rfl ?_
  refine step_waitS P K 1 1 (by decide +kernel) rfl rfl ?_
  refine step_waitS P K 1 2 (by decide +kernel) rfl rfl ?_
  exact ret_intro H

theorem part53_ok {Q : (PUnit) → sProp 𝕄} (H : Sk P K c 156 ⊢ Q ⟨⟩) :
    Sk P K c 151 ⊢ WP c (k0_part53 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part53_eq_skeleton]; unfold k0_part53_skel
  simp only [Prog.lift, Prog.bind_op, Prog.bind_ret, Prog.pure_eq_ret]
  refine step_waitS P K 1 3 (by decide +kernel) rfl rfl ?_
  refine step_waitS P K 1 4 (by decide +kernel) rfl rfl ?_
  refine step_waitS P K 1 5 (by decide +kernel) rfl rfl ?_
  refine step_waitS P K 1 6 (by decide +kernel) rfl rfl ?_
  refine step_waitS P K 1 7 (by decide +kernel) rfl rfl ?_
  exact ret_intro H

theorem part54_ok {Q : (PUnit) → sProp 𝕄} (H : Sk P K c 161 ⊢ Q ⟨⟩) :
    Sk P K c 156 ⊢ WP c (k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part54_eq_skeleton]; unfold k0_part54_skel
  simp only [Prog.lift, Prog.bind_op, Prog.bind_ret, Prog.pure_eq_ret]
  refine step_waitS P K 1 8 (by decide +kernel) rfl rfl ?_
  refine step_waitS P K 1 9 (by decide +kernel) rfl rfl ?_
  refine step_waitS P K 1 10 (by decide +kernel) rfl rfl ?_
  refine step_waitS P K 1 11 (by decide +kernel) rfl rfl ?_
  refine step_waitS P K 1 12 (by decide +kernel) rfl rfl ?_
  exact ret_intro H

theorem part55_ok {Q : (PUnit) → sProp 𝕄} (H : Sk P K c 165 ⊢ Q ⟨⟩) :
    Sk P K c 161 ⊢ WP c (k0_part55 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part55_eq_skeleton]; unfold k0_part55_skel
  simp only [Prog.lift, Prog.bind_op, Prog.bind_ret, Prog.pure_eq_ret]
  refine step_waitS P K 2 0 (by decide +kernel) rfl rfl ?_
  refine step_waitS P K 2 1 (by decide +kernel) rfl rfl ?_
  refine step_waitS P K 2 2 (by decide +kernel) rfl rfl ?_
  refine step_waitS P K 2 3 (by decide +kernel) rfl rfl ?_
  exact ret_intro H

theorem part56_ok {Q : (PUnit) → sProp 𝕄} (H : Sk P K c 170 ⊢ Q ⟨⟩) :
    Sk P K c 165 ⊢ WP c (k0_part56 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c) Q := by
  rw [k0_part56_eq_skeleton]; unfold k0_part56_skel
  simp only [Prog.lift, Prog.bind_op, Prog.bind_ret, Prog.pure_eq_ret]
  refine step_waitS P K 2 4 (by decide +kernel) rfl rfl ?_
  refine step_waitS P K 2 5 (by decide +kernel) rfl rfl ?_
  refine step_waitS P K 2 6 (by decide +kernel) rfl rfl ?_
  refine step_waitS P K 2 7 (by decide +kernel) rfl rfl ?_
  refine step_waitS P K 2 8 (by decide +kernel) rfl rfl ?_
  exact ret_intro H

end Cert.KernelIdeal.Halving
-- ==== Proof.Body.lean ====
/-
# `Body`: the whole program on one device
-/
module

public import proofs.«01_k».proof.Proof.Enter
public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Tab F) (K : Dev nD × Cid → ℕ) {c : Dev nD}

/-- The program up to its last four waits. -/
theorem part57_ok {Q : Dev nD → sProp 𝕄}
    {fx : (cc0_stg0_0 : Ref sig .tc).ty.Contents (Elt F)} {fk : (cc0_stg1_0 : Ref sig .tc).ty.Contents (Elt F)} {fw : (cc0_stg2_0 : Ref sig .tc).ty.Contents (Elt F)}
    (hP : prod fx fk fw = blk 4096 (P c))
    (H : iprop(Sk P K c 170 ∗ ins c fx fk fw ∗ atPos ER (barC c) 1 ∅ 0) ⊢ |={Set.univ}=> Q c) :
    iprop(Inv P K ∗ (∃ W, owes (c : Thread nD τ) (O₀ c) W) ∗ (bigSepL [0, 1, 2] fun d => dutyTok ER (barC (pr c (bm d))) 0 d)
        ∗ (bigSepL [0, 1, 2] fun d => barPay (F := F) (pr c (bm d)) d)
        ∗ ins c fx fk fw ∗ anyR pM c 0 4096 ∗ cred (tallyAt (barC c) () 3) ∗ atPos ER (barC c) 0 ∅ 0
        ∗ bigSepL restL (interp P c))
      ⊢ WP c (k0_part57 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q := by
  rw [k0_part57_eq_skeleton]; unfold k0_part57_skel
  refine bind_step (part1_ok P K fun _ _ _ _ _ _ _ _ _ => ?_)
  refine bind_step (part2_ok _ _ _ _ _ fun _ _ _ _ _ _ _ _ => ?_)
  refine bind_step (part3_ok _ _ _ _ _ _ _ _ _ _ _ fun _ _ _ _ _ _ _ _ _ _ => ?_)
  refine bind_step (part4_ok _ _ _ _ _ _ _ _ _ _ fun _ _ _ _ _ _ _ _ _ _ => ?_)
  refine bind_step (part5_ok _ _ _ _ _ _ _ _ _ _ _ _ _ fun _ _ _ _ _ _ _ _ _ _ => ?_)
  refine bind_step (part6_ok _ _ _ _ fun _ _ _ _ _ _ _ _ => ?_)
  refine bind_step (part7_ok _ _ _ _ _ _ _ _ _ fun _ _ _ _ _ _ _ _ => ?_)
  refine bind_step (part8_ok _ _ _ _ _ _ _ _ _ fun _ _ _ _ _ _ _ _ _ _ => ?_)
  refine bind_step (part9_ok _ _ _ _ _ _ _ _ _ _ _ _ fun _ _ _ _ _ _ _ _ _ _ _ => ?_)
  refine bind_step (part10_ok _ _ _ _ _ fun _ _ _ _ _ _ _ _ _ _ => ?_)
  refine bind_step (part11_ok _ _ _ _ _ _ _ _ _ fun _ _ _ _ _ _ _ => ?_)
  refine bind_step (part12_ok _ _ _ _ _ _ _ _ _ fun _ _ _ _ _ _ _ _ _ _ => ?_)
  refine bind_step (part13_ok _ _ _ _ _ _ _ _ _ _ fun _ _ _ _ _ _ _ _ _ _ => ?_)
  refine BIBase.Entails.trans (Q := iprop(ins c fx fk fw ∗ Inv P K ∗ owed (F := F) c (todo 0) ∗ anyR pM c 0 4096 ∗ cred (tallyAt (barC c) () 3) ∗ atPos ER (barC c) 0 ∅ 0
        ∗ bigSepL restL (interp P c))) ?_ ?_
  · iintro ⟨HI, HO, Hin, H⟩
    isplitl [Hin]; · iexact Hin
    isplitl [HI]; · iexact HI
    isplitl [HO]; · iexact HO
    iexact H
  refine bind_step (part14_ok _ _ _ fun _ => ?_)
  refine bind_step (part15_ok P K _ _ _ hP (BIBase.Entails.trans (framed ?_) fupd_intro))
  refine bind_step (part16_ok P K _ _ _ (?_))
  refine bind_step (part17_ok P K _ _ _ (?_))
  refine bind_step (part18_ok P K _ _ _ _ (fun _ => ?_))
  refine bind_step (part19_ok P K _ _ _ _ _ _ (fun _ _ => ?_))
  refine bind_step (part20_ok P K _ _ _ _ _ _ (fun _ => ?_))
  refine bind_step (part21_ok P K _ _ _ _ (?_))
  refine bind_step (part22_ok P K _ _ _ _ _ (fun _ => ?_))
  refine bind_step (part23_ok P K _ _ _ _ _ _ (?_))
  refine bind_step (part24_ok P K _ _ _ _ _ (?_))
  refine bind_step (part25_ok P K _ _ _ _ _ (?_))
  refine bind_step (part26_ok P K _ _ _ _ _ (?_))
  refine bind_step (part27_ok P K _ _ _ _ (?_))
  refine bind_step (part28_ok P K _ _ _ (?_))
  refine bind_step (part29_ok P K _ _ _ _ (?_))
  refine bind_step (part30_ok P K _ _ _ _ (fun _ _ => ?_))
  refine bind_step (part31_ok P K _ _ _ _ _ (?_))
  refine bind_step (part32_ok P K _ _ _ _ (?_))
  refine bind_step (part33_ok P K _ _ _ (?_))
  refine bind_step (part34_ok P K _ _ _ _ _ (?_))
  refine bind_step (part35_ok P K _ _ _ _ (?_))
  refine bind_step (part36_ok P K _ _ _ (?_))
  refine bind_step (part37_ok P K _ _ _ _ (?_))
  refine bind_step (part38_ok P K _ _ _ _ _ (?_))
  refine bind_step (part39_ok P K _ _ _ _ (?_))
  refine bind_step (part40_ok P K _ _ _ _ (?_))
  refine bind_step (part41_ok P K _ _ _ _ (?_))
  refine bind_step (part42_ok P K _ _ _ _ (?_))
  refine bind_step (part43_ok P K _ _ _ _ _ (fun _ => ?_))
  refine bind_step (part44_ok P K _ _ _ _ _ _ (fun _ => ?_))
  refine bind_step (part45_ok P K _ _ _ _ _ (?_))
  refine bind_step (part46_ok P K _ _ _ _ _ (?_))
  refine bind_step (part47_ok P K _ _ _ _ _ (fun _ => ?_))
  refine bind_step (part48_ok P K _ _ _ _ _ (?_))
  refine bind_step (part49_ok P K _ _ (?_))
  refine bind_step (part50_ok P K (?_))
  refine bind_step (part51_ok P K (?_))
  refine bind_step (part52_ok P K (?_))
  refine bind_step (part53_ok P K (?_))
  refine bind_step (part54_ok P K (?_))
  refine bind_step (part55_ok P K (?_))
  refine bind_step (part56_ok P K (?_))
  exact ret_frame H

/-- The whole program: from the state at the barrier to the end of the steps. -/
theorem body_ok {Q : PUnit → sProp 𝕄}
    {fx : (cc0_stg0_0 : Ref sig .tc).ty.Contents (Elt F)} {fk : (cc0_stg1_0 : Ref sig .tc).ty.Contents (Elt F)} {fw : (cc0_stg2_0 : Ref sig .tc).ty.Contents (Elt F)}
    (hP : prod fx fk fw = blk 4096 (P c))
    (H : iprop(Sk P K c 195 ∗ ins c fx fk fw ∗ atPos ER (barC c) 1 ∅ 0) ⊢ |={Set.univ}=> Q ⟨⟩) :
    iprop(Inv P K ∗ (∃ W, owes (c : Thread nD τ) (O₀ c) W) ∗ (bigSepL [0, 1, 2] fun d => dutyTok ER (barC (pr c (bm d))) 0 d)
        ∗ (bigSepL [0, 1, 2] fun d => barPay (F := F) (pr c (bm d)) d)
        ∗ ins c fx fk fw ∗ anyR pM c 0 4096 ∗ cred (tallyAt (barC c) () 3) ∗ atPos ER (barC c) 0 ∅ 0
        ∗ bigSepL restL (interp P c))
      ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q := by
  rw [cc0_body_eq_skeleton]; unfold cc0_body_skel
  refine bind_step (part57_ok P K hP (BIBase.Entails.trans (framed ?_) fupd_intro))
  simp only [Prog.lift, Prog.bind_op, Prog.bind_ret, Prog.pure_eq_ret]
  refine step_waitS P K 2 9 (by decide +kernel) rfl rfl ?_
  refine step_waitS P K 2 10 (by decide +kernel) rfl rfl ?_
  refine step_waitS P K 2 11 (by decide +kernel) rfl rfl ?_
  refine step_waitS P K 2 12 (by decide +kernel) rfl rfl ?_
  refine step_mergeP P K 0 2 (by decide +kernel) ?_
  refine step_mergeP P K 0 1 (by decide +kernel) ?_
  refine step_mergeP P K 0 0 (by decide +kernel) ?_
  refine step_mergeF P K 0 0 1 (by decide +kernel) ?_
  refine step_mergeF P K 0 0 0 (by decide +kernel) ?_
  refine step_mergeF P K 0 1 0 (by decide +kernel) ?_
  refine step_mergeF P K 0 2 0 (by decide +kernel) ?_
  refine step_mergeP P K 1 2 (by decide +kernel) ?_
  refine step_mergeP P K 1 1 (by decide +kernel) ?_
  refine step_mergeP P K 1 0 (by decide +kernel) ?_
  refine step_mergeF P K 1 0 1 (by decide +kernel) ?_
  refine step_mergeF P K 1 0 0 (by decide +kernel) ?_
  refine step_mergeF P K 1 1 0 (by decide +kernel) ?_
  refine step_mergeF P K 1 2 0 (by decide +kernel) ?_
  refine step_mergeP P K 2 2 (by decide +kernel) ?_
  refine step_mergeP P K 2 1 (by decide +kernel) ?_
  refine step_mergeP P K 2 0 (by decide +kernel) ?_
  refine step_mergeF P K 2 0 1 (by decide +kernel) ?_
  refine step_mergeF P K 2 0 0 (by decide +kernel) ?_
  refine step_mergeF P K 2 1 0 (by decide +kernel) ?_
  refine step_mergeF P K 2 2 0 (by decide +kernel) ?_
  exact ret_frame H

end Cert.KernelIdeal.Halving
-- ==== Proof.Finish.lean ====
/-
# `Finish`: the end of the body, and the body as the launch calls it
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## Closing the semaphores -/

section Close
variable (P : Dev nD → Tab F) (K : Dev nD × Cid → ℕ) {c : Dev nD}

omit [FloatOps F] in
/-- An update of every member of a list, from something known throughout. -/
theorem bigSepL_upd {I : Type} {R : sProp 𝕄} [BI.Persistent R] {Φ Ψ : I → sProp 𝕄} (h : ∀ i, iprop(R ∗ Φ i) ⊢ |={Set.univ}=> Ψ i) (l : List I) :
    iprop(R ∗ bigSepL l Φ) ⊢ |={Set.univ}=> bigSepL l Ψ := by
  induction l with
  | nil =>
    rw [bigSepL_nil, bigSepL_nil]
    iintro ⟨-, H⟩
    imodintro
    iexact H
  | cons i l ih =>
    rw [bigSepL_cons', bigSepL_cons']
    iintro ⟨#HR, Hi, Hl⟩
    imod (h i) $$ [Hi] with Hi
    · isplitr; · iexact HR
      iexact Hi
    imod ih $$ [Hl] with Hl
    · isplitr; · iexact HR
      iexact Hl
    imodintro
    isplitl [Hi]; · iexact Hi
    iexact Hl

omit [FloatOps F] in
theorem bigSepL_pair {I : Type} (l : List I) (Φ Ψ : I → sProp 𝕄) : (bigSepL l fun i => iprop(Φ i ∗ Ψ i)) = iprop(bigSepL l Φ ∗ bigSepL l Ψ) := by
  induction l with
  | nil => rw [bigSepL_nil, bigSepL_nil, bigSepL_nil]; exact (emp_sep' _).symm
  | cons i l ih => rw [bigSepL_cons', bigSepL_cons', bigSepL_cons', ih, sep_assoc', sep_assoc', sep_swap (bigSepL l Φ)]

/-- A semaphore that was waited for is its device's again, at zero. -/
theorem close_cell (k : Cid) : iprop(Inv P K ∗ atPos ER (cellOf' c k) 1 ∅ 0) ⊢ |={Set.univ}=> semVal (cellOf' c k) 0 := by
  iintro ⟨#HI, Ha⟩
  ihave #Hm := (Inv_cell P K c k) $$ HI
  icases Hm with ⟨#HI1, -⟩
  iapply (Rounds.cell_close ER (Rd P) (Set.mem_univ (K (c, k))) (fun h => h) (R := 1) (duties_later P (cellOf' c k)))
  isplitr; · iexact HI1
  iexact Ha

/-- The message semaphores of a device. -/
def oid : List (Bool × Fin 3 × Fin 13) := (lm.map fun t => (false, t)) ++ lm.map fun t => (true, t)

theorem close_all : iprop(Inv P K ∗ bigSepL ((lm.map fun t => At.dS t.1 t.2) ++ lm.map fun t => At.dR t.1 t.2) (interp P c))
    ⊢ |={Set.univ}=> bigSepL oid fun x => semVal (cellOf' c (some x)) 0 := by
  have h : bigSepL ((lm.map fun t => At.dS t.1 t.2) ++ lm.map fun t => At.dR t.1 t.2) (interp P c)
      = bigSepL oid fun x => atPos ER (cellOf' c (some x)) 1 ∅ 0 := by
    unfold oid
    rw [bigSepL_append, bigSepL_append, bigSepL_map, bigSepL_map, bigSepL_map, bigSepL_map]
    rfl
  rw [h]
  exact bigSepL_upd (fun x => close_cell P K (some x)) oid

theorem S₁_eq : ((run instrs S₀).bind fun S => takeAll ((l8.map fun t => At.pO t.1 t.2 (.rem 0) 3 t.2)
      ++ ((ps.flatMap fun p => [0, 1, 2, 3, 4, 12].map fun mid => At.rsFull p mid)
      ++ ((ps.flatMap fun p => (List.finRange 3).map fun k => At.fwFull p k (.rem 0))
      ++ ((l8.map fun t => At.outFull t.1 t.2)
      ++ ((lm.map fun t => At.dS t.1 t.2) ++ lm.map fun t => At.dR t.1 t.2))))) S) = some [] := by decide +kernel

/-- After the last step: nothing is owed, the buffers are the device's again, the result is written, every semaphore
    is at zero. -/
theorem done_ok : iprop(Sk P K c 195 ∗ atPos ER (barC c) 1 ∅ 0)
    ⊢ |={Set.univ}=> iprop((∃ W, owes (c : Thread nD τ) 0 W) ∗ anyR (F := F) pM c 0 4096 ∗ (bigSepL ps fun p => anyR (F := F) (rsM p) c 0 (7 * u p))
      ∗ (bigSepL ps fun p => anyR (F := F) (fwM p) c 0 (3 * u p)) ∗ region oM c 0 4096 fullShare (fin P) ∗ semVal (barC c) 0
      ∗ bigSepL oid fun x => semVal (cellOf' c (some x)) 0) := by
  have h := S₁_eq
  have h195 := run_take 195
  rw [← instrs_length, List.take_length, instrs_length] at h195
  rw [h195, Option.bind_some] at h
  have ho : todo 195 = [] := by decide +kernel
  unfold Sk owed
  rw [bigSepL_takeAll _ h, bigSepL_append, bigSepL_append, bigSepL_append, bigSepL_append, seg_out_end, ho]
  iintro ⟨⟨#HI, ⟨%W, HO⟩, ⟨Hp, Hr, Hf, Ho, Hd⟩, -⟩, Hb⟩
  imod (close_all P K) $$ [Hd] with Hd
  · isplitr; · iexact HI
    iexact Hd
  imod (close_cell P K none) $$ [Hb] with Hb
  · isplitr; · iexact HI
    iexact Hb
  imodintro
  isplitl [HO]
  · iexists W
    iexact HO
  isplitl [Hp]; · iapply (seg_p_end P c); iexact Hp
  isplitl [Hr]; · iapply (seg_rs_end P c); iexact Hr
  isplitl [Hf]; · iapply (seg_fw_end P c); iexact Hf
  isplitl [Ho]; · iexact Ho
  isplitl [Hb]; · iexact Hb
  iexact Hd

end Close

/-! ## The launch's view of the body -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The three operands of a device, staged. -/
def xin (c : Dev nD) : (cc0_stg0_0 : Ref sig .tc).ty.Contents (Elt F) :=
  (win0_0.blk (0 : Fin 1)).view.read (Elt F) ((s₀ m ρ).mem ((c : Thread nD τ).loc main_arg0))
def kin (c : Dev nD) : (cc0_stg1_0 : Ref sig .tc).ty.Contents (Elt F) :=
  (win0_1.blk (0 : Fin 1)).view.read (Elt F) ((s₀ m ρ).mem ((c : Thread nD τ).loc main_arg1))
def win (c : Dev nD) : (cc0_stg2_0 : Ref sig .tc).ty.Contents (Elt F) :=
  (win0_2.blk (0 : Fin 1)).view.read (Elt F) ((s₀ m ρ).mem ((c : Thread nD τ).loc main_arg2))

/-- The partial products. -/
def Pm (c : Dev nD) : Tab F := tabOf (prod (xin m ρ c) (kin m ρ c) (win m ρ c))

/-- The result: the sum of the partial products, the same on every device. -/
def resOut : (cc0_stg3_0 : Ref sig .tc).ty.Contents (Elt F) := blk 4096 (fin (Pm m ρ))

/-- The protocol's invariant on every semaphore of it, without the levels. -/
def cells (P : Dev nD → Tab F) (K : Dev nD × Cid → ℕ) : sProp 𝕄 :=
  bigSep Finset.univ fun x : Dev nD × Cid => iprop(cellInv ER (Rd P) (K x) (cellOf' x.1 x.2) ∗ reached ER (cellOf' x.1 x.2) 0)

instance cells_persistent (P : Dev nD → Tab F) (K : Dev nD × Cid → ℕ) : BI.Persistent (cells P K) := by unfold cells; infer_instance

/-- The rights a device starts with: to wait on its own semaphores and to raise its partners'. -/
def rights (c : Dev nD) : sProp 𝕄 :=
  iprop(atPos ER (barC c) 0 ∅ 0 ∗ (bigSepL lm fun t => atPos ER (sndC c t.1 t.2) 0 ∅ 0) ∗ (bigSepL lm fun t => atPos ER (rcvC c t.1 t.2) 0 ∅ 0)
    ∗ (bigSepL [0, 1, 2] fun d => dutyTok ER (barC (pr c (bm d))) 0 d)
    ∗ bigSepL lm fun t => iprop(dutyTok ER (sndC c t.1 t.2) 0 0 ∗ dutyTok ER (rcvC (dev t.1 (pm t.2) c) t.1 t.2) 0 0))

def G' (c : Dev nD) : sProp 𝕄 := iprop(∃ K, cells (Pm m ρ) K ∗ rights (F := F) c)

/-- What a device's body starts from, besides its buffers. -/
def start' (c : Dev nD) : sProp 𝕄 :=
  iprop(G' m ρ c ∗ cred (tallyAt (barC c) () 3) ∗ (bigSepL lm fun t => cred (tallyAt (rcvC c t.1 t.2) () (amt (len t.1 t.2)))) ∗ levAts L lv)

/-- The kernel's own semaphores. -/
abbrev osem (x : Bool × Fin 3 × Fin 13) : SemLoc sig := csem (some x)

def Φ₀ (c : Dev nD) : sProp 𝕄 := iprop(start' m ρ c ∗ Pipeline.scopedRest cfg0.spec c)
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => kin m ρ c
    | ⟨2, _⟩ => win m ρ c
    | ⟨3, _⟩ => resOut m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A buffer, whole, at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

omit [FloatOps F] in
theorem ownSems_eq (c : Dev nD) : (Pipeline.ownSems0 (Ix := Unit) (Name := ℕ) (U := UU) (Lvl := ℕ) (Val := Elt F) (τ := τ) osem c : sProp 𝕄)
    = bigSepL oid fun x => semVal (cellOf' c (some x)) 0 :=
  Pipeline.ownSems0_eq_of_list c osem oid (by decide +kernel) (by decide +kernel)
omit [FloatOps F] in
theorem unscoped_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem any_p (c : Dev nD) : anyR (F := F) pM c 0 4096 = iprop(∃ f : Buf (Elt F) ((c : Thread nD τ).loc cc0_scratch0), ((c : Thread nD τ).loc cc0_scratch0) ↦{fullShare} f) := by
  rw [anyR_all]; simp only [Memref.view_whole, View.set_whole]
omit [FloatOps F] in
theorem any_o (c : Dev nD) : anyR (F := F) oM c 0 4096 = iprop(∃ f : Buf (Elt F) ((c : Thread nD τ).loc cc0_stg3_0), ((c : Thread nD τ).loc cc0_stg3_0) ↦{fullShare} f) := by
  rw [anyR_all]; simp only [Memref.view_whole, View.set_whole]
omit [FloatOps F] in
theorem any_1 (c : Dev nD) : anyR (F := F) (Memref.whole cc0_scratch1 : Memref sig .tc .vmem (mat 1176) .f32) c 0 1176
    = iprop(∃ f : Buf (Elt F) ((c : Thread nD τ).loc cc0_scratch1), ((c : Thread nD τ).loc cc0_scratch1) ↦{fullShare} f) := by
  rw [anyR_all]; simp only [Memref.view_whole, View.set_whole]
omit [FloatOps F] in
theorem any_2 (c : Dev nD) : anyR (F := F) (Memref.whole cc0_scratch2 : Memref sig .tc .vmem (mat 1176) .f32) c 0 1176
    = iprop(∃ f : Buf (Elt F) ((c : Thread nD τ).loc cc0_scratch2), ((c : Thread nD τ).loc cc0_scratch2) ↦{fullShare} f) := by
  rw [anyR_all]; simp only [Memref.view_whole, View.set_whole]
omit [FloatOps F] in
theorem any_3 (c : Dev nD) : anyR (F := F) (Memref.whole cc0_scratch3 : Memref sig .tc .vmem (mat 1232) .f32) c 0 1232
    = iprop(∃ f : Buf (Elt F) ((c : Thread nD τ).loc cc0_scratch3), ((c : Thread nD τ).loc cc0_scratch3) ↦{fullShare} f) := by
  rw [anyR_all]; simp only [Memref.view_whole, View.set_whole]
omit [FloatOps F] in
theorem any_4 (c : Dev nD) : anyR (F := F) (Memref.whole cc0_scratch4 : Memref sig .tc .vmem (mat 504) .f32) c 0 504
    = iprop(∃ f : Buf (Elt F) ((c : Thread nD τ).loc cc0_scratch4), ((c : Thread nD τ).loc cc0_scratch4) ↦{fullShare} f) := by
  rw [anyR_all]; simp only [Memref.view_whole, View.set_whole]
omit [FloatOps F] in
theorem any_5 (c : Dev nD) : anyR (F := F) (Memref.whole cc0_scratch5 : Memref sig .tc .vmem (mat 504) .f32) c 0 504
    = iprop(∃ f : Buf (Elt F) ((c : Thread nD τ).loc cc0_scratch5), ((c : Thread nD τ).loc cc0_scratch5) ↦{fullShare} f) := by
  rw [anyR_all]; simp only [Memref.view_whole, View.set_whole]
omit [FloatOps F] in
theorem any_6 (c : Dev nD) : anyR (F := F) (Memref.whole cc0_scratch6 : Memref sig .tc .vmem (mat 528) .f32) c 0 528
    = iprop(∃ f : Buf (Elt F) ((c : Thread nD τ).loc cc0_scratch6), ((c : Thread nD τ).loc cc0_scratch6) ↦{fullShare} f) := by
  rw [anyR_all]; simp only [Memref.view_whole, View.set_whole]

omit [FloatOps F] in
/-- The kernel's scratch buffers, as the steps see them. -/
theorem scratch_eq (c : Dev nD) : (Pipeline.scopedRest cfg0.spec c : sProp 𝕄)
    = iprop(anyR (F := F) pM c 0 4096 ∗ (bigSepL ps fun p => anyR (F := F) (rsM p) c 0 (7 * u p)) ∗ (bigSepL ps fun p => anyR (F := F) (fwM p) c 0 (3 * u p))) := by
  have h1 : (bigSepL ps fun p => anyR (F := F) (rsM p) c 0 (7 * u p))
      = iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)) := by
    unfold ps
    rw [three]
    rw [show anyR (F := F) (rsM 0) c 0 (7 * u 0) = _ from any_1 c, show anyR (F := F) (rsM 1) c 0 (7 * u 1) = _ from any_2 c, show anyR (F := F) (rsM 2) c 0 (7 * u 2) = _ from any_3 c]
  have h2 : (bigSepL ps fun p => anyR (F := F) (fwM p) c 0 (3 * u p))
      = iprop((∃ f : Buf (Elt F) ((c : Thread nD τ).loc cc0_scratch4), ((c : Thread nD τ).loc cc0_scratch4) ↦{fullShare} f)
        ∗ (∃ f : Buf (Elt F) ((c : Thread nD τ).loc cc0_scratch5), ((c : Thread nD τ).loc cc0_scratch5) ↦{fullShare} f)
        ∗ (∃ f : Buf (Elt F) ((c : Thread nD τ).loc cc0_scratch6), ((c : Thread nD τ).loc cc0_scratch6) ↦{fullShare} f)) := by
    unfold ps
    rw [three]
    rw [show anyR (F := F) (fwM 0) c 0 (3 * u 0) = _ from any_4 c, show anyR (F := F) (fwM 1) c 0 (3 * u 1) = _ from any_5 c, show anyR (F := F) (fwM 2) c 0 (3 * u 2) = _ from any_6 c]
  rw [h1, h2, any_p, sep_assoc', sep_assoc']
  exact scopedRest0_eq c

/-- What the body is given at its one point of the grid, -/
def bodyPre (c : Dev nD) : sProp 𝕄 :=
  iprop(Φ₀ m ρ c ∗ (dats m ρ 0 c).owesAt () t₀.castSucc
    ∗ (∃ d, held c cc0_stg0_0 ((dats m ρ 0 c).before (0 : Fin 4) t₀ d))
    ∗ (∃ d, held c cc0_stg1_0 ((dats m ρ 0 c).before (1 : Fin 4) t₀ d))
    ∗ (∃ d, held c cc0_stg2_0 ((dats m ρ 0 c).before (2 : Fin 4) t₀ d))
    ∗ (∃ d, held c cc0_stg3_0 ((dats m ρ 0 c).before (3 : Fin 4) t₀ d)))

/-- and what it leaves. -/
def bodyPost (c : Dev nD) : sProp 𝕄 :=
  iprop(Φ₁ (F := F) c ∗ (dats m ρ 0 c).owesAt () t₀.succ ∗ held c cc0_stg0_0 (xin m ρ c) ∗ held c cc0_stg1_0 (kin m ρ c) ∗ held c cc0_stg2_0 (win m ρ c)
    ∗ held c cc0_stg3_0 (resOut m ρ))

theorem before_x (c : Dev nD) (d) : (dats m ρ 0 c).before (0 : Fin 4) t₀ d = xin m ρ c := by
  unfold Dat.before; rw [if_pos (fetch0_0 t₀)]; rfl
theorem before_k (c : Dev nD) (d) : (dats m ρ 0 c).before (1 : Fin 4) t₀ d = kin m ρ c := by
  unfold Dat.before; rw [if_pos (fetch0_1 t₀)]; rfl
theorem before_w (c : Dev nD) (d) : (dats m ρ 0 c).before (2 : Fin 4) t₀ d = win m ρ c := by
  unfold Dat.before; rw [if_pos (fetch0_2 t₀)]; rfl

theorem sound_body (c : Dev nD) : bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) fun _ => bodyPost m ρ c := by
  unfold bodyPre Φ₀ start' G' rights
  rw [scratch_eq]
  unfold Dat.owesAt Pipeline.owesWithin
  iintro ⟨⟨⟨⟨%K, #HC, Hb, Hs, Hr, Ht, Htok⟩, Hcb, Hcr, #Hlev⟩, Hp, Hrs, Hfw⟩, ⟨%W, -, HO⟩, ⟨%d0, %f0, %h0, Hx⟩, ⟨%d1, %f1, %h1, Hk⟩, ⟨%d2, %f2, %h2, Hw⟩, ⟨%d3, %f3, -, Hout⟩⟩
  rw [before_x] at h0
  rw [before_k] at h1
  rw [before_w] at h2
  subst h0 h1 h2
  have hrs : (bigSepL ps fun p => anyR (F := F) (rsM p) c 0 (7 * u p)) ⊢ bigSepL [0, 1, 2] fun d => barPay (F := F) (pr c (bm d)) d :=
    Entails.of_eq (seg_rs c)
  have hfw : (bigSepL ps fun p => anyR (F := F) (fwM p) c 0 (3 * u p)) ⊢ bigSepL (ps.flatMap fun p => (List.finRange 3).map fun k => At.fwAny p k) (interp (Pm m ρ) c) :=
    Entails.of_eq (seg_fw (Pm m ρ) c)
  have hout : iprop(∃ f : Buf (Elt F) ((c : Thread nD τ).loc cc0_stg3_0), ((c : Thread nD τ).loc cc0_stg3_0) ↦{fullShare} f)
      ⊢ bigSepL (l8.map fun t => At.outAny t.1 t.2) (interp (Pm m ρ) c) := Entails.of_eq ((any_o c).symm.trans (seg_out (Pm m ρ) c))
  have hS : (bigSepL lm fun t => atPos ER (sndC c t.1 t.2) 0 ∅ 0) ⊢ bigSepL (lm.map fun t => At.aS t.1 t.2) (interp (Pm m ρ) c) :=
    Entails.of_eq (bigSepL_map _ _ _).symm
  have hT : (bigSepL lm fun t => iprop(dutyTok ER (sndC c t.1 t.2) 0 0 ∗ dutyTok ER (rcvC (dev t.1 (pm t.2) c) t.1 t.2) 0 0))
      ⊢ bigSepL (lm.map fun t => At.tok t.1 t.2) (interp (Pm m ρ) c) :=
    Entails.of_eq (bigSepL_map (fun t : Fin 3 × Fin 13 => At.tok t.1 t.2) lm (interp (Pm m ρ) c)).symm
  have hR : iprop((bigSepL lm fun t => atPos ER (rcvC c t.1 t.2) 0 ∅ 0) ∗ bigSepL lm fun t => cred (tallyAt (rcvC c t.1 t.2) () (amt (len t.1 t.2))))
      ⊢ bigSepL (lm.map fun t => At.aR t.1 t.2) (interp (Pm m ρ) c) :=
    Entails.of_eq ((bigSepL_pair lm _ _).symm.trans (bigSepL_map (fun t : Fin 3 × Fin 13 => At.aR t.1 t.2) lm (interp (Pm m ρ) c)).symm)
  ihave Hrs := hrs $$ Hrs
  iapply (body_ok (Pm m ρ) K (fx := xin m ρ c) (fk := kin m ρ c) (fw := win m ρ c) (c := c) (Q := fun _ => bodyPost m ρ c) (blk_tabOf _).symm (by
    refine BIBase.Entails.trans (Q := iprop((Sk (Pm m ρ) K c 195 ∗ atPos ER (barC c) 1 ∅ 0) ∗ ins c (xin m ρ c) (kin m ρ c) (win m ρ c))) ?_ ?_
    · iintro ⟨H1, H2, H3⟩
      isplitl [H1 H3]
      · isplitl [H1]; · iexact H1
        iexact H3
      iexact H2
    · have ho : region oM c 0 4096 fullShare (fin (Pm m ρ)) ⊢ held c cc0_stg3_0 (resOut m ρ) :=
        Entails.of_eq ((region_all _ _ _ _).trans (owns_held c cc0_stg3_0 (resOut m ρ)))
      unfold bodyPost Φ₁ ins Dat.owesAt Pipeline.owesWithin
      rw [scratch_eq, ownSems_eq, unscoped_eq, show (dats m ρ 0 c).owed t₀.succ = 0 from rfl]
      iintro ⟨H, Hx, Hk, Hw⟩
      imod (done_ok (Pm m ρ) K) $$ H with ⟨⟨%W', HO⟩, Hp, Hrs, Hfw, Ho, Hb, Hs⟩
      imodintro
      isplitl [Hb Hs Hp Hrs Hfw]
      · isplitl [Hb]; · iexact Hb
        isplitl [Hs]; · iexact Hs
        isplitl [Hp]; · iexact Hp
        isplitl [Hrs]; · iexact Hrs
        iexact Hfw
      isplitl [HO]
      · iexists W'
        isplitr; · ipureintro; exact fun _ _ => Or.inl trivial
        iexact HO
      isplitl [Hx]
      · iexists _; isplitr; · (ipureintro; rfl)
        iexact Hx
      isplitl [Hk]
      · iexists _; isplitr; · (ipureintro; rfl)
        iexact Hk
      isplitl [Hw]
      · iexists _; isplitr; · (ipureintro; rfl)
        iexact Hw
      iapply ho
      iexact Ho))
  isplitr
  · unfold Inv
    isplitr; · iexact Hlev
    unfold cells
    iexact HC
  isplitl [HO]
  · iexists W
    iexact HO
  isplitl [Ht]; · iexact Ht
  isplitl [Hrs]; · iexact Hrs
  isplitl [Hx Hk Hw]
  · unfold ins
    isplitl [Hx]; · iexact Hx
    isplitl [Hk]; · iexact Hk
    iexact Hw
  isplitl [Hp]; · iexact Hp
  isplitl [Hcb]; · iexact Hcb
  isplitl [Hb]; · iexact Hb
  unfold restL
  rw [bigSepL_append, bigSepL_append, bigSepL_append, bigSepL_append]
  isplitl [Hfw]; · iapply hfw; iexact Hfw
  isplitl [Hout]
  · iapply hout
    iexists _
    iexact Hout
  isplitl [Htok]; · iapply hT; iexact Htok
  isplitl [Hs]; · iapply hS; iexact Hs
  iapply hR
  isplitl [Hr]; · iexact Hr
  iexact Hcr

set_option maxRecDepth 16000 in
/-- The body, as the launch calls it on device `c`. -/
theorem body_obligation (c : Dev nD) : BodyObligation (dats (F := F) m ρ 0 c) (defs₀ (F := F)) 𝒱₀ () Set.univ := fun t => by
  rw [fin_N t]
  rw [bigSep_W, bigSep_W]
  simp only [owns_held]
  show bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) fun _ => bodyPost m ρ c
  exact sound_body m ρ c

end Cert.KernelIdeal.Halving
-- ==== Proof.Launch.lean ====
/-
# `Launch`: the launch
-/
module

public import proofs.«01_k».proof.Proof.Finish
public import Idealize.ShloMosaic.Lib.Pipeline.CollectiveSegs
public import Idealize.ShloMosaic.Lib.Quiescent

@[expose] public section

set_option maxRecDepth 65536

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The protocol's ghost state, as made at the launch -/

/-- The semaphores of the protocol. -/
abbrev kcell (x : Dev nD × Cid) : GSem nD τ sig := cellOf' x.1 x.2

theorem kcell_injective : Function.Injective (kcell : Dev nD × Cid → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The raises of a device's semaphores: the three of its barrier, and one of every message semaphore. -/
abbrev Tk : Type := Fin 3 ⊕ (Bool × Fin 3 × Fin 13)

abbrev tokOf (x : Dev nD × Tk) : GSem nD τ sig × ℕ × Fin 3 :=
  match x.2 with
  | .inl d => (barC x.1, 0, d)
  | .inr k => (cellOf' x.1 (some k), 0, 0)

theorem tokOf_injective : Function.Injective (tokOf : Dev nD × Tk → GSem nD τ sig × ℕ × Fin 3) := by
  rintro ⟨c, j⟩ ⟨c', j'⟩ h
  have h1 : c = c' := by
    have := congrArg (fun x : GSem nD τ sig × ℕ × Fin 3 => x.1.1.1) h
    rcases j with d | k <;> rcases j' with d' | k' <;> exact this
  have h2 := congrArg (fun x : GSem nD τ sig × ℕ × Fin 3 => (dec x.1.2, x.2.2)) h
  subst h1
  rcases j with d | k <;> rcases j' with d' | k' <;> simp only [tokOf, dec_csem, Prod.mk.injEq] at h2
  · rw [h2.2]
  · exact absurd h2.1 (fun h => by cases h)
  · exact absurd h2.1 (fun h => by cases h)
  · have : k = k' := by have := h2.1; simpa using this
    rw [this]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The right of each raise of a device's semaphores. -/
def toks (c : Dev nD) : sProp 𝕄 := bigSep Finset.univ fun j : Tk => dutyTok ER (tokOf (c, j)).1 (tokOf (c, j)).2.1 (tokOf (c, j)).2.2

/-- What the launch deals a device. -/
def G (c : Dev nD) : sProp 𝕄 :=
  iprop((bigSep Finset.univ fun k : Cid => roundState ER (Rd (Pm m ρ)) (kcell (c, k)) 0)
    ∗ (bigSep Finset.univ fun k : Cid => iprop(atPos ER (kcell (c, k)) 0 ∅ 0 ∗ reached ER (kcell (c, k)) 0)) ∗ toks (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cid => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (Rd (Pm m ρ)) allCells allToks) $$ HX with ⟨Hst, Hr, Hat, Htok⟩
  imodintro
  ihave Hst' := (Entails.of_eq (hX fun g => roundState ER (Rd (Pm m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Over a device's semaphores: the barrier's, and the messages'. -/
theorem over_cells (Φ : Cid → sProp 𝕄) : bigSep Finset.univ Φ = iprop(Φ none ∗ (bigSepL lm fun t => Φ (some (false, t.1, t.2))) ∗ bigSepL lm fun t => Φ (some (true, t.1, t.2))) := by
  rw [bigSep_univ_eq_bigSepL (none :: oid.map some) (by decide +kernel) (by decide +kernel)]
  rw [bigSepL_cons']
  unfold oid
  rw [bigSepL_map, bigSepL_append, bigSepL_map, bigSepL_map]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cid => semVal (kcell (c, k)) 0 : sProp 𝕄) := by
  rw [ownSems_eq, unscoped_eq, over_cells]
  unfold oid
  rw [bigSepL_append, bigSepL_map, bigSepL_map]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (Pm m ρ)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Cid => semVal (kcell (c, k)) 0) ∗ bigSep Finset.univ fun k : Cid => roundState ER (Rd (Pm m ρ)) (kcell (c, k)) 0)
      ⊢ (|={Set.univ}=> bigSep Finset.univ fun k => iprop(∃ κ : ℕ, cellInv ER (Rd (Pm m ρ)) κ (kcell (c, k))) : sProp 𝕄) from by
        rw [← bigSep_sep']
        exact (bigSep_mono fun k _ => (Rounds.body_intro ER (Rd (Pm m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights to raise go to the devices that raise -/

def viaBar (d : Fin 3) : Dev nD ≃ Dev nD := ⟨fun c => pr c (bm d), fun c => pr c (bm d), fun c => pr_pr c _, fun c => pr_pr c _⟩
def viaMsg (p : Fin 3) (mid : Fin 13) : Dev nD ≃ Dev nD := ⟨dev p (pm mid), dev p (pm mid), fun c => dev_self p _ c, fun c => dev_self p _ c⟩

omit [FloatOps F] in
/-- A list over the devices, item by item. -/
theorem over_devs {I : Type} (l : List I) (Φ : Dev nD → I → sProp 𝕄) :
    (bigSep Finset.univ fun c : Dev nD => bigSepL l (Φ c)) = bigSepL l fun i => bigSep Finset.univ fun c : Dev nD => Φ c i := by
  induction l with
  | nil => simp only [bigSepL_nil]; exact BI.bigSep_emp_const _
  | cons i l ih =>
    rw [bigSepL_cons', ← ih, ← bigSep_sep']
    exact bigSep_congr fun c _ => bigSepL_cons' _ _ _

omit [FloatOps F] in
theorem toks_eq (c : Dev nD) : toks (F := F) c = iprop((bigSepL [0, 1, 2] fun d => dutyTok ER (barC c) 0 d)
    ∗ (bigSepL lm fun t => dutyTok ER (sndC c t.1 t.2) 0 0) ∗ bigSepL lm fun t => dutyTok ER (rcvC c t.1 t.2) 0 0) := by
  unfold toks
  rw [bigSep_univ_eq_bigSepL (([0, 1, 2].map Sum.inl ++ oid.map Sum.inr : List Tk)) (by decide +kernel) (by decide +kernel)]
  unfold oid
  rw [bigSepL_append, bigSepL_map, bigSepL_map, bigSepL_append, bigSepL_map, bigSepL_map]

/-- The rights to raise that a device uses. -/
def payToks (c : Dev nD) : sProp 𝕄 :=
  iprop((bigSepL [0, 1, 2] fun d => dutyTok ER (barC (pr c (bm d))) 0 d)
    ∗ bigSepL lm fun t => iprop(dutyTok ER (sndC c t.1 t.2) 0 0 ∗ dutyTok ER (rcvC (dev t.1 (pm t.2) c) t.1 t.2) 0 0))

omit [FloatOps F] in
theorem toks_around : (bigSep Finset.univ fun c : Dev nD => toks (F := F) c) ⊢ bigSep Finset.univ fun c : Dev nD => payToks (F := F) c := by
  have h1 : (bigSep Finset.univ fun c : Dev nD => (bigSepL [0, 1, 2] fun d => dutyTok ER (barC c) 0 d : sProp 𝕄))
      = bigSep Finset.univ fun c : Dev nD => (bigSepL [0, 1, 2] fun d => dutyTok ER (barC (pr c (bm d))) 0 d : sProp 𝕄) := by
    rw [over_devs, over_devs]
    exact bigSepL_congr_mem fun d _ => bigSep_univ_equiv (viaBar d) fun c : Dev nD => (dutyTok ER (barC c) 0 d : sProp 𝕄)
  have h2 : (bigSep Finset.univ fun c : Dev nD => (bigSepL lm fun t => dutyTok ER (rcvC c t.1 t.2) 0 0 : sProp 𝕄))
      = bigSep Finset.univ fun c : Dev nD => (bigSepL lm fun t => dutyTok ER (rcvC (dev t.1 (pm t.2) c) t.1 t.2) 0 0 : sProp 𝕄) := by
    rw [over_devs, over_devs]
    exact bigSepL_congr_mem fun t _ => bigSep_univ_equiv (viaMsg t.1 t.2) fun c : Dev nD => (dutyTok ER (rcvC c t.1 t.2) 0 0 : sProp 𝕄)
  simp only [toks_eq, payToks, bigSepL_pair]
  rw [bigSep_sep', bigSep_sep', bigSep_sep', bigSep_sep', h1, h2]

/-- A device's positions. -/
def poss (c : Dev nD) : sProp 𝕄 :=
  iprop(atPos ER (barC c) 0 ∅ 0 ∗ (bigSepL lm fun t => atPos ER (sndC c t.1 t.2) 0 ∅ 0) ∗ bigSepL lm fun t => atPos ER (rcvC c t.1 t.2) 0 ∅ 0)

theorem ghost_intro (K : Dev nD × Cid → ℕ) (c : Dev nD) : iprop(cells (Pm m ρ) K ∗ (poss (F := F) c ∗ payToks (F := F) c)) ⊢ G' m ρ c := by
  unfold G' rights poss payToks
  iintro ⟨HI, ⟨Hb, Hs, Hr⟩, Ht, Htok⟩
  iexists K
  isplitl [HI]; · iexact HI
  isplitl [Hb]; · iexact Hb
  isplitl [Hs]; · iexact Hs
  isplitl [Hr]; · iexact Hr
  isplitl [Ht]; · iexact Ht
  iexact Htok

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (Pm m ρ)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Cid => iprop(∃ κ : ℕ, cellInv ER (Rd (Pm m ρ)) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄))]
  iintro ⟨HI, ⟨Hat, #HR⟩, Htok⟩
  ihave HK := (BI.bigSep_exists_pi Finset.univ (fun (ck : Dev nD × Cid) (κ : ℕ) => (cellInv ER (Rd (Pm m ρ)) κ (kcell ck) : sProp 𝕄))) $$ HI
  icases HK with ⟨%K, #HI⟩
  ihave Htk := (toks_around (F := F)) $$ Htok
  have hc : iprop((bigSep Finset.univ fun ck : Dev nD × Cid => (cellInv ER (Rd (Pm m ρ)) (K ck) (kcell ck) : sProp 𝕄))
      ∗ bigSep Finset.univ fun ck : Dev nD × Cid => (reached ER (kcell ck) 0 : sProp 𝕄)) ⊢ cells (Pm m ρ) K :=
    Entails.of_eq (bigSep_sep' _ _ _).symm
  have hp : iprop((bigSep Finset.univ fun c : Dev nD => bigSep Finset.univ fun k : Cid => (atPos ER (kcell (c, k)) 0 ∅ 0 : sProp 𝕄))
      ∗ bigSep Finset.univ fun c : Dev nD => payToks (F := F) c) ⊢ bigSep Finset.univ fun c : Dev nD => iprop(poss (F := F) c ∗ payToks (F := F) c) := by
    rw [bigSep_sep']
    refine sep_mono_left (bigSep_mono fun c _ => show _ ⊢ poss (F := F) c from Entails.of_eq ?_)
    rw [over_cells]; rfl
  iapply (with_persistent (R := cells (Pm m ρ) K) fun c _ => ghost_intro m ρ K c)
  isplitr
  · iapply hc
    isplitl; · iexact HI
    iexact HR
  · iapply hp
    isplitl [Hat]; · iexact Hat
    iexact Htk

/-- All devices' semaphores come under the protocol at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at the launch, and the rights to wait for it -/

omit [FloatOps F] in
theorem creds_list (c : Dev nD) (l : List (Fin 3 × Fin 13)) :
    (Pipeline.launchCred (fun d => Osum d l) c : sProp 𝕄) ⊢ bigSepL l fun t => cred (tallyAt (rcvC c t.1 t.2) () (amt (len t.1 t.2))) := by
  induction l with
  | nil =>
    rw [bigSepL_nil]
    exact Entails.of_eq (Pipeline.launchCred_zero c)
  | cons t l ih =>
    rw [bigSepL_cons', show (fun d => Osum d (t :: l)) = fun d => Osum d l + due d t from rfl, Pipeline.launchCred_add]
    iintro ⟨Hl, Ht⟩
    isplitl [Ht]
    · iapply (Pipeline.launchCred_tallyAt (csem (some (true, t.1, t.2))) (dev t.1 (pm t.2)) (dev t.1 (pm t.2)) (fun c => dev_self _ _ c) (fun c => dev_self _ _ c)
        () (amt (len t.1 t.2)) c)
      iexact Ht
    · iapply ih; iexact Hl

theorem todo_perm : (todo 0).Perm lm := by decide +kernel

omit [FloatOps F] in
theorem creds (c : Dev nD) : (Pipeline.launchCred O₀ c : sProp 𝕄)
    ⊢ iprop(cred (tallyAt (barC c) () 3) ∗ bigSepL lm fun t => cred (tallyAt (rcvC c t.1 t.2) () (amt (len t.1 t.2)))) := by
  have hb (d : Fin 3) : (Pipeline.launchCred (fun e => barDue e d) c : sProp 𝕄) ⊢ cred (tallyAt (barC c) () 1) :=
    Pipeline.launchCred_tallyAt (csem none) (fun e => pr e (bm d)) (fun e => pr e (bm d)) (fun e => pr_pr e _) (fun e => pr_pr e _) () 1 c
  have h3 : iprop(cred (tallyAt (barC c) () 1) ∗ cred (tallyAt (barC c) () 1) ∗ cred (tallyAt (barC c) () 1)) ⊢ (cred (tallyAt (barC c) () 3) : sProp 𝕄) := by
    rw [show (tallyAt (barC c) () 3 : CellTallies nD τ sig Unit) = tallyAt (barC c) () 1 + (tallyAt (barC c) () 1 + tallyAt (barC c) () 1) from by
      rw [tallyAt_add, tallyAt_add]]
    exact (sep_mono_right (cred_add _ _).2).trans (cred_add _ _).2
  rw [← bigSepL_perm todo_perm, show (O₀ : Dev nD → CellTallies nD τ sig Unit) = fun d => ((fun d => (fun d => Osum d (todo 0) + barDue d 2) d + barDue d 1) d) + barDue d 0 from rfl,
    Pipeline.launchCred_add, Pipeline.launchCred_add, Pipeline.launchCred_add]
  iintro ⟨⟨⟨Hl, H2⟩, H1⟩, H0⟩
  isplitl [H0 H1 H2]
  · iapply h3
    isplitl [H0]; · iapply (hb 0); iexact H0
    isplitl [H1]; · iapply (hb 1); iexact H1
    iapply (hb 2); iexact H2
  · iapply (creds_list c (todo 0)); iexact Hl

theorem O₀_pos {c : Dev nD} {g : GSem nD τ sig} {x : Unit} (h : 0 < O₀ c g x) :
    (∃ t : Fin 3 × Fin 13, g = rcvC (dev t.1 (pm t.2) c) t.1 t.2) ∨ ∃ d : Fin 3, g = barC (pr c (bm d)) := by
  unfold O₀ barDue at h
  rw [Pi.add_apply, Finsupp.add_apply, Pi.add_apply, Finsupp.add_apply, Pi.add_apply, Finsupp.add_apply, tallyAt_apply, tallyAt_apply, tallyAt_apply] at h
  by_cases h0 : 0 < Osum c (todo 0) g x
  · obtain ⟨t, _, ht⟩ := Osum_pos h0; exact Or.inl ⟨t, ht⟩
  by_contra hn
  rw [not_or, not_exists, not_exists] at hn
  rw [if_neg (fun h' => hn.2 2 h'.1), if_neg (fun h' => hn.2 1 h'.1), if_neg (fun h' => hn.2 0 h'.1)] at h
  omega

theorem lvl_pos : ∀ mid : Fin 13, 0 < lvl mid := by decide

omit [FloatOps F] in
/-- The staging waits are below all that is owed. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; dsimp only [lv]; rw [hq])
      (fun g u hg => by
        rcases O₀_pos hg with ⟨t, rfl⟩ | ⟨d, rfl⟩
        · rw [lv_rcv]; exact lvl_pos _
        · rw [lv_bar]; exact Nat.one_pos)
  · rw [MayWait_zero]; iintro -; iempintro

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start' m ρ c ∗ emp) := by
  iintro ⟨-, Hlev, Hcr, -, HG⟩
  ihave Hc := (creds (F := F) c) $$ Hcr
  icases Hc with ⟨H1, HN⟩
  imodintro
  unfold start'
  isplitl
  · isplitl [HG]; · iexact HG
    isplitl [H1]; · iexact H1
    isplitl [HN]; · iexact HN
    iexact Hlev
  · iempintro

theorem phi0_intro (c : Dev nD) :
    iprop(start' m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  iintro H
  iexact H

theorem stage_dec : ∀ (w : Fin 4) (s : Fin (cfg0.win w).nbuf), dec (.dma ((cfg0.win w).sem s)) = none := by decide +kernel

theorem waits_stage (c : Dev nD) : (levAts L lv : sProp 𝕄) ⊢ Pipeline.cellsWaits cfgs (dats m ρ) () 0 c :=
  Pipeline.cellsWaits_intro cfgs (dats m ρ) () 0 c fun w s t =>
    mayWait_stage c _ (stage_dec w s) _ (by
      rcases t with ⟨_ | _, ht⟩
      · exact Or.inl rfl
      · exact Or.inr rfl)

/-! ## The run -/

/-- A device's arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On eight devices, from any memory with every semaphore at zero, for any float values: the program runs to its end,
    each device's arrays are then `finalA`, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_stage m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start' m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 40000 in
/-- The operands after the run hold what they held. -/
theorem finalA_x (c : Dev nD) : finalA m ρ c (0 : Fin 4) = (s₀ m ρ).mem (win0_0.arr.view.loc (c : Thread nD τ)) :=
  (dats (F := F) m ρ 0 c).arrAt_in (0 : Fin 4) rfl _
theorem finalA_k (c : Dev nD) : finalA m ρ c (1 : Fin 4) = (s₀ m ρ).mem (win0_1.arr.view.loc (c : Thread nD τ)) :=
  (dats (F := F) m ρ 0 c).arrAt_in (1 : Fin 4) rfl _
theorem finalA_w (c : Dev nD) : finalA m ρ c (2 : Fin 4) = (s₀ m ρ).mem (win0_2.arr.view.loc (c : Thread nD τ)) :=
  (dats (F := F) m ρ 0 c).arrAt_in (2 : Fin 4) rfl _

end Cert.KernelIdeal.Halving
-- ==== Proof.Frames.lean ====
/-
Every program's run ends with its arguments unchanged and every semaphore at zero. The kernel's run is proved once, for any
float values (`Proof/Launch.lean`), and read here at the two; the reference is a list of operations that wait on nothing.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

namespace Cert.Proof

open Idealize.ShloMosaic Idealize.SL.Sem

set_option maxRecDepth 40000 in
/-- The kernel at any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
    ⟨(h.1 c (0 : Fin 4)).trans (Cert.KernelIdeal.Halving.finalA_x m ρ c),
     (h.1 c (1 : Fin 4)).trans (Cert.KernelIdeal.Halving.finalA_k m ρ c),
     (h.1 c (2 : Fin 4)).trans (Cert.KernelIdeal.Halving.finalA_w m ρ c)⟩, h.2⟩)
    (Cert.KernelIdeal.Halving.run_main m ρ)

/-! The kernel printed for the machine's floats has the same text, so it is the same program. -/

variable {F : FTy → Type} [FloatOps F]

set_option maxRecDepth 40000 in
theorem body_same : Cert.Kernel.cc0_body (F := F) = Cert.KernelIdeal.cc0_body := rfl

set_option maxRecDepth 40000 in
theorem bodies_same : Cert.Kernel.defs₀ (F := F) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_same : Cert.Kernel.defs (F := F) = Cert.KernelIdeal.defs := by
  unfold Cert.Kernel.defs Cert.KernelIdeal.defs
  rw [bodies_same]
  rfl

set_option maxRecDepth 40000 in
/-- The kernel at the machine's floats. -/
theorem frame_kernel : Cert.quiescent_Kernel := by
  intro m ρ _
  rw [defs_same]
  exact frame_any (F := Bits) m ρ

/-- The kernel over the extended reals. -/
theorem frame_ideal : Cert.quiescent_KernelIdeal := fun m ρ _ => frame_any (F := Ideal) m ρ

/-- The reference: its program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Model.lean ====
/-
The mathematics of the two programs over the extended reals, element by element: a causal convolution of four taps along the
rows, x / (1 + exp(-x)) of it, and a matrix product. Here its functions, for any number `n` of channels, and how the channels
are cut in eight.
-/
module

public import Idealize.ShloMosaic.Lib.Pointwise
public import Idealize.ShloMosaic.Lib.Layout

@[expose] public section

noncomputable section

namespace Cert.Model

open Idealize.ShloMosaic

variable {n : ℕ}

/-- The input `s` steps before the time of row `r` (1024 rows to a sequence), zero before the sequence begins. -/
def back (X : (⟨3, ![4, 1024, n]⟩ : Shape).Idx → EReal) (r : Fin 4096) (s : ℕ) (q : Fin n) : EReal :=
  if r.val % 1024 < s then 0 else X (ix3 ⟨r.val / 1024, by omega⟩ ⟨r.val % 1024 - s, by omega⟩ q)

/-- The convolution at row `r` and channel `q`. -/
def conv (X : (⟨3, ![4, 1024, n]⟩ : Shape).Idx → EReal) (K : (⟨2, ![4, n]⟩ : Shape).Idx → EReal) (r : Fin 4096) (q : Fin n) : EReal :=
  back X r 3 q * K (ix2 0 q) + back X r 2 q * K (ix2 1 q) + back X r 1 q * K (ix2 2 q) + back X r 0 q * K (ix2 3 q)

theorem back_none (X : (⟨3, ![4, 1024, n]⟩ : Shape).Idx → EReal) (r : Fin 4096) (q : Fin n) :
    back X r 0 q = X (ix3 ⟨r.val / 1024, by omega⟩ ⟨r.val % 1024, by omega⟩ q) := if_neg (Nat.not_lt_zero _)

/-- The taps may be added starting with the row's own. -/
theorem conv_own (X : (⟨3, ![4, 1024, n]⟩ : Shape).Idx → EReal) (K : (⟨2, ![4, n]⟩ : Shape).Idx → EReal) (r : Fin 4096) (q : Fin n) :
    conv X K r q = X (ix3 ⟨r.val / 1024, by omega⟩ ⟨r.val % 1024, by omega⟩ q) * K (ix2 3 q) + back X r 3 q * K (ix2 0 q)
      + back X r 2 q * K (ix2 1 q) + back X r 1 q * K (ix2 2 q) := by
  unfold conv
  rw [back_none]
  ac_rfl

/-- The gate. -/
def gate (y : EReal) : EReal := Ideal.div y (1 + Ideal.exp (-y))

/-- What channel `q` adds to the result at row `r` and column `j`. -/
def term (X : (⟨3, ![4, 1024, n]⟩ : Shape).Idx → EReal) (K : (⟨2, ![4, n]⟩ : Shape).Idx → EReal) (W : (⟨2, ![n, 512]⟩ : Shape).Idx → EReal)
    (r : Fin 4096) (j : Fin 512) (q : Fin n) : EReal := gate (conv X K r q) * W (ix2 q j)

section Cut

variable (X : (⟨3, ![4, 1024, 4096]⟩ : Shape).Idx → EReal) (K : (⟨2, ![4, 4096]⟩ : Shape).Idx → EReal)
  (W : (⟨2, ![4096, 512]⟩ : Shape).Idx → EReal) (d : Fin 8)

/-- Channel `q` of the `d`-th part. -/
def chan (q : Fin 512) : Fin 4096 := ⟨d.val * 512 + q.val, by omega⟩

theorem x_cut (b : Fin 4) (t : Fin 1024) (q : Fin 512) :
    Layout.block ⟨3, ![4, 1024, 512]⟩ ⟨3, ![4, 1024, 4096]⟩ 2 8 d X (by decide) (ix3 b t q) = X (ix3 b t (chan d q)) := by
  rw [Layout.block_apply]
  refine congrArg X ?_
  funext a
  apply Fin.ext
  rw [Layout.Tiles.idx_val]
  fin_cases a <;> rfl

theorem k_cut (b : Fin 4) (q : Fin 512) :
    Layout.block ⟨2, ![4, 512]⟩ ⟨2, ![4, 4096]⟩ 1 8 d K (by decide) (ix2 b q) = K (ix2 b (chan d q)) := by
  rw [Layout.block_apply]
  refine congrArg K ?_
  funext a
  apply Fin.ext
  rw [Layout.Tiles.idx_val]
  fin_cases a <;> rfl

theorem w_cut (q j : Fin 512) :
    Layout.block ⟨2, ![512, 512]⟩ ⟨2, ![4096, 512]⟩ 0 8 d W (by decide) (ix2 q j) = W (ix2 (chan d q) j) := by
  rw [Layout.block_apply]
  refine congrArg W ?_
  funext a
  apply Fin.ext
  rw [Layout.Tiles.idx_val]
  fin_cases a <;> rfl

theorem back_cut (r : Fin 4096) (s : ℕ) (q : Fin 512) :
    back (Layout.block ⟨3, ![4, 1024, 512]⟩ ⟨3, ![4, 1024, 4096]⟩ 2 8 d X (by decide)) r s q = back X r s (chan d q) := by
  unfold back
  rw [x_cut]

/-- A channel of a part adds what it adds as a channel of the whole. -/
theorem term_cut (r : Fin 4096) (j q : Fin 512) :
    term (Layout.block ⟨3, ![4, 1024, 512]⟩ ⟨3, ![4, 1024, 4096]⟩ 2 8 d X (by decide))
      (Layout.block ⟨2, ![4, 512]⟩ ⟨2, ![4, 4096]⟩ 1 8 d K (by decide))
      (Layout.block ⟨2, ![512, 512]⟩ ⟨2, ![4096, 512]⟩ 0 8 d W (by decide)) r j q = term X K W r j (chan d q) := by
  simp only [term, conv, back_cut, k_cut, w_cut]

end Cut

/-- A sum over the channels, part by part. -/
theorem sum_parts (f : Fin 4096 → EReal) : ∑ q, f q = ∑ d : Fin 8, ∑ q : Fin 512, f (chan d q) :=
  Fin.sum_univ_tiles 8 512 rfl f

/-- What the eight parts add, together, is what the whole adds. -/
theorem sum_cut (X : (⟨3, ![4, 1024, 4096]⟩ : Shape).Idx → EReal) (K : (⟨2, ![4, 4096]⟩ : Shape).Idx → EReal)
    (W : (⟨2, ![4096, 512]⟩ : Shape).Idx → EReal) (x : Fin 8 → (⟨3, ![4, 1024, 512]⟩ : Shape).Idx → EReal)
    (k : Fin 8 → (⟨2, ![4, 512]⟩ : Shape).Idx → EReal) (w : Fin 8 → (⟨2, ![512, 512]⟩ : Shape).Idx → EReal)
    (hx : ∀ d, x d = Layout.block ⟨3, ![4, 1024, 512]⟩ ⟨3, ![4, 1024, 4096]⟩ 2 8 d X (by decide))
    (hk : ∀ d, k d = Layout.block ⟨2, ![4, 512]⟩ ⟨2, ![4, 4096]⟩ 1 8 d K (by decide))
    (hw : ∀ d, w d = Layout.block ⟨2, ![512, 512]⟩ ⟨2, ![4096, 512]⟩ 0 8 d W (by decide)) (r : Fin 4096) (j : Fin 512) :
    ∑ d : Fin 8, ∑ q : Fin 512, term (x d) (k d) (w d) r j q = ∑ q : Fin 4096, term X K W r j q := by
  rw [sum_parts]
  refine Finset.sum_congr rfl fun d _ => Finset.sum_congr rfl fun q _ => ?_
  rw [hx d, hk d, hw d]
  exact term_cut X K W d r j q

end Cert.Model
-- ==== Proof.Value.lean ====
/-
What the kernel leaves in its result, over the extended reals: at each row and column, the sum over the eight devices of the
sum over the device's own channels.
-/
module

public import proofs.«01_k».proof.Proof.Launch
public import proofs.«01_k».proof.Proof.Model
public import Idealize.ShloMosaic.Lib.Pointwise

@[expose] public section

noncomputable section

namespace Cert.KernelIdeal.Halving

open Idealize.ShloMosaic Idealize.ShloMosaic.TcCoe Idealize.SL.Sem Cert.KernelIdeal Cert.KernelIdeal.Gen Cert.Model

/-! ## A device's partial product -/

theorem krow_at (fk : (cc0_stg1_0 : Ref sig .tc).ty.Contents (Elt Ideal)) (n : Fin 4) (a : Fin 1) (q : Fin 512) :
    krow fk n (ix2 a q) = fk (ix2 n q) := by
  fin_cases n <;> fin_cases a
  all_goals
    unfold krow
    refine congrArg fk ?_
    idx_ext

set_option maxRecDepth 16384 in
/-- The kernel adds the tap of the row itself first, the reference last. -/
theorem act_at (fx : (cc0_stg0_0 : Ref sig .tc).ty.Contents (Elt Ideal)) (fk : (cc0_stg1_0 : Ref sig .tc).ty.Contents (Elt Ideal))
    (r : Fin 4096) (q : Fin 512) : act fx fk (ix2 r q) = gate (conv fx fk r q) := by
  rw [conv_own]
  pointwise [act, k0_pay1, krow_at]
  unfold gate back
  rw [zero_sub]
  rfl

set_option maxRecDepth 16384 in
theorem prod_at (fx : (cc0_stg0_0 : Ref sig .tc).ty.Contents (Elt Ideal)) (fk : (cc0_stg1_0 : Ref sig .tc).ty.Contents (Elt Ideal))
    (fw : (cc0_stg2_0 : Ref sig .tc).ty.Contents (Elt Ideal)) (r : Fin 4096) (j : Fin 512) :
    prod fx fk fw (ix2 r j) = ∑ q : Fin 512, term fx fk fw r j q := by
  unfold term
  simp only [← act_at]
  pointwise [prod, k0_pay2]

/-! ## The eight devices -/

theorem dev_bij : ∀ (p : Fin 3) (e : Dev nD), Function.Injective fun s : Fin 8 => dev p s e := by decide +kernel

/-- After three stages a device holds the sum of the partial products of all eight, whichever way the stages went. -/
theorem val_three (P : Dev nD → Tab Ideal) (p : Fin 3) (e : Dev nD) (i j : ℕ) :
    val P p 3 e i j = ∑ d : Fin 8, (P d i j : EReal) := by
  have hb : Function.Bijective fun s : Fin 8 => (dev p s e : Fin 8) := Finite.injective_iff_bijective.mp (dev_bij p e)
  rw [← (Equiv.ofBijective _ hb).sum_comp, Fin.sum_univ_eight]
  simp only [val, dev_dev, Equiv.ofBijective_apply, show one (Fin.ofNat 3 0) = 1 from rfl, show one (Fin.ofNat 3 1) = 2 from rfl, show one (Fin.ofNat 3 2) = 4 from rfl,
    show sx 1 2 = 3 from rfl, show sx 1 4 = 5 from rfl, show sx 2 4 = 6 from rfl, show sx 1 6 = 7 from rfl, dev_zero, Ideal.addf_def]
  ac_rfl

/-! ## The whole result -/

variable (m : (ℓ : Loc nD τ sig) → Buf (Elt Ideal) ℓ) (ρ : Dev nD → PrngReg)

theorem xin_eq (c : Dev nD) : xin m ρ c = m ((c : Thread nD τ).loc main_arg0) := by
  funext i
  refine congrArg (m ((c : Thread nD τ).loc main_arg0)) ?_
  funext a
  exact Fin.ext (Pipeline.Window.rect_emb_val_of_index_zero win0_0 (0 : Fin 1) a rfl i)

theorem kin_eq (c : Dev nD) : kin m ρ c = m ((c : Thread nD τ).loc main_arg1) := by
  funext i
  refine congrArg (m ((c : Thread nD τ).loc main_arg1)) ?_
  funext a
  exact Fin.ext (Pipeline.Window.rect_emb_val_of_index_zero win0_1 (0 : Fin 1) a rfl i)

theorem win_eq (c : Dev nD) : win m ρ c = m ((c : Thread nD τ).loc main_arg2) := by
  funext i
  refine congrArg (m ((c : Thread nD τ).loc main_arg2)) ?_
  funext a
  exact Fin.ext (Pipeline.Window.rect_emb_val_of_index_zero win0_2 (0 : Fin 1) a rfl i)

/-- The result array after the run. -/
theorem finalA_out (c : Dev nD) : finalA m ρ c (3 : Fin 4) = resOut m ρ := by
  have h : (win0_3.blk (0 : Fin 1)).view.read (Elt Ideal) (finalA m ρ c (3 : Fin 4)) = resOut m ρ := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← h]
  funext i
  refine congrArg (finalA m ρ c (3 : Fin 4)) (Eq.symm ?_)
  funext a
  exact Fin.ext (Pipeline.Window.rect_emb_val_of_index_zero win0_3 (0 : Fin 1) a rfl i)

/-- The result at a row and a column, by the operands of the eight devices. -/
theorem resOut_at (r : Fin 4096) (j : Fin 512) :
    resOut m ρ (ix2 r j) = ∑ d : Fin 8, ∑ q : Fin 512,
      term (m ((Dev.tc (d : Dev nD) : Thread nD τ).loc main_arg0)) (m ((Dev.tc (d : Dev nD) : Thread nD τ).loc main_arg1)) (m ((Dev.tc (d : Dev nD) : Thread nD τ).loc main_arg2)) r j q := by
  refine (val_three (Pm m ρ) (pOf r.val) (owner r.val) r.val j.val).trans (Finset.sum_congr rfl fun d _ => ?_)
  rw [← xin_eq m ρ d, ← kin_eq m ρ d, ← win_eq m ρ d, ← prod_at]
  exact congrFun (blk_tabOf (prod (xin m ρ d) (kin m ρ d) (win m ρ d))) (ix2 r j)

end Cert.KernelIdeal.Halving
-- ==== Proof.Reference.lean ====
/-
What the reference computes, element by element.
-/
module

public import proofs.«01_k».proof.Proof.Gen.ReferenceIdeal.Run
public import proofs.«01_k».proof.Proof.Model
public import Idealize.ShloMosaic.Lib.Pointwise
public import Idealize.ShloMosaic.Lib.Tactic.CleanTypes

@[expose] public section

noncomputable section

namespace Cert.ReferenceIdeal.Reading

open Idealize.ShloMosaic Idealize.SL.Sem Cert.ReferenceIdeal Cert.ReferenceIdeal.Gen Cert.Model

/-- The reference reads its padded input `s` rows after the row, and the padding is three rows long. -/
theorem pad_back (X : (⟨3, ![4, 1024, 4096]⟩ : Shape).Idx → EReal) (r : Fin 4096) (q : Fin 4096) (s : ℕ) (hs : s < 3) :
    (if h : s + r.val % 1024 < 3 then 0 else X (ix3 ⟨r.val / 1024, by omega⟩ ⟨s + r.val % 1024 - 3, by omega⟩ q)) = back X r (3 - s) q := by
  unfold back
  by_cases h : s + r.val % 1024 < 3
  · rw [dif_pos h, if_pos (by omega)]
  · rw [dif_neg h, if_neg (by omega)]
    congr 3
    omega

set_option maxRecDepth 16384 in
theorem result_at (m : (ℓ : Loc nD τ sig) → Buf (Elt Ideal) ℓ) (c : Dev nD) (r : Fin 4096) (j : Fin 512) :
    Value.res_out0 m c (ix2 r j) = ∑ q : Fin 4096, term (m ((c.tc : Thread nD τ).loc main_arg0)) (m ((c.tc : Thread nD τ).loc main_arg1))
      (m ((c.tc : Thread nD τ).loc main_arg2)) r j q := by
  unfold Value.res_out0 Value.res_main_v37
  clean_types
  pointwise
  refine Finset.sum_congr rfl fun q _ => ?_
  rw [pad_back _ r q 1 (by decide), pad_back _ r q 2 (by decide)]
  unfold term gate conv
  rw [back_none]
  rfl

end Cert.ReferenceIdeal.Reading
-- ==== Proof.Algebraic.lean ====
/-
The kernel's value: over the extended reals every device ends with the reference's result.
-/
module

public import proofs.«01_k».proof.Defs
public import proofs.«01_k».proof.Proof.Value
public import proofs.«01_k».proof.Proof.Reference

@[expose] public section

noncomputable section

namespace Cert.Proof

open Idealize.ShloMosaic Idealize.SL.Sem

set_option maxRecDepth 40000 in
/-- Every device's result is the reference's: the eight devices' channels are the reference's channels in eight parts. -/
theorem algebraic : Cert.algebraic_KernelIdeal_ReferenceIdeal := by
  intro m ρ m' ρ' _ hcut
  refine ⟨Cert.ReferenceIdeal.Value.res_out0 m' 0, ?_, ?_⟩
  · have hv : Cert.KernelIdeal.Halving.resOut m ρ = Cert.ReferenceIdeal.Value.res_out0 m' 0 := by
      funext i
      obtain ⟨r, j, rfl⟩ : ∃ (r : Fin 4096) (j : Fin 512), i = ix2 r j := ⟨i 0, i 1, eq_ix2 i⟩
      exact (Cert.KernelIdeal.Halving.resOut_at m ρ r j).trans
        ((Cert.Model.sum_cut _ _ _ _ _ _ (fun d => (hcut d).1) (fun d => (hcut d).2.1) (fun d => (hcut d).2.2) r j).trans
          (Cert.ReferenceIdeal.Reading.result_at m' 0 r j).symm)
    exact (θ_run Cert.KernelIdeal.defs _ _).mono (fun _ h c =>
      ⟨((h.1 c (3 : Fin 4)).trans (Cert.KernelIdeal.Halving.finalA_out m ρ c)).trans hv,
       (h.1 c (0 : Fin 4)).trans (Cert.KernelIdeal.Halving.finalA_x m ρ c),
       (h.1 c (1 : Fin 4)).trans (Cert.KernelIdeal.Halving.finalA_k m ρ c),
       (h.1 c (2 : Fin 4)).trans (Cert.KernelIdeal.Halving.finalA_w m ρ c)⟩)
      (Cert.KernelIdeal.Halving.run_main (F := Ideal) m ρ)
  · exact (θ_run Cert.ReferenceIdeal.defs _ _).mono (fun _ h => h 0) (Cert.ReferenceIdeal.Value.run (F := Ideal) m' ρ')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, that nothing was rewritten between the two kernels, and the kernel's value. -/
theorem claim : Cert.Claim := ⟨Cert.Kernel.Gen.facts, Cert.KernelIdeal.Gen.facts, Cert.ReferenceIdeal.Gen.facts,
  frame_kernel, frame_ideal, frame_reference, trivial, algebraic⟩

end Cert.Proof

end
